-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .bf16) (main_arg1 : FVec F S1024x1024 .bf16) (main_arg2 : FVec F S1x2048x64x128 .bf16) (main_arg3 : FVec F S1x2048x64x128 .bf16) (main_arg4 : FVec F S1024x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .bf16 := Host.absf main_arg2
  let main_cst_2 : FVec F S_ .bf16 := constant S_ .bf16 0x7F80#16
  let main_v10 : FVec F S1x2048x64x128 .bf16 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_scores_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .bf16) (main_arg1 : FVec F S1024x8192 .bf16) (main_arg2 : FVec F S1x2048x64x128 .bf16) (main_arg3 : FVec F S1x2048x64x128 .bf16) (main_arg4 : FVec F S8192x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .bf16 := Host.absf main_arg2
  let main_cst_2 : FVec F S_ .bf16 := constant S_ .bf16 0x7F80#16
  let main_v10 : FVec F S1x2048x64x128 .bf16 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩
abbrev S2048x1024 : Shape := ⟨2, ![2048, 1024]⟩
abbrev S2048x64x128 : Shape := ⟨3, ![2048, 64, 128]⟩
abbrev S2048x8x128 : Shape := ⟨3, ![2048, 8, 128]⟩
abbrev S512x1024 : Shape := ⟨2, ![512, 1024]⟩
abbrev S2x512x1024 : Shape := ⟨3, ![2, 512, 1024]⟩
abbrev S2x64x1024 : Shape := ⟨3, ![2, 64, 1024]⟩
abbrev S4x512x1024 : Shape := ⟨3, ![4, 512, 1024]⟩
abbrev S2x8 : Shape := ⟨2, ![2, 8]⟩
abbrev S4x8 : Shape := ⟨2, ![4, 8]⟩
abbrev S1024x128 : Shape := ⟨2, ![1024, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x1024 : Shape := ⟨3, ![1, 512, 1024]⟩
abbrev S1x1 : Shape := ⟨2, ![1, 1]⟩
abbrev S64x1024 : Shape := ⟨2, ![64, 1024]⟩
abbrev S1x64x1024 : Shape := ⟨3, ![1, 64, 1024]⟩
abbrev S1536x128 : Shape := ⟨2, ![1536, 128]⟩
abbrev S512x1536 : Shape := ⟨2, ![512, 1536]⟩
abbrev S2048x128 : Shape := ⟨2, ![2048, 128]⟩
abbrev S512x2048 : Shape := ⟨2, ![512, 2048]⟩

abbrev nBuf : Space → Nat
  | .hbm => 38
  | .vmem => 11
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x64x128, .bf16⟩
  | .hbm, ⟨3, _⟩ => ⟨S1x2048x64x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x64x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S2048x1024, .bf16⟩
  | .hbm, ⟨24, _⟩ => ⟨S2048x64x128, .bf16⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S2048x8x128, .bf16⟩
  | .hbm, ⟨35, _⟩ => ⟨S2048x1024, .bf16⟩
  | .hbm, ⟨36, _⟩ => ⟨S2048x1024, .f32⟩
  | .hbm, ⟨37, _⟩ => ⟨S1x2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S2048x1024, .f32⟩
  | .local _ .vmem, ⟨6, _⟩ => ⟨S512x1024, .bf16⟩
  | .local _ .vmem, ⟨7, _⟩ => ⟨S2x512x1024, .bf16⟩
  | .local _ .vmem, ⟨8, _⟩ => ⟨S2x64x1024, .bf16⟩
  | .local _ .vmem, ⟨9, _⟩ => ⟨S4x512x1024, .bf16⟩
  | .local _ .vmem, ⟨10, _⟩ => ⟨S4x512x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 102 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | _ => false

abbrev sig : RefSig :=
  (ofTc nBuf bufTy 1 102 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_6 : Ref sig .tc := ⟨.hbm, 25, rfl⟩
abbrev main_v14 : Ref sig .tc := ⟨.hbm, 26, rfl⟩
abbrev main_c_7 : Ref sig .tc := ⟨.hbm, 27, rfl⟩
abbrev main_v15 : Ref sig .tc := ⟨.hbm, 28, rfl⟩
abbrev main_c_8 : Ref sig .tc := ⟨.hbm, 29, rfl⟩
abbrev main_v16 : Ref sig .tc := ⟨.hbm, 30, rfl⟩
abbrev main_v17 : Ref sig .tc := ⟨.hbm, 31, rfl⟩
abbrev main_c_9 : Ref sig .tc := ⟨.hbm, 32, rfl⟩
abbrev main_c_10 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_272 : BitVec 32 := 64#32
  let v693 : BitVec 32 := Scalar.muli v2 c64_i32_272
  let c0_i32_310 : BitVec 32 := 0#32
  ![v693.toNat, 0]
def k0_off3 (d0 : Dev nD) (c0_i32_269 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v690 : BitVec 32 := Scalar.addi v2 c0_i32_269
  let c8_i32_270 : BitVec 32 := 8#32
  let v691 : BitVec 32 := Scalar.remsi v690 c8_i32_270
  let c64_i32_271 : BitVec 32 := 64#32
  let v692 : BitVec 32 := Scalar.muli v691 c64_i32_271
  let c0_i32_313 : BitVec 32 := 0#32
  ![v692.toNat, 0]
def k0_off4 (d0 : Dev nD) (c0_i32_269 : BitVec 32) : Fin 3 → Nat :=
  let c0_i32_301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v690 : BitVec 32 := Scalar.addi v2 c0_i32_269
  let c8_i32_270 : BitVec 32 := 8#32
  let v691 : BitVec 32 := Scalar.remsi v690 c8_i32_270
  let c64_i32_271 : BitVec 32 := 64#32
  let v692 : BitVec 32 := Scalar.muli v691 c64_i32_271
  let c0_i32_312 : BitVec 32 := 0#32
  ![0, v692.toNat, 0]
def k0_off5 (d0 : Dev nD) : Fin 3 → Nat :=
  let c0_i32_302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_272 : BitVec 32 := 64#32
  let v693 : BitVec 32 := Scalar.muli v2 c64_i32_272
  let c0_i32_309 : BitVec 32 := 0#32
  ![0, v693.toNat, 0]
def k0_dev8 (d0 : Dev nD) : Nat :=
  let c0_i32_307 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_269 : BitVec 32 := 0#32
  let v690 : BitVec 32 := Scalar.addi v2 c0_i32_269
  let c8_i32_270 : BitVec 32 := 8#32
  let v691 : BitVec 32 := Scalar.remsi v690 c8_i32_270
  let c1_i32_306 : BitVec 32 := 1#32
  let v722 : BitVec 32 := Scalar.muli v691 c1_i32_306
  let v723 : BitVec 32 := Scalar.addi c0_i32_307 v722
  v723.toNat
def k0_dev9 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_273 : BitVec 32 := 1#32
  let v694 : BitVec 32 := Scalar.addi v2 c1_i32_273
  let c8_i32_274 : BitVec 32 := 8#32
  let v695 : BitVec 32 := Scalar.remsi v694 c8_i32_274
  let c1_i32_319 : BitVec 32 := 1#32
  let v734 : BitVec 32 := Scalar.muli v695 c1_i32_319
  let v735 : BitVec 32 := Scalar.addi c0_i32_320 v734
  v735.toNat
def k0_dev10 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_277 : BitVec 32 := 2#32
  let v698 : BitVec 32 := Scalar.addi v2 c2_i32_277
  let c8_i32_278 : BitVec 32 := 8#32
  let v699 : BitVec 32 := Scalar.remsi v698 c8_i32_278
  let c1_i32_332 : BitVec 32 := 1#32
  let v746 : BitVec 32 := Scalar.muli v699 c1_i32_332
  let v747 : BitVec 32 := Scalar.addi c0_i32_333 v746
  v747.toNat
def k0_dev11 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_281 : BitVec 32 := 3#32
  let v702 : BitVec 32 := Scalar.addi v2 c3_i32_281
  let c8_i32_282 : BitVec 32 := 8#32
  let v703 : BitVec 32 := Scalar.remsi v702 c8_i32_282
  let c1_i32_345 : BitVec 32 := 1#32
  let v758 : BitVec 32 := Scalar.muli v703 c1_i32_345
  let v759 : BitVec 32 := Scalar.addi c0_i32_346 v758
  v759.toNat
def k0_dev12 (d0 : Dev nD) : Nat :=
  let c0_i32_359 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_285 : BitVec 32 := 4#32
  let v706 : BitVec 32 := Scalar.addi v2 c4_i32_285
  let c8_i32_286 : BitVec 32 := 8#32
  let v707 : BitVec 32 := Scalar.remsi v706 c8_i32_286
  let c1_i32_358 : BitVec 32 := 1#32
  let v770 : BitVec 32 := Scalar.muli v707 c1_i32_358
  let v771 : BitVec 32 := Scalar.addi c0_i32_359 v770
  v771.toNat
def k0_dev13 (d0 : Dev nD) : Nat :=
  let c0_i32_372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_289 : BitVec 32 := 5#32
  let v710 : BitVec 32 := Scalar.addi v2 c5_i32_289
  let c8_i32_290 : BitVec 32 := 8#32
  let v711 : BitVec 32 := Scalar.remsi v710 c8_i32_290
  let c1_i32_371 : BitVec 32 := 1#32
  let v782 : BitVec 32 := Scalar.muli v711 c1_i32_371
  let v783 : BitVec 32 := Scalar.addi c0_i32_372 v782
  v783.toNat
def k0_dev14 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_293 : BitVec 32 := 6#32
  let v714 : BitVec 32 := Scalar.addi v2 c6_i32_293
  let c8_i32_294 : BitVec 32 := 8#32
  let v715 : BitVec 32 := Scalar.remsi v714 c8_i32_294
  let c1_i32_384 : BitVec 32 := 1#32
  let v794 : BitVec 32 := Scalar.muli v715 c1_i32_384
  let v795 : BitVec 32 := Scalar.addi c0_i32_385 v794
  v795.toNat
def k0_dev15 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_297 : BitVec 32 := 7#32
  let v718 : BitVec 32 := Scalar.addi v2 c7_i32_297
  let c8_i32_298 : BitVec 32 := 8#32
  let v719 : BitVec 32 := Scalar.remsi v718 c8_i32_298
  let c1_i32_397 : BitVec 32 := 1#32
  let v806 : BitVec 32 := Scalar.muli v719 c1_i32_397
  let v807 : BitVec 32 := Scalar.addi c0_i32_398 v806
  v807.toNat
def k0_off6 (d0 : Dev nD) : Fin 2 → Nat :=
  let c1_i32_687 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off7 (d0 : Dev nD) (c0_i32_653 : BitVec 32) : Fin 3 → Nat :=
  let c1_i32_685 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1476 : BitVec 32 := Scalar.addi v2 c0_i32_653
  let c8_i32_654 : BitVec 32 := 8#32
  let v1477 : BitVec 32 := Scalar.remsi v1476 c8_i32_654
  let c64_i32_655 : BitVec 32 := 64#32
  let v1478 : BitVec 32 := Scalar.muli v1477 c64_i32_655
  let c0_i32_696 : BitVec 32 := 0#32
  ![1, v1478.toNat, 0]
def k0_off8 (d0 : Dev nD) : Fin 3 → Nat :=
  let c1_i32_686 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_656 : BitVec 32 := 64#32
  let v1479 : BitVec 32 := Scalar.muli v2 c64_i32_656
  let c0_i32_693 : BitVec 32 := 0#32
  ![1, v1479.toNat, 0]
def k0_dev16 (d0 : Dev nD) : Nat :=
  let c0_i32_691 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_653 : BitVec 32 := 0#32
  let v1476 : BitVec 32 := Scalar.addi v2 c0_i32_653
  let c8_i32_654 : BitVec 32 := 8#32
  let v1477 : BitVec 32 := Scalar.remsi v1476 c8_i32_654
  let c1_i32_690 : BitVec 32 := 1#32
  let v1508 : BitVec 32 := Scalar.muli v1477 c1_i32_690
  let v1509 : BitVec 32 := Scalar.addi c0_i32_691 v1508
  v1509.toNat
def k0_dev17 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_657 : BitVec 32 := 1#32
  let v1480 : BitVec 32 := Scalar.addi v2 c1_i32_657
  let c8_i32_658 : BitVec 32 := 8#32
  let v1481 : BitVec 32 := Scalar.remsi v1480 c8_i32_658
  let c1_i32_703 : BitVec 32 := 1#32
  let v1520 : BitVec 32 := Scalar.muli v1481 c1_i32_703
  let v1521 : BitVec 32 := Scalar.addi c0_i32_704 v1520
  v1521.toNat
def k0_dev18 (d0 : Dev nD) : Nat :=
  let c0_i32_717 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_661 : BitVec 32 := 2#32
  let v1484 : BitVec 32 := Scalar.addi v2 c2_i32_661
  let c8_i32_662 : BitVec 32 := 8#32
  let v1485 : BitVec 32 := Scalar.remsi v1484 c8_i32_662
  let c1_i32_716 : BitVec 32 := 1#32
  let v1532 : BitVec 32 := Scalar.muli v1485 c1_i32_716
  let v1533 : BitVec 32 := Scalar.addi c0_i32_717 v1532
  v1533.toNat
def k0_dev19 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_665 : BitVec 32 := 3#32
  let v1488 : BitVec 32 := Scalar.addi v2 c3_i32_665
  let c8_i32_666 : BitVec 32 := 8#32
  let v1489 : BitVec 32 := Scalar.remsi v1488 c8_i32_666
  let c1_i32_729 : BitVec 32 := 1#32
  let v1544 : BitVec 32 := Scalar.muli v1489 c1_i32_729
  let v1545 : BitVec 32 := Scalar.addi c0_i32_730 v1544
  v1545.toNat
def k0_dev20 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_669 : BitVec 32 := 4#32
  let v1492 : BitVec 32 := Scalar.addi v2 c4_i32_669
  let c8_i32_670 : BitVec 32 := 8#32
  let v1493 : BitVec 32 := Scalar.remsi v1492 c8_i32_670
  let c1_i32_742 : BitVec 32 := 1#32
  let v1556 : BitVec 32 := Scalar.muli v1493 c1_i32_742
  let v1557 : BitVec 32 := Scalar.addi c0_i32_743 v1556
  v1557.toNat
def k0_dev21 (d0 : Dev nD) : Nat :=
  let c0_i32_756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_673 : BitVec 32 := 5#32
  let v1496 : BitVec 32 := Scalar.addi v2 c5_i32_673
  let c8_i32_674 : BitVec 32 := 8#32
  let v1497 : BitVec 32 := Scalar.remsi v1496 c8_i32_674
  let c1_i32_755 : BitVec 32 := 1#32
  let v1568 : BitVec 32 := Scalar.muli v1497 c1_i32_755
  let v1569 : BitVec 32 := Scalar.addi c0_i32_756 v1568
  v1569.toNat
def k0_dev22 (d0 : Dev nD) : Nat :=
  let c0_i32_769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_677 : BitVec 32 := 6#32
  let v1500 : BitVec 32 := Scalar.addi v2 c6_i32_677
  let c8_i32_678 : BitVec 32 := 8#32
  let v1501 : BitVec 32 := Scalar.remsi v1500 c8_i32_678
  let c1_i32_768 : BitVec 32 := 1#32
  let v1580 : BitVec 32 := Scalar.muli v1501 c1_i32_768
  let v1581 : BitVec 32 := Scalar.addi c0_i32_769 v1580
  v1581.toNat
def k0_dev23 (d0 : Dev nD) : Nat :=
  let c0_i32_782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_681 : BitVec 32 := 7#32
  let v1504 : BitVec 32 := Scalar.addi v2 c7_i32_681
  let c8_i32_682 : BitVec 32 := 8#32
  let v1505 : BitVec 32 := Scalar.remsi v1504 c8_i32_682
  let c1_i32_781 : BitVec 32 := 1#32
  let v1592 : BitVec 32 := Scalar.muli v1505 c1_i32_781
  let v1593 : BitVec 32 := Scalar.addi c0_i32_782 v1592
  v1593.toNat
def k0_dev24 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_935 : BitVec 32 := 0#32
  let v1721 : BitVec 32 := Scalar.addi v2 c0_i32_935
  let c8_i32_936 : BitVec 32 := 8#32
  let v1722 : BitVec 32 := Scalar.remsi v1721 c8_i32_936
  let c1_i32_964 : BitVec 32 := 1#32
  let v1745 : BitVec 32 := Scalar.muli v1722 c1_i32_964
  let v1746 : BitVec 32 := Scalar.addi c0_i32_965 v1745
  v1746.toNat
def k0_dev25 (d0 : Dev nD) : Nat :=
  let c0_i32_977 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_938 : BitVec 32 := 1#32
  let v1724 : BitVec 32 := Scalar.addi v2 c1_i32_938
  let c8_i32_939 : BitVec 32 := 8#32
  let v1725 : BitVec 32 := Scalar.remsi v1724 c8_i32_939
  let c1_i32_976 : BitVec 32 := 1#32
  let v1756 : BitVec 32 := Scalar.muli v1725 c1_i32_976
  let v1757 : BitVec 32 := Scalar.addi c0_i32_977 v1756
  v1757.toNat
def k0_dev26 (d0 : Dev nD) : Nat :=
  let c0_i32_989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_941 : BitVec 32 := 2#32
  let v1727 : BitVec 32 := Scalar.addi v2 c2_i32_941
  let c8_i32_942 : BitVec 32 := 8#32
  let v1728 : BitVec 32 := Scalar.remsi v1727 c8_i32_942
  let c1_i32_988 : BitVec 32 := 1#32
  let v1767 : BitVec 32 := Scalar.muli v1728 c1_i32_988
  let v1768 : BitVec 32 := Scalar.addi c0_i32_989 v1767
  v1768.toNat
def k0_dev27 (d0 : Dev nD) : Nat :=
  let c0_i32_1001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_944 : BitVec 32 := 3#32
  let v1730 : BitVec 32 := Scalar.addi v2 c3_i32_944
  let c8_i32_945 : BitVec 32 := 8#32
  let v1731 : BitVec 32 := Scalar.remsi v1730 c8_i32_945
  let c1_i32_1000 : BitVec 32 := 1#32
  let v1778 : BitVec 32 := Scalar.muli v1731 c1_i32_1000
  let v1779 : BitVec 32 := Scalar.addi c0_i32_1001 v1778
  v1779.toNat
def k0_dev28 (d0 : Dev nD) : Nat :=
  let c0_i32_1013 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_947 : BitVec 32 := 4#32
  let v1733 : BitVec 32 := Scalar.addi v2 c4_i32_947
  let c8_i32_948 : BitVec 32 := 8#32
  let v1734 : BitVec 32 := Scalar.remsi v1733 c8_i32_948
  let c1_i32_1012 : BitVec 32 := 1#32
  let v1789 : BitVec 32 := Scalar.muli v1734 c1_i32_1012
  let v1790 : BitVec 32 := Scalar.addi c0_i32_1013 v1789
  v1790.toNat
def k0_dev29 (d0 : Dev nD) : Nat :=
  let c0_i32_1025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_950 : BitVec 32 := 5#32
  let v1736 : BitVec 32 := Scalar.addi v2 c5_i32_950
  let c8_i32_951 : BitVec 32 := 8#32
  let v1737 : BitVec 32 := Scalar.remsi v1736 c8_i32_951
  let c1_i32_1024 : BitVec 32 := 1#32
  let v1800 : BitVec 32 := Scalar.muli v1737 c1_i32_1024
  let v1801 : BitVec 32 := Scalar.addi c0_i32_1025 v1800
  v1801.toNat
def k0_dev30 (d0 : Dev nD) : Nat :=
  let c0_i32_1037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_953 : BitVec 32 := 6#32
  let v1739 : BitVec 32 := Scalar.addi v2 c6_i32_953
  let c8_i32_954 : BitVec 32 := 8#32
  let v1740 : BitVec 32 := Scalar.remsi v1739 c8_i32_954
  let c1_i32_1036 : BitVec 32 := 1#32
  let v1811 : BitVec 32 := Scalar.muli v1740 c1_i32_1036
  let v1812 : BitVec 32 := Scalar.addi c0_i32_1037 v1811
  v1812.toNat
def k0_dev31 (d0 : Dev nD) : Nat :=
  let c0_i32_1049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_956 : BitVec 32 := 7#32
  let v1742 : BitVec 32 := Scalar.addi v2 c7_i32_956
  let c8_i32_957 : BitVec 32 := 8#32
  let v1743 : BitVec 32 := Scalar.remsi v1742 c8_i32_957
  let c1_i32_1048 : BitVec 32 := 1#32
  let v1822 : BitVec 32 := Scalar.muli v1743 c1_i32_1048
  let v1823 : BitVec 32 := Scalar.addi c0_i32_1049 v1822
  v1823.toNat
def k0_off9 (d0 : Dev nD) : Fin 2 → Nat :=
  let c2_i32_1433 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![2, v2.toNat]
def k0_off10 (d0 : Dev nD) : Fin 3 → Nat :=
  let c2_i32_1432 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_1402 : BitVec 32 := 64#32
  let v2558 : BitVec 32 := Scalar.muli v2 c64_i32_1402
  let c0_i32_1439 : BitVec 32 := 0#32
  ![2, v2558.toNat, 0]
def k0_dev32 (d0 : Dev nD) : Nat :=
  let c0_i32_1437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1399 : BitVec 32 := 0#32
  let v2555 : BitVec 32 := Scalar.addi v2 c0_i32_1399
  let c8_i32_1400 : BitVec 32 := 8#32
  let v2556 : BitVec 32 := Scalar.remsi v2555 c8_i32_1400
  let c1_i32_1436 : BitVec 32 := 1#32
  let v2587 : BitVec 32 := Scalar.muli v2556 c1_i32_1436
  let v2588 : BitVec 32 := Scalar.addi c0_i32_1437 v2587
  v2588.toNat
def k0_dev33 (d0 : Dev nD) : Nat :=
  let c0_i32_1450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1403 : BitVec 32 := 1#32
  let v2559 : BitVec 32 := Scalar.addi v2 c1_i32_1403
  let c8_i32_1404 : BitVec 32 := 8#32
  let v2560 : BitVec 32 := Scalar.remsi v2559 c8_i32_1404
  let c1_i32_1449 : BitVec 32 := 1#32
  let v2599 : BitVec 32 := Scalar.muli v2560 c1_i32_1449
  let v2600 : BitVec 32 := Scalar.addi c0_i32_1450 v2599
  v2600.toNat
def k0_dev34 (d0 : Dev nD) : Nat :=
  let c0_i32_1463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1407 : BitVec 32 := 2#32
  let v2563 : BitVec 32 := Scalar.addi v2 c2_i32_1407
  let c8_i32_1408 : BitVec 32 := 8#32
  let v2564 : BitVec 32 := Scalar.remsi v2563 c8_i32_1408
  let c1_i32_1462 : BitVec 32 := 1#32
  let v2611 : BitVec 32 := Scalar.muli v2564 c1_i32_1462
  let v2612 : BitVec 32 := Scalar.addi c0_i32_1463 v2611
  v2612.toNat
def k0_dev35 (d0 : Dev nD) : Nat :=
  let c0_i32_1476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1411 : BitVec 32 := 3#32
  let v2567 : BitVec 32 := Scalar.addi v2 c3_i32_1411
  let c8_i32_1412 : BitVec 32 := 8#32
  let v2568 : BitVec 32 := Scalar.remsi v2567 c8_i32_1412
  let c1_i32_1475 : BitVec 32 := 1#32
  let v2623 : BitVec 32 := Scalar.muli v2568 c1_i32_1475
  let v2624 : BitVec 32 := Scalar.addi c0_i32_1476 v2623
  v2624.toNat
def k0_dev36 (d0 : Dev nD) : Nat :=
  let c0_i32_1489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1415 : BitVec 32 := 4#32
  let v2571 : BitVec 32 := Scalar.addi v2 c4_i32_1415
  let c8_i32_1416 : BitVec 32 := 8#32
  let v2572 : BitVec 32 := Scalar.remsi v2571 c8_i32_1416
  let c1_i32_1488 : BitVec 32 := 1#32
  let v2635 : BitVec 32 := Scalar.muli v2572 c1_i32_1488
  let v2636 : BitVec 32 := Scalar.addi c0_i32_1489 v2635
  v2636.toNat
def k0_dev37 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1419 : BitVec 32 := 5#32
  let v2575 : BitVec 32 := Scalar.addi v2 c5_i32_1419
  let c8_i32_1420 : BitVec 32 := 8#32
  let v2576 : BitVec 32 := Scalar.remsi v2575 c8_i32_1420
  let c1_i32_1501 : BitVec 32 := 1#32
  let v2647 : BitVec 32 := Scalar.muli v2576 c1_i32_1501
  let v2648 : BitVec 32 := Scalar.addi c0_i32_1502 v2647
  v2648.toNat
def k0_dev38 (d0 : Dev nD) : Nat :=
  let c0_i32_1515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1423 : BitVec 32 := 6#32
  let v2579 : BitVec 32 := Scalar.addi v2 c6_i32_1423
  let c8_i32_1424 : BitVec 32 := 8#32
  let v2580 : BitVec 32 := Scalar.remsi v2579 c8_i32_1424
  let c1_i32_1514 : BitVec 32 := 1#32
  let v2659 : BitVec 32 := Scalar.muli v2580 c1_i32_1514
  let v2660 : BitVec 32 := Scalar.addi c0_i32_1515 v2659
  v2660.toNat
def k0_dev39 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1427 : BitVec 32 := 7#32
  let v2583 : BitVec 32 := Scalar.addi v2 c7_i32_1427
  let c8_i32_1428 : BitVec 32 := 8#32
  let v2584 : BitVec 32 := Scalar.remsi v2583 c8_i32_1428
  let c1_i32_1527 : BitVec 32 := 1#32
  let v2671 : BitVec 32 := Scalar.muli v2584 c1_i32_1527
  let v2672 : BitVec 32 := Scalar.addi c0_i32_1528 v2671
  v2672.toNat
def k0_dev40 (d0 : Dev nD) : Nat :=
  let c0_i32_1721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_1691 : BitVec 32 := 0#32
  let v2800 : BitVec 32 := Scalar.addi v2 c0_i32_1691
  let c8_i32_1692 : BitVec 32 := 8#32
  let v2801 : BitVec 32 := Scalar.remsi v2800 c8_i32_1692
  let c1_i32_1720 : BitVec 32 := 1#32
  let v2824 : BitVec 32 := Scalar.muli v2801 c1_i32_1720
  let v2825 : BitVec 32 := Scalar.addi c0_i32_1721 v2824
  v2825.toNat
def k0_dev41 (d0 : Dev nD) : Nat :=
  let c0_i32_1733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1694 : BitVec 32 := 1#32
  let v2803 : BitVec 32 := Scalar.addi v2 c1_i32_1694
  let c8_i32_1695 : BitVec 32 := 8#32
  let v2804 : BitVec 32 := Scalar.remsi v2803 c8_i32_1695
  let c1_i32_1732 : BitVec 32 := 1#32
  let v2835 : BitVec 32 := Scalar.muli v2804 c1_i32_1732
  let v2836 : BitVec 32 := Scalar.addi c0_i32_1733 v2835
  v2836.toNat
def k0_dev42 (d0 : Dev nD) : Nat :=
  let c0_i32_1745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_1697 : BitVec 32 := 2#32
  let v2806 : BitVec 32 := Scalar.addi v2 c2_i32_1697
  let c8_i32_1698 : BitVec 32 := 8#32
  let v2807 : BitVec 32 := Scalar.remsi v2806 c8_i32_1698
  let c1_i32_1744 : BitVec 32 := 1#32
  let v2846 : BitVec 32 := Scalar.muli v2807 c1_i32_1744
  let v2847 : BitVec 32 := Scalar.addi c0_i32_1745 v2846
  v2847.toNat
def k0_dev43 (d0 : Dev nD) : Nat :=
  let c0_i32_1757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1700 : BitVec 32 := 3#32
  let v2809 : BitVec 32 := Scalar.addi v2 c3_i32_1700
  let c8_i32_1701 : BitVec 32 := 8#32
  let v2810 : BitVec 32 := Scalar.remsi v2809 c8_i32_1701
  let c1_i32_1756 : BitVec 32 := 1#32
  let v2857 : BitVec 32 := Scalar.muli v2810 c1_i32_1756
  let v2858 : BitVec 32 := Scalar.addi c0_i32_1757 v2857
  v2858.toNat
def k0_dev44 (d0 : Dev nD) : Nat :=
  let c0_i32_1769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1703 : BitVec 32 := 4#32
  let v2812 : BitVec 32 := Scalar.addi v2 c4_i32_1703
  let c8_i32_1704 : BitVec 32 := 8#32
  let v2813 : BitVec 32 := Scalar.remsi v2812 c8_i32_1704
  let c1_i32_1768 : BitVec 32 := 1#32
  let v2868 : BitVec 32 := Scalar.muli v2813 c1_i32_1768
  let v2869 : BitVec 32 := Scalar.addi c0_i32_1769 v2868
  v2869.toNat
def k0_dev45 (d0 : Dev nD) : Nat :=
  let c0_i32_1781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_1706 : BitVec 32 := 5#32
  let v2815 : BitVec 32 := Scalar.addi v2 c5_i32_1706
  let c8_i32_1707 : BitVec 32 := 8#32
  let v2816 : BitVec 32 := Scalar.remsi v2815 c8_i32_1707
  let c1_i32_1780 : BitVec 32 := 1#32
  let v2879 : BitVec 32 := Scalar.muli v2816 c1_i32_1780
  let v2880 : BitVec 32 := Scalar.addi c0_i32_1781 v2879
  v2880.toNat
def k0_dev46 (d0 : Dev nD) : Nat :=
  let c0_i32_1793 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_1709 : BitVec 32 := 6#32
  let v2818 : BitVec 32 := Scalar.addi v2 c6_i32_1709
  let c8_i32_1710 : BitVec 32 := 8#32
  let v2819 : BitVec 32 := Scalar.remsi v2818 c8_i32_1710
  let c1_i32_1792 : BitVec 32 := 1#32
  let v2890 : BitVec 32 := Scalar.muli v2819 c1_i32_1792
  let v2891 : BitVec 32 := Scalar.addi c0_i32_1793 v2890
  v2891.toNat
def k0_dev47 (d0 : Dev nD) : Nat :=
  let c0_i32_1805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_1712 : BitVec 32 := 7#32
  let v2821 : BitVec 32 := Scalar.addi v2 c7_i32_1712
  let c8_i32_1713 : BitVec 32 := 8#32
  let v2822 : BitVec 32 := Scalar.remsi v2821 c8_i32_1713
  let c1_i32_1804 : BitVec 32 := 1#32
  let v2901 : BitVec 32 := Scalar.muli v2822 c1_i32_1804
  let v2902 : BitVec 32 := Scalar.addi c0_i32_1805 v2901
  v2902.toNat
def k0_off11 (d0 : Dev nD) : Fin 2 → Nat :=
  let c3_i32_2410 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![3, v2.toNat]
def k0_off12 (d0 : Dev nD) : Fin 3 → Nat :=
  let c3_i32_2409 : BitVec 32 := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32_2379 : BitVec 32 := 64#32
  let v3777 : BitVec 32 := Scalar.muli v2 c64_i32_2379
  let c0_i32_2416 : BitVec 32 := 0#32
  ![3, v3777.toNat, 0]
def k0_dev48 (d0 : Dev nD) : Nat :=
  let c0_i32_2414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2376 : BitVec 32 := 0#32
  let v3774 : BitVec 32 := Scalar.addi v2 c0_i32_2376
  let c8_i32_2377 : BitVec 32 := 8#32
  let v3775 : BitVec 32 := Scalar.remsi v3774 c8_i32_2377
  let c1_i32_2413 : BitVec 32 := 1#32
  let v3806 : BitVec 32 := Scalar.muli v3775 c1_i32_2413
  let v3807 : BitVec 32 := Scalar.addi c0_i32_2414 v3806
  v3807.toNat
def k0_dev49 (d0 : Dev nD) : Nat :=
  let c0_i32_2427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2380 : BitVec 32 := 1#32
  let v3778 : BitVec 32 := Scalar.addi v2 c1_i32_2380
  let c8_i32_2381 : BitVec 32 := 8#32
  let v3779 : BitVec 32 := Scalar.remsi v3778 c8_i32_2381
  let c1_i32_2426 : BitVec 32 := 1#32
  let v3818 : BitVec 32 := Scalar.muli v3779 c1_i32_2426
  let v3819 : BitVec 32 := Scalar.addi c0_i32_2427 v3818
  v3819.toNat
def k0_dev50 (d0 : Dev nD) : Nat :=
  let c0_i32_2440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2384 : BitVec 32 := 2#32
  let v3782 : BitVec 32 := Scalar.addi v2 c2_i32_2384
  let c8_i32_2385 : BitVec 32 := 8#32
  let v3783 : BitVec 32 := Scalar.remsi v3782 c8_i32_2385
  let c1_i32_2439 : BitVec 32 := 1#32
  let v3830 : BitVec 32 := Scalar.muli v3783 c1_i32_2439
  let v3831 : BitVec 32 := Scalar.addi c0_i32_2440 v3830
  v3831.toNat
def k0_dev51 (d0 : Dev nD) : Nat :=
  let c0_i32_2453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2388 : BitVec 32 := 3#32
  let v3786 : BitVec 32 := Scalar.addi v2 c3_i32_2388
  let c8_i32_2389 : BitVec 32 := 8#32
  let v3787 : BitVec 32 := Scalar.remsi v3786 c8_i32_2389
  let c1_i32_2452 : BitVec 32 := 1#32
  let v3842 : BitVec 32 := Scalar.muli v3787 c1_i32_2452
  let v3843 : BitVec 32 := Scalar.addi c0_i32_2453 v3842
  v3843.toNat
def k0_dev52 (d0 : Dev nD) : Nat :=
  let c0_i32_2466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2392 : BitVec 32 := 4#32
  let v3790 : BitVec 32 := Scalar.addi v2 c4_i32_2392
  let c8_i32_2393 : BitVec 32 := 8#32
  let v3791 : BitVec 32 := Scalar.remsi v3790 c8_i32_2393
  let c1_i32_2465 : BitVec 32 := 1#32
  let v3854 : BitVec 32 := Scalar.muli v3791 c1_i32_2465
  let v3855 : BitVec 32 := Scalar.addi c0_i32_2466 v3854
  v3855.toNat
def k0_dev53 (d0 : Dev nD) : Nat :=
  let c0_i32_2479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2396 : BitVec 32 := 5#32
  let v3794 : BitVec 32 := Scalar.addi v2 c5_i32_2396
  let c8_i32_2397 : BitVec 32 := 8#32
  let v3795 : BitVec 32 := Scalar.remsi v3794 c8_i32_2397
  let c1_i32_2478 : BitVec 32 := 1#32
  let v3866 : BitVec 32 := Scalar.muli v3795 c1_i32_2478
  let v3867 : BitVec 32 := Scalar.addi c0_i32_2479 v3866
  v3867.toNat
def k0_dev54 (d0 : Dev nD) : Nat :=
  let c0_i32_2492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2400 : BitVec 32 := 6#32
  let v3798 : BitVec 32 := Scalar.addi v2 c6_i32_2400
  let c8_i32_2401 : BitVec 32 := 8#32
  let v3799 : BitVec 32 := Scalar.remsi v3798 c8_i32_2401
  let c1_i32_2491 : BitVec 32 := 1#32
  let v3878 : BitVec 32 := Scalar.muli v3799 c1_i32_2491
  let v3879 : BitVec 32 := Scalar.addi c0_i32_2492 v3878
  v3879.toNat
def k0_dev55 (d0 : Dev nD) : Nat :=
  let c0_i32_2505 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2404 : BitVec 32 := 7#32
  let v3802 : BitVec 32 := Scalar.addi v2 c7_i32_2404
  let c8_i32_2405 : BitVec 32 := 8#32
  let v3803 : BitVec 32 := Scalar.remsi v3802 c8_i32_2405
  let c1_i32_2504 : BitVec 32 := 1#32
  let v3890 : BitVec 32 := Scalar.muli v3803 c1_i32_2504
  let v3891 : BitVec 32 := Scalar.addi c0_i32_2505 v3890
  v3891.toNat
def k0_dev56 (d0 : Dev nD) : Nat :=
  let c0_i32_2697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_2667 : BitVec 32 := 0#32
  let v4019 : BitVec 32 := Scalar.addi v2 c0_i32_2667
  let c8_i32_2668 : BitVec 32 := 8#32
  let v4020 : BitVec 32 := Scalar.remsi v4019 c8_i32_2668
  let c1_i32_2696 : BitVec 32 := 1#32
  let v4043 : BitVec 32 := Scalar.muli v4020 c1_i32_2696
  let v4044 : BitVec 32 := Scalar.addi c0_i32_2697 v4043
  v4044.toNat
def k0_dev57 (d0 : Dev nD) : Nat :=
  let c0_i32_2709 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2670 : BitVec 32 := 1#32
  let v4022 : BitVec 32 := Scalar.addi v2 c1_i32_2670
  let c8_i32_2671 : BitVec 32 := 8#32
  let v4023 : BitVec 32 := Scalar.remsi v4022 c8_i32_2671
  let c1_i32_2708 : BitVec 32 := 1#32
  let v4054 : BitVec 32 := Scalar.muli v4023 c1_i32_2708
  let v4055 : BitVec 32 := Scalar.addi c0_i32_2709 v4054
  v4055.toNat
def k0_dev58 (d0 : Dev nD) : Nat :=
  let c0_i32_2721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_2673 : BitVec 32 := 2#32
  let v4025 : BitVec 32 := Scalar.addi v2 c2_i32_2673
  let c8_i32_2674 : BitVec 32 := 8#32
  let v4026 : BitVec 32 := Scalar.remsi v4025 c8_i32_2674
  let c1_i32_2720 : BitVec 32 := 1#32
  let v4065 : BitVec 32 := Scalar.muli v4026 c1_i32_2720
  let v4066 : BitVec 32 := Scalar.addi c0_i32_2721 v4065
  v4066.toNat
def k0_dev59 (d0 : Dev nD) : Nat :=
  let c0_i32_2733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_2676 : BitVec 32 := 3#32
  let v4028 : BitVec 32 := Scalar.addi v2 c3_i32_2676
  let c8_i32_2677 : BitVec 32 := 8#32
  let v4029 : BitVec 32 := Scalar.remsi v4028 c8_i32_2677
  let c1_i32_2732 : BitVec 32 := 1#32
  let v4076 : BitVec 32 := Scalar.muli v4029 c1_i32_2732
  let v4077 : BitVec 32 := Scalar.addi c0_i32_2733 v4076
  v4077.toNat
def k0_dev60 (d0 : Dev nD) : Nat :=
  let c0_i32_2745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2679 : BitVec 32 := 4#32
  let v4031 : BitVec 32 := Scalar.addi v2 c4_i32_2679
  let c8_i32_2680 : BitVec 32 := 8#32
  let v4032 : BitVec 32 := Scalar.remsi v4031 c8_i32_2680
  let c1_i32_2744 : BitVec 32 := 1#32
  let v4087 : BitVec 32 := Scalar.muli v4032 c1_i32_2744
  let v4088 : BitVec 32 := Scalar.addi c0_i32_2745 v4087
  v4088.toNat
def k0_dev61 (d0 : Dev nD) : Nat :=
  let c0_i32_2757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_2682 : BitVec 32 := 5#32
  let v4034 : BitVec 32 := Scalar.addi v2 c5_i32_2682
  let c8_i32_2683 : BitVec 32 := 8#32
  let v4035 : BitVec 32 := Scalar.remsi v4034 c8_i32_2683
  let c1_i32_2756 : BitVec 32 := 1#32
  let v4098 : BitVec 32 := Scalar.muli v4035 c1_i32_2756
  let v4099 : BitVec 32 := Scalar.addi c0_i32_2757 v4098
  v4099.toNat
def k0_dev62 (d0 : Dev nD) : Nat :=
  let c0_i32_2769 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_2685 : BitVec 32 := 6#32
  let v4037 : BitVec 32 := Scalar.addi v2 c6_i32_2685
  let c8_i32_2686 : BitVec 32 := 8#32
  let v4038 : BitVec 32 := Scalar.remsi v4037 c8_i32_2686
  let c1_i32_2768 : BitVec 32 := 1#32
  let v4109 : BitVec 32 := Scalar.muli v4038 c1_i32_2768
  let v4110 : BitVec 32 := Scalar.addi c0_i32_2769 v4109
  v4110.toNat
def k0_dev63 (d0 : Dev nD) : Nat :=
  let c0_i32_2781 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_2688 : BitVec 32 := 7#32
  let v4040 : BitVec 32 := Scalar.addi v2 c7_i32_2688
  let c8_i32_2689 : BitVec 32 := 8#32
  let v4041 : BitVec 32 := Scalar.remsi v4040 c8_i32_2689
  let c1_i32_2780 : BitVec 32 := 1#32
  let v4120 : BitVec 32 := Scalar.muli v4041 c1_i32_2780
  let v4121 : BitVec 32 := Scalar.addi c0_i32_2781 v4120
  v4121.toNat
def k0_dev64 (d0 : Dev nD) : Nat :=
  let c0_i32_3289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_3259 : BitVec 32 := 0#32
  let v4452 : BitVec 32 := Scalar.addi v2 c0_i32_3259
  let c8_i32_3260 : BitVec 32 := 8#32
  let v4453 : BitVec 32 := Scalar.remsi v4452 c8_i32_3260
  let c1_i32_3288 : BitVec 32 := 1#32
  let v4476 : BitVec 32 := Scalar.muli v4453 c1_i32_3288
  let v4477 : BitVec 32 := Scalar.addi c0_i32_3289 v4476
  v4477.toNat
def k0_dev65 (d0 : Dev nD) : Nat :=
  let c0_i32_3301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3262 : BitVec 32 := 1#32
  let v4455 : BitVec 32 := Scalar.addi v2 c1_i32_3262
  let c8_i32_3263 : BitVec 32 := 8#32
  let v4456 : BitVec 32 := Scalar.remsi v4455 c8_i32_3263
  let c1_i32_3300 : BitVec 32 := 1#32
  let v4487 : BitVec 32 := Scalar.muli v4456 c1_i32_3300
  let v4488 : BitVec 32 := Scalar.addi c0_i32_3301 v4487
  v4488.toNat
def k0_dev66 (d0 : Dev nD) : Nat :=
  let c0_i32_3313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_3265 : BitVec 32 := 2#32
  let v4458 : BitVec 32 := Scalar.addi v2 c2_i32_3265
  let c8_i32_3266 : BitVec 32 := 8#32
  let v4459 : BitVec 32 := Scalar.remsi v4458 c8_i32_3266
  let c1_i32_3312 : BitVec 32 := 1#32
  let v4498 : BitVec 32 := Scalar.muli v4459 c1_i32_3312
  let v4499 : BitVec 32 := Scalar.addi c0_i32_3313 v4498
  v4499.toNat
def k0_dev67 (d0 : Dev nD) : Nat :=
  let c0_i32_3325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_3268 : BitVec 32 := 3#32
  let v4461 : BitVec 32 := Scalar.addi v2 c3_i32_3268
  let c8_i32_3269 : BitVec 32 := 8#32
  let v4462 : BitVec 32 := Scalar.remsi v4461 c8_i32_3269
  let c1_i32_3324 : BitVec 32 := 1#32
  let v4509 : BitVec 32 := Scalar.muli v4462 c1_i32_3324
  let v4510 : BitVec 32 := Scalar.addi c0_i32_3325 v4509
  v4510.toNat
def k0_dev68 (d0 : Dev nD) : Nat :=
  let c0_i32_3337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_3271 : BitVec 32 := 4#32
  let v4464 : BitVec 32 := Scalar.addi v2 c4_i32_3271
  let c8_i32_3272 : BitVec 32 := 8#32
  let v4465 : BitVec 32 := Scalar.remsi v4464 c8_i32_3272
  let c1_i32_3336 : BitVec 32 := 1#32
  let v4520 : BitVec 32 := Scalar.muli v4465 c1_i32_3336
  let v4521 : BitVec 32 := Scalar.addi c0_i32_3337 v4520
  v4521.toNat
def k0_dev69 (d0 : Dev nD) : Nat :=
  let c0_i32_3349 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_3274 : BitVec 32 := 5#32
  let v4467 : BitVec 32 := Scalar.addi v2 c5_i32_3274
  let c8_i32_3275 : BitVec 32 := 8#32
  let v4468 : BitVec 32 := Scalar.remsi v4467 c8_i32_3275
  let c1_i32_3348 : BitVec 32 := 1#32
  let v4531 : BitVec 32 := Scalar.muli v4468 c1_i32_3348
  let v4532 : BitVec 32 := Scalar.addi c0_i32_3349 v4531
  v4532.toNat
def k0_dev70 (d0 : Dev nD) : Nat :=
  let c0_i32_3361 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_3277 : BitVec 32 := 6#32
  let v4470 : BitVec 32 := Scalar.addi v2 c6_i32_3277
  let c8_i32_3278 : BitVec 32 := 8#32
  let v4471 : BitVec 32 := Scalar.remsi v4470 c8_i32_3278
  let c1_i32_3360 : BitVec 32 := 1#32
  let v4542 : BitVec 32 := Scalar.muli v4471 c1_i32_3360
  let v4543 : BitVec 32 := Scalar.addi c0_i32_3361 v4542
  v4543.toNat
def k0_dev71 (d0 : Dev nD) : Nat :=
  let c0_i32_3373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_3280 : BitVec 32 := 7#32
  let v4473 : BitVec 32 := Scalar.addi v2 c7_i32_3280
  let c8_i32_3281 : BitVec 32 := 8#32
  let v4474 : BitVec 32 := Scalar.remsi v4473 c8_i32_3281
  let c1_i32_3372 : BitVec 32 := 1#32
  let v4553 : BitVec 32 := Scalar.muli v4474 c1_i32_3372
  let v4554 : BitVec 32 := Scalar.addi c0_i32_3373 v4553
  v4554.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 94
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x64x128, .bf16⟩
  | .hbm, ⟨3, _⟩ => ⟨S1x2048x64x128, .bf16⟩
  | .hbm, ⟨4, _⟩ => ⟨S8192x1024, .bf16⟩
  | .hbm, ⟨5, _⟩ => ⟨S1x2048x1024, .f32⟩
  | .hbm, ⟨6, _⟩ => ⟨S1024x8192, .f32⟩
  | .hbm, ⟨7, _⟩ => ⟨S1x2048x64x128, .f32⟩
  | .hbm, ⟨8, _⟩ => ⟨S1x2048x64x128, .f32⟩
  | .hbm, ⟨9, _⟩ => ⟨S8192x1024, .f32⟩
  | .hbm, ⟨10, _⟩ => ⟨S1x2048x8192, .f32⟩
  | .hbm, ⟨11, _⟩ => ⟨S1x2048x64x128, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048, .i32⟩
  | .hbm, ⟨33, _⟩ => ⟨S_, .i32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S2048, .i32⟩
  | .hbm, ⟨42, _⟩ => ⟨S2048, .i32⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S2048, .i1⟩
  | .hbm, ⟨47, _⟩ => ⟨S_, .i32⟩
  | .hbm, ⟨48, _⟩ => ⟨S2048, .i32⟩
  | .hbm, ⟨49, _⟩ => ⟨S2048, .i32⟩
  | .hbm, ⟨50, _⟩ => ⟨S2048, .i32⟩
  | .hbm, ⟨51, _⟩ => ⟨S1x2048, .i32⟩
  | .hbm, ⟨52, _⟩ => ⟨S2048x2048, .i32⟩
  | .hbm, ⟨53, _⟩ => ⟨S2048x2048, .i32⟩
  | .hbm, ⟨54, _⟩ => ⟨S2048x2048, .i1⟩
  | .hbm, ⟨55, _⟩ => ⟨S1x64x2048x2048, .f32⟩
  | .hbm, ⟨56, _⟩ => ⟨S_, .f32⟩
  | .hbm, ⟨57, _⟩ => ⟨S1x64x2048x2048, .f32⟩
  | .hbm, ⟨58, _⟩ => ⟨S1x64x2048x2048, .f32⟩
  | .hbm, ⟨59, _⟩ => ⟨S1x1x2048x2048, .i1⟩
  | .hbm, ⟨60, _⟩ => ⟨S_, .f32⟩
  | .hbm, ⟨61, _⟩ => ⟨S_, .f32⟩
  | .hbm, ⟨62, _⟩ => ⟨S1x64x2048x2048, .i1⟩
  | .hbm, ⟨63, _⟩ => ⟨S1x64x2048x2048, .f32⟩
  | .hbm, ⟨64, _⟩ => ⟨S1x64x2048x2048, .f32⟩
  | .hbm, ⟨65, _⟩ => ⟨S_, .f32⟩
  | .hbm, ⟨66, _⟩ => ⟨S1x64x2048, .f32⟩
  | .hbm, ⟨67, _⟩ => ⟨S1x64x2048x1, .f32⟩
  | .hbm, ⟨68, _⟩ => ⟨S1x64x2048x2048, .f32⟩
  | .hbm, ⟨69, _⟩ => ⟨S1x64x2048x2048, .f32⟩
  | .hbm, ⟨70, _⟩ => ⟨S1x64x2048x2048, .f32⟩
  | .hbm, ⟨71, _⟩ => ⟨S_, .i1⟩
  | .hbm, ⟨72, _⟩ => ⟨S2048, .i1⟩
  | .hbm, ⟨73, _⟩ => ⟨S1x1x2048x1, .i1⟩
  | .hbm, ⟨74, _⟩ => ⟨S_, .f32⟩
  | .hbm, ⟨75, _⟩ => ⟨S1x64x2048, .f32⟩
  | .hbm, ⟨76, _⟩ => ⟨S1x64x2048x1, .f32⟩
  | .hbm, ⟨77, _⟩ => ⟨S_, .f32⟩
  | .hbm, ⟨78, _⟩ => ⟨S_, .f32⟩
  | .hbm, ⟨79, _⟩ => ⟨S1x64x2048x1, .i1⟩
  | .hbm, ⟨80, _⟩ => ⟨S1x64x2048x1, .f32⟩
  | .hbm, ⟨81, _⟩ => ⟨S1x64x2048x1, .f32⟩
  | .hbm, ⟨82, _⟩ => ⟨S1x64x2048x2048, .f32⟩
  | .hbm, ⟨83, _⟩ => ⟨S1x64x2048x2048, .f32⟩
  | .hbm, ⟨84, _⟩ => ⟨S1x1x2048x1, .i1⟩
  | .hbm, ⟨85, _⟩ => ⟨S_, .f32⟩
  | .hbm, ⟨86, _⟩ => ⟨S_, .f32⟩
  | .hbm, ⟨87, _⟩ => ⟨S1x64x2048x2048, .i1⟩
  | .hbm, ⟨88, _⟩ => ⟨S1x64x2048x2048, .f32⟩
  | .hbm, ⟨89, _⟩ => ⟨S1x64x2048x2048, .f32⟩
  | .hbm, ⟨90, _⟩ => ⟨S1x64x128x2048, .f32⟩
  | .hbm, ⟨91, _⟩ => ⟨S1x2048x64x128, .f32⟩
  | .hbm, ⟨92, _⟩ => ⟨S1x2048x8192, .f32⟩
  | .hbm, ⟨93, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_1 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v20 : Ref sig .tc := ⟨.hbm, 64, rfl⟩
abbrev main_cst_2 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_c_3 : Ref sig .tc := ⟨.hbm, 71, rfl⟩
abbrev main_v26 : Ref sig .tc := ⟨.hbm, 72, rfl⟩
abbrev main_v27 : Ref sig .tc := ⟨.hbm, 73, rfl⟩
abbrev main_cst_4 : Ref sig .tc := ⟨.hbm, 74, rfl⟩
abbrev main_v28 : Ref sig .tc := ⟨.hbm, 75, rfl⟩
abbrev main_v29 : Ref sig .tc := ⟨.hbm, 76, rfl⟩
abbrev main_cst_5 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_cst_6 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩

abbrev nD : Nat := 1
abbrev τ : Topo := Topo.v7x

variable {F : FTy → Type} [FloatOps F]
-- ==== Proof.BodyKernelIdeal.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.Regions
public import Idealize.ShloMosaic.Lib.Tactic

@[expose] public section

set_option maxRecDepth 65536

noncomputable section

namespace Cert.KernelIdeal.Gen.Fused

open Idealize.ShloMosaic Idealize.ShloMosaic.TcCoe
open Idealize.SL Idealize.SL.Sem

variable {F : FTy → Type} [FloatOps F] [Named F]

/-! # The kernel's body in stretches

The printed body is one run of some four hundred operations. Here the same run is put together from a
few kinds of stretch, each written once over the tile `t` and the step `j` and ending in the program
that follows it. -/

/-! ## Buffers and semaphores -/

/-- The staged activations. -/
abbrev xM : Memref sig .tc .vmem S2048x1024 .bf16 := Memref.whole cc0_stg0_0
/-- The staged query projection. -/
abbrev wqM : Memref sig .tc .vmem S1024x1024 .bf16 := Memref.whole cc0_stg1_0
/-- The staged keys. -/
abbrev kM : Memref sig .tc .vmem S2048x1024 .bf16 := Memref.whole cc0_stg2_0
/-- The staged values. -/
abbrev vM : Memref sig .tc .vmem S2048x1024 .bf16 := Memref.whole cc0_stg3_0
/-- The staged output projection. -/
abbrev woM : Memref sig .tc .vmem S1024x1024 .bf16 := Memref.whole cc0_stg4_0
/-- The staged result. -/
abbrev outM : Memref sig .tc .vmem S2048x1024 .f32 := Memref.whole cc0_stg5_0
/-- The heads' contexts of the current tile. -/
abbrev ctxM : Memref sig .tc .vmem S512x1024 .bf16 := Memref.whole cc0_scratch0
/-- The partial products to send, two tiles' worth. -/
abbrev tsM : Memref sig .tc .vmem S2x512x1024 .bf16 := Memref.whole cc0_scratch1
/-- The reduced rows to send, two tiles' worth. -/
abbrev asM : Memref sig .tc .vmem S2x64x1024 .bf16 := Memref.whole cc0_scratch2
/-- The partial products received. -/
abbrev rbM : Memref sig .tc .vmem S4x512x1024 .bf16 := Memref.whole cc0_scratch3
/-- The reduced rows received. -/
abbrev abM : Memref sig .tc .vmem S4x512x1024 .bf16 := Memref.whole cc0_scratch4

/-- The barrier's semaphore. -/
abbrev barS : Sem sig := (SemArray.scalar (sig.barrier 0 rfl) : Sems sig S_).sem

/-- One semaphore of a two-row array. -/
abbrev semAt2 (A : DmaSems sig S2x8) (o : Fin 2 → ℕ) (h : ∀ a, o a + S1x1.size a ≤ S2x8.size a) : DmaSem sig :=
  ((A.slice (Rect.unit (s := S2x8) o S1x1.size h)).squeeze S_ squeezes_S1x1_S_).sem
/-- One semaphore of a four-row array. -/
abbrev semAt4 (A : DmaSems sig S4x8) (o : Fin 2 → ℕ) (h : ∀ a, o a + S1x1.size a ≤ S4x8.size a) : DmaSem sig :=
  ((A.slice (Rect.unit (s := S4x8) o S1x1.size h)).squeeze S_ squeezes_S1x1_S_).sem

/-- The semaphore of a tile's half and a place lies in its array of two rows of eight. -/
theorem inb2 (t : Fin 4) (j : Fin 8) : ∀ a, (![t.val % 2, j.val] : Fin 2 → ℕ) a + S1x1.size a ≤ S2x8.size a := by
  revert t j; decide
/-- The semaphore of a tile and a device lies in its array of four rows of eight. -/
theorem inb4 (t : Fin 4) (j : Fin 8) : ∀ a, (![t.val, j.val] : Fin 2 → ℕ) a + S1x1.size a ≤ S4x8.size a := by
  revert t j; decide

/-- The semaphore of the `j`-th partial-product send of tile `t`. -/
abbrev ssem (t : Fin 4) (j : Fin 8) : DmaSem sig := semAt2 cc0_scratch5 ![t.val % 2, j.val] (inb2 t j)
/-- The semaphore of tile `t`'s partial product from device `s`. -/
abbrev rsem (t : Fin 4) (s : Fin 8) : DmaSem sig := semAt4 cc0_scratch6 ![t.val, s.val] (inb4 t s)
/-- The semaphore of the `j`-th reduced-row send of tile `t`. -/
abbrev asem (t : Fin 4) (j : Fin 8) : DmaSem sig := semAt2 cc0_scratch7 ![t.val % 2, j.val] (inb2 t j)
/-- The semaphore of tile `t`'s reduced rows from device `s`. -/
abbrev gsem (t : Fin 4) (s : Fin 8) : DmaSem sig := semAt4 cc0_scratch8 ![t.val, s.val] (inb4 t s)

/-! ## The offsets and the partners as the program computes them -/

/-- The `j`-th device a device sends tile `t`'s partial product to, as computed. -/
def devRs (c : Dev nD) : Fin 4 → Fin 8 → Dev nD :=
  ![![⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩],
     ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩],
     ![⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩],
     ![⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩]]
/-- The `j`-th device a device sends tile `t`'s reduced rows to, as computed. -/
def devAg (c : Dev nD) : Fin 4 → Fin 8 → Dev nD :=
  ![![⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩],
     ![⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩],
     ![⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩, ⟨k0_dev61 c, k0_dev61_lt c⟩, ⟨k0_dev62 c, k0_dev62_lt c⟩, ⟨k0_dev63 c, k0_dev63_lt c⟩],
     ![⟨k0_dev64 c, k0_dev64_lt c⟩, ⟨k0_dev65 c, k0_dev65_lt c⟩, ⟨k0_dev66 c, k0_dev66_lt c⟩, ⟨k0_dev67 c, k0_dev67_lt c⟩, ⟨k0_dev68 c, k0_dev68_lt c⟩, ⟨k0_dev69 c, k0_dev69_lt c⟩, ⟨k0_dev70 c, k0_dev70_lt c⟩, ⟨k0_dev71 c, k0_dev71_lt c⟩]]
/-- The `j`-th device a device signals at the barrier, as computed. -/
def devBar (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩]

/-- Device `c` moved on by `j`, round the ring of eight. -/
def rot (c : Dev nD) (j : ℕ) : Dev nD := ⟨(c.val + j) % 8, Nat.mod_lt _ (by decide)⟩

/-- The device a partial product's block goes to, as printed, is `j` places on. -/
theorem devRs_eq (c : Dev nD) (t : Fin 4) (j : Fin 8) : devRs c t j = rot c j.val := by
  revert c t j; decide +kernel
/-- The device the reduced rows go to, as printed, is `j` places on. -/
theorem devAg_eq (c : Dev nD) (t : Fin 4) (j : Fin 8) : devAg c t j = rot c j.val := by
  revert c t j; decide +kernel
/-- The device a barrier signal goes to, as printed, is `j + 1` places on. -/
theorem devBar_eq (c : Dev nD) (j : Fin 7) : devBar c j = rot c (j.val + 1) := by
  revert c j; decide +kernel

/-- Where in the send buffer the `j`-th block of tile `t` begins, as computed. -/
def offS (c : Dev nD) (j : Fin 8) : Fin 4 → Fin 3 → ℕ :=
  ![k0_off4 c (BitVec.ofNat 32 j.val), k0_off7 c (BitVec.ofNat 32 j.val), k0_off4 c (BitVec.ofNat 32 j.val), k0_off7 c (BitVec.ofNat 32 j.val)]
/-- Where in a receive buffer the device's own block of tile `t` begins, as computed. -/
def offD (c : Dev nD) : Fin 4 → Fin 3 → ℕ := ![k0_off5 c, k0_off8 c, k0_off10 c, k0_off12 c]
/-- Which receive semaphore belongs to the device's own block of tile `t`, as computed. -/
def offR (c : Dev nD) : Fin 4 → Fin 2 → ℕ := ![k0_off1 c, k0_off6 c, k0_off9 c, k0_off11 c]

/-- A sent block starts at the rows of the device it goes to, in the tile's half of the send buffer. -/
theorem offS_eq (c : Dev nD) (t : Fin 4) (j : Fin 8) : offS c j t = ![t.val % 2, 64 * (rot c j.val).val, 0] := by
  match t with
  | 0 => exact k0_off4_eq c j
  | 1 => exact k0_off7_eq c j
  | 2 => exact k0_off4_eq c j
  | 3 => exact k0_off7_eq c j
/-- A block lands at the sender's rows of the tile's part of the receive buffer. -/
theorem offD_eq (c : Dev nD) (t : Fin 4) : offD c t = ![t.val, 64 * c.val, 0] := by
  match t with
  | 0 => exact k0_off5_eq c
  | 1 => exact k0_off8_eq c
  | 2 => exact k0_off10_eq c
  | 3 => exact k0_off12_eq c
/-- A landing credits the tile's semaphore that bears the sender's number. -/
theorem offR_eq (c : Dev nD) (t : Fin 4) : offR c t = ![t.val, c.val] := by
  match t with
  | 0 => exact k0_off1_eq c
  | 1 => exact k0_off6_eq c
  | 2 => exact k0_off9_eq c
  | 3 => exact k0_off11_eq c

/-- A sent block lies in the send buffer. -/
theorem inbS (c : Dev nD) (t : Fin 4) (j : Fin 8) : ∀ a, offS c j t a + S1x64x1024.size a ≤ S2x512x1024.size a := by
  match t with
  | 0 => exact k0_off4_inb c j
  | 1 => exact k0_off7_inb c j
  | 2 => exact k0_off4_inb c j
  | 3 => exact k0_off7_inb c j
/-- A landing block lies in the receive buffer. -/
theorem inbD (c : Dev nD) (t : Fin 4) : ∀ a, offD c t a + S1x64x1024.size a ≤ S4x512x1024.size a := by
  match t with
  | 0 => exact k0_off5_inb c
  | 1 => exact k0_off8_inb c
  | 2 => exact k0_off10_inb c
  | 3 => exact k0_off12_inb c
/-- The semaphore credited lies in its array. -/
theorem inbR (c : Dev nD) (t : Fin 4) : ∀ a, offR c t a + S1x1.size a ≤ S4x8.size a := by
  match t with
  | 0 => exact k0_off1_inb c
  | 1 => exact k0_off6_inb c
  | 2 => exact k0_off9_inb c
  | 3 => exact k0_off11_inb c

/-! ## Slices -/

/-- A block of sixty-four rows of a send buffer. -/
abbrev tsSl (o : Fin 3 → ℕ) (h : ∀ a, o a + S1x64x1024.size a ≤ S2x512x1024.size a) : Memref sig .tc .vmem S64x1024 .bf16 :=
  (tsM.slice (Rect.unit (s := S2x512x1024) o S1x64x1024.size h) (fun _ => rfl)).squeeze S64x1024 squeezes_S1x64x1024_S64x1024
/-- A tile's reduced rows to send. -/
abbrev asSl (o : Fin 3 → ℕ) (h : ∀ a, o a + S1x64x1024.size a ≤ S2x64x1024.size a) : Memref sig .tc .vmem S64x1024 .bf16 :=
  (asM.slice (Rect.unit (s := S2x64x1024) o S1x64x1024.size h) (fun _ => rfl)).squeeze S64x1024 squeezes_S1x64x1024_S64x1024
/-- A block of sixty-four rows of a receive buffer. -/
abbrev rbSl (M : Memref sig .tc .vmem S4x512x1024 .bf16) (o : Fin 3 → ℕ) (h : ∀ a, o a + S1x64x1024.size a ≤ S4x512x1024.size a) : Memref sig .tc .vmem S64x1024 .bf16 :=
  (M.slice (Rect.unit (s := S4x512x1024) o S1x64x1024.size h) (fun _ => rfl)).squeeze S64x1024 squeezes_S1x64x1024_S64x1024

/-- A sent block of partial products is whole words. -/
theorem words_ts : ∀ (c : Dev nD) (t : Fin 4) (j : Fin 8),
    (Rect.unit (s := S2x512x1024) (offS c j t) S1x64x1024.size (inbS c t j)).WholeWords (EltTy.packing .bf16)
  | c, 0, j => k0_off4_wordsbf16 c j
  | c, 1, j => k0_off7_wordsbf16 c j
  | c, 2, j => k0_off4_wordsbf16 c j
  | c, 3, j => k0_off7_wordsbf16 c j
/-- A landing block is whole words. -/
theorem words_rb : ∀ (c : Dev nD) (t : Fin 4),
    (Rect.unit (s := S4x512x1024) (offD c t) S1x64x1024.size (inbD c t)).WholeWords (EltTy.packing .bf16)
  | c, 0 => k0_off5_wordsbf16 c
  | c, 1 => k0_off8_wordsbf16 c
  | c, 2 => k0_off10_wordsbf16 c
  | c, 3 => k0_off12_wordsbf16 c

/-! ## The values -/

/-- Rows of keys a tile sees, one head's columns. -/
abbrev SK (t : Fin 4) : Shape := ⟨2, ![512 * (t.val + 1), 128]⟩
/-- A tile's scores against the keys it sees. -/
abbrev SQ (t : Fin 4) : Shape := ⟨2, ![512, 512 * (t.val + 1)]⟩

/-- Casting a tile's keys to their own shape is allowed. -/
theorem shapeCasts_SK : ∀ t : Fin 4, (SK t).ShapeCasts (SK t) := by decide
/-- A tile's keys are not empty. -/
theorem h_SK : ∀ t : Fin 4, 0 < (SK t).numel := by decide
/-- The row numbers of a tile's scores are allowed. -/
theorem iota0_SQ : ∀ t : Fin 4, (SQ t).Iotas .tc 32 [0]
  | 0 => by decide
  | 1 => by decide
  | 2 => by decide
  | 3 => by decide
/-- The column numbers of a tile's scores are allowed. -/
theorem iota1_SQ : ∀ t : Fin 4, (SQ t).Iotas .tc 32 [1]
  | 0 => by decide
  | 1 => by decide
  | 2 => by decide
  | 3 => by decide
/-- A tile's scores reduce along their rows to one number a row. -/
theorem reduces_SQ : ∀ t : Fin 4, (SQ t).Reduces [1] S512 := by decide
/-- A column of one number a row spreads over a tile's scores. -/
theorem broadcasts_SQ : ∀ t : Fin 4, S512x1.Broadcasts (SQ t) := by decide

/-- Queries against keys. -/
def dotQK (t : Fin 4) : DotDims S512x128 (SK t) (SQ t) where
  lhsContracting := [1]
  rhsContracting := [1]
  lhsNonContracting := [0]
  rhsNonContracting := [0]
  lhsBatch := []
  rhsBatch := []
  wf := by revert t; decide
/-- Weights against values. -/
def dotWV (t : Fin 4) : DotDims (SQ t) (SK t) S512x128 where
  lhsContracting := [1]
  rhsContracting := [0]
  lhsNonContracting := [0]
  rhsNonContracting := [1]
  lhsBatch := []
  rhsBatch := []
  wf := by revert t; decide

/-- An index vector divided by sixty-four, rounded towards minus infinity, as the program spells it. -/
def floorDiv64 (t : Fin 4) (a : IVec (SQ t) 32) : IVec (SQ t) 32 :=
  select
    (andi
      (cmpi .ne
        (subi (extui 32 (cmpi .sgt a (broadcast (SQ t) 0#32)) natLt_1_32) (extui 32 (cmpi .slt a (broadcast (SQ t) 0#32)) natLt_1_32))
        (broadcast (SQ t) (Scalar.subi (Scalar.extui (Scalar.cmpi .sgt 64#32 0#32)) (Scalar.extui (Scalar.cmpi .slt 64#32 0#32)))))
      (cmpi .ne (remsi a (broadcast (SQ t) 64#32)) (broadcast (SQ t) 0#32)))
    (subi (divsi a (broadcast (SQ t) 64#32)) (broadcast (SQ t) 1#32))
    (divsi a (broadcast (SQ t) 64#32))

/-- Which of a tile's scores count: the key's block of sixty-four is no later than the query's. -/
def keepT (t : Fin 4) : IVec (SQ t) 1 :=
  cmpi .sle (floorDiv64 t (iota .tc (SQ t) 32 [1] (iota1_SQ t)))
    (floorDiv64 t (addi (broadcast (SQ t) (BitVec.ofNat 32 (512 * t.val))) (iota .tc (SQ t) 32 [0] (iota0_SQ t))))

/-- A head's scaled queries. -/
def queriesT (x : Vec F S512x1024 .bf16) (wq : Vec F S1024x128 .bf16) : FVec F S512x128 .bf16 :=
  truncf .bf16
    (mulf
      (matmul dot_S512x1024_S1024x128_S512x128_1_0_0_1_n_n none (shapeCast S512x1024 x shapeCasts_S512x1024_S512x1024)
        (shapeCast S1024x128 wq shapeCasts_S1024x128_S1024x128) (constant S512x128 .f32 0x00000000#32))
      (broadcast S512x128 (Scalar.ofBits .f32 0x3DB504F3#32)))
    bitsLt_bf16_f32

/-- A head's masked scores. -/
def scoresT (t : Fin 4) (q : FVec F S512x128 .bf16) (k : Vec F (SK t) .bf16) : FVec F (SQ t) .f32 :=
  select (keepT t)
    (matmul (dotQK t) none q (shapeCast (SK t) k (shapeCasts_SK t)) (constant (SQ t) .f32 0x00000000#32))
    (broadcast (SQ t) (Named.named κ "mask" 0xCE6E6B28#32))

/-- The scores' exponentials, each row's largest score taken off first. -/
def expsT (t : Fin 4) (s : FVec F (SQ t) .f32) : FVec F (SQ t) .f32 :=
  exp (subf s (broadcastTo (SQ t) (shapeCast S512x1 (multiReduction .maximumf [1] S512 s 0xFF800000#32 (reduces_SQ t) (.inl rfl) rfl) shapeCasts_S512_S512x1) (broadcasts_SQ t)))

/-- The attention weights. -/
def weightsT (t : Fin 4) (e : FVec F (SQ t) .f32) : FVec F (SQ t) .bf16 :=
  truncf .bf16
    (divf e (broadcastTo (SQ t) (shapeCast S512x1 (multiReduction .add [1] S512 e 0x00000000#32 (reduces_SQ t) (.inl rfl) rfl) shapeCasts_S512_S512x1) (broadcasts_SQ t)))
    bitsLt_bf16_f32

/-- One head of one tile: what its attention over the keys `k` and values `v` gives. -/
def headT (t : Fin 4) (x : Vec F S512x1024 .bf16) (wq : Vec F S1024x128 .bf16) (k v : Vec F (SK t) .bf16) : FVec F S512x128 .bf16 :=
  shapeCast S512x128
    (truncf .bf16
      (matmul (dotWV t) none (weightsT t (expsT t (scoresT t (queriesT x wq) k))) (shapeCast (SK t) v (shapeCasts_SK t)) (constant S512x128 .f32 0x00000000#32))
      bitsLt_bf16_f32)
    shapeCasts_S512x128_S512x128

/-- A tile's partial product: the heads' contexts through the device's rows of the output projection. -/
def projT (ctx : Vec F S512x1024 .bf16) (wo : Vec F S1024x1024 .bf16) : FVec F S1x512x1024 .bf16 :=
  shapeCast S1x512x1024
    (truncf .bf16
      (matmul dot_S512x1024_S1024x1024_S512x1024_1_0_0_1_n_n none ctx (shapeCast S1024x1024 wo shapeCasts_S1024x1024_S1024x1024) (constant S512x1024 .f32 0x00000000#32))
      bitsLt_bf16_f32)
    shapeCasts_S512x1024_S1x512x1024

/-- One more partial product added to the running sum. -/
def accT (a : FVec F S64x1024 .f32) (v : Vec F S1x64x1024 .bf16) : FVec F S64x1024 .f32 :=
  addf a (extf .f32 (shapeCast S64x1024 v shapeCasts_S1x64x1024_S64x1024) bitsLt_bf16_f32)

/-- The sum nothing was added to yet. -/
def acc0 : FVec F S64x1024 .f32 := broadcast S64x1024 (Scalar.ofBits .f32 0x00000000#32)

/-- The sum, narrowed for sending. -/
def redT (a : FVec F S64x1024 .f32) : FVec F S1x64x1024 .bf16 :=
  shapeCast S1x64x1024 (truncf .bf16 a bitsLt_bf16_f32) shapeCasts_S64x1024_S1x64x1024

/-- A tile of the result. -/
def outT (v : Vec F S1x512x1024 .bf16) : FVec F S512x1024 .f32 :=
  extf .f32 (shapeCast S512x1024 v shapeCasts_S1x512x1024_S512x1024) bitsLt_bf16_f32

/-! ## The stretches -/

/-- The program the body is. -/
abbrev BodyProg (F : FTy → Type) [FloatOps F] : Type 1 := Prog (TpuEff nD τ sig (Elt F) Λ₀ .tc) PUnit

/-- One tile's rows, of an array of all rows. -/
abbrev rRows (t : Fin 4) : Rect S2048x1024 := Rect.unit (s := S2048x1024) ![512 * t.val, 0] S512x1024.size (by revert t; decide)
/-- One head's columns of the query projection. -/
abbrev rWq (h : Fin 8) : Rect S1024x1024 := Rect.unit (s := S1024x1024) ![0, 128 * h.val] S1024x128.size (by revert h; decide)
/-- One head's columns of the keys or values a tile sees. -/
abbrev rKv (t : Fin 4) (h : Fin 8) : Rect S2048x1024 := Rect.unit (s := S2048x1024) ![0, 128 * h.val] (SK t).size (by revert t h; decide)
/-- One head's columns of the contexts. -/
abbrev rCtx (h : Fin 8) : Rect S512x1024 := Rect.unit (s := S512x1024) ![0, 128 * h.val] S512x128.size (by revert h; decide)
/-- All of the contexts. -/
abbrev rCtxAll : Rect S512x1024 := Rect.unit (s := S512x1024) ![0, 0] S512x1024.size inb_S512x1024_S512x1024_0_0
/-- All of the output projection. -/
abbrev rWo : Rect S1024x1024 := Rect.unit (s := S1024x1024) ![0, 0] S1024x1024.size inb_S1024x1024_S1024x1024_0_0
/-- A tile's place in the buffer of partial products to send. -/
abbrev rTs (t : Fin 4) : Rect S2x512x1024 := Rect.unit (s := S2x512x1024) ![t.val % 2, 0, 0] S1x512x1024.size (by revert t; decide)
/-- A tile's place in the buffer of reduced rows to send. -/
abbrev rAs (t : Fin 4) : Rect S2x64x1024 := Rect.unit (s := S2x64x1024) ![t.val % 2, 0, 0] S1x64x1024.size (by revert t; decide)
/-- One device's block of a tile, in a receive buffer. -/
abbrev rRb (t : Fin 4) (s : Fin 8) : Rect S4x512x1024 := Rect.unit (s := S4x512x1024) ![t.val, 64 * s.val, 0] S1x64x1024.size (by revert t s; decide)
/-- A tile's place in a receive buffer. -/
abbrev rAb (t : Fin 4) : Rect S4x512x1024 := Rect.unit (s := S4x512x1024) ![t.val, 0, 0] S1x512x1024.size (by revert t; decide)

/-- A head's columns of the contexts are whole packed rows. -/
theorem packed_ctx : ∀ h : Fin 8, (rCtx h).PackedRows (EltTy.packing .bf16) := by decide
/-- A tile's half of the send buffer is whole packed rows. -/
theorem packed_ts : ∀ t : Fin 4, (rTs t).PackedRows (EltTy.packing .bf16) := by decide
/-- A tile's half of the reduced rows' buffer is whole packed rows. -/
theorem packed_as : ∀ t : Fin 4, (rAs t).PackedRows (EltTy.packing .bf16) := by decide
/-- A tile's half of the reduced rows' buffer lies in it. -/
theorem inbAs (t : Fin 4) : ∀ a, (![t.val % 2, 0, 0] : Fin 3 → ℕ) a + S1x64x1024.size a ≤ S2x64x1024.size a := by
  revert t; decide
/-- A tile's half of the reduced rows' buffer is whole words. -/
theorem words_as : ∀ t : Fin 4, (Rect.unit (s := S2x64x1024) ![t.val % 2, 0, 0] S1x64x1024.size (inbAs t)).WholeWords (EltTy.packing .bf16) := by decide

/-- Block `s` of a tile lies in the receive buffer. -/
theorem inbB (t : Fin 4) (s : Fin 8) : ∀ a, (![t.val, 64 * s.val, 0] : Fin 3 → ℕ) a + S1x64x1024.size a ≤ S4x512x1024.size a := by
  revert t s; decide
/-- Block `s` of a tile's half lies in the send buffer. -/
theorem inbT (t : Fin 4) (s : Fin 8) : ∀ a, (![t.val % 2, 64 * s.val, 0] : Fin 3 → ℕ) a + S1x64x1024.size a ≤ S2x512x1024.size a := by
  revert t s; decide

/-- The signals to the other devices. -/
def signals (c : Dev nD) : List (Fin 7) → BodyProg F → BodyProg F
  | [], k => k
  | j :: js, k => .op (.semSignal (devBar c j, .tc) barS (BitVec.toInt 1#32)) fun _ => signals c js k

/-- The barrier: a signal to each other device, then a wait for theirs. -/
def barrier (c : Dev nD) (k : BodyProg F) : BodyProg F :=
  signals c [0, 1, 2, 3, 4, 5, 6] (.op (.semWait barS (BitVec.toInt 7#32)) fun _ => k)

/-- One head of a tile. -/
def headK (t : Fin 4) (x : Vec F S512x1024 .bf16) (h : Fin 8) (k : BodyProg F) : BodyProg F :=
  .op (.load wqM (rWq h).toLoadRect (View.loadsAt_vmem h_S1024x128)) fun wq =>
  .op (.load kM (rKv t h).toLoadRect (View.loadsAt_vmem (h_SK t))) fun kk =>
  .op (.load vM (rKv t h).toLoadRect (View.loadsAt_vmem (h_SK t))) fun vv =>
  .op (.load ctxM (rCtx h).toLoadRect (View.loadsAt_vmem h_S512x128)) fun _ =>
  .op (.store ctxM (rCtx h) (headT t x wq kk vv) Finset.univ
    (View.stores_vmem h_S512x128 ((Memref.isWhole_whole _).storeExact_slice rfl _ (packed_ctx h)) (fun _ => rfl)) (.inl rfl)) fun _ => k

/-- A tile's heads in turn. -/
def headsK (t : Fin 4) (x : Vec F S512x1024 .bf16) : List (Fin 8) → BodyProg F → BodyProg F
  | [], k => k
  | h :: hs, k => headK t x h (headsK t x hs k)

/-- The eight blocks. -/
abbrev all8 : List (Fin 8) := [0, 1, 2, 3, 4, 5, 6, 7]

/-- A tile: its heads, then its partial product into the send buffer. -/
def tileK (t : Fin 4) (k : BodyProg F) : BodyProg F :=
  .op (.load xM (rRows t).toLoadRect (View.loadsAt_vmem h_S512x1024)) fun x =>
  headsK t x all8
  (.op (.load ctxM rCtxAll.toLoadRect (View.loadsAt_vmem h_S512x1024)) fun cx =>
  .op (.load woM rWo.toLoadRect (View.loadsAt_vmem h_S1024x1024)) fun wo =>
  .op (.load tsM (rTs t).toLoadRect (View.loadsAt_vmem h_S1x512x1024)) fun _ =>
  .op (.store tsM (rTs t) (projT cx wo) Finset.univ
    (View.stores_vmem h_S1x512x1024 ((Memref.isWhole_whole _).storeExact_slice rfl _ (packed_ts t)) (fun _ => rfl)) (.inl rfl)) fun _ => k)

/-- The sends of a tile's partial product, a block to each device. -/
def sendsRs (c : Dev nD) (t : Fin 4) : List (Fin 8) → BodyProg F → BodyProg F
  | [], k => k
  | j :: js, k =>
    .op (.enqueueDma (tsSl (offS c j t) (inbS c t j))
      (.remote (Dev.tc (devRs c t j)) (rbSl rbM (offD c t) (inbD c t)) (.dma (ssem t j)))
      (.dma (semAt4 cc0_scratch6 (offR c t) (inbR c t)))
      (((Memref.isWhole_whole _).wordExact_slice rfl _ (words_ts c t j)).reshape _ _)
      (((Memref.isWhole_whole _).wordExact_slice rfl _ (words_rb c t)).reshape _ _) ⟨⟨rfl, Or.inl rfl⟩, trivial⟩) fun _ => sendsRs c t js k

/-- The waits for the devices' partial products of a tile. -/
def waitsRs (t : Fin 4) : List (Fin 8) → BodyProg F → BodyProg F
  | [], k => k
  | s :: ss, k => .op (.waitDma (rsem t s) (rbSl rbM ![t.val, 64 * s.val, 0] (inbB t s)).view.ref S64x1024 .bf16 (.inr (rbSl rbM ![t.val, 64 * s.val, 0] (inbB t s)).hasMemref)) fun _ => waitsRs t ss k

/-- The devices' partial products added up. -/
def sumK (t : Fin 4) : List (Fin 8) → FVec F S64x1024 .f32 → (FVec F S64x1024 .f32 → BodyProg F) → BodyProg F
  | [], a, k => k a
  | s :: ss, a, k => .op (.load rbM (rRb t s).toLoadRect (View.loadsAt_vmem h_S1x64x1024)) fun v => sumK t ss (accT a v) k

/-- The sends of a tile's reduced rows, to each device. -/
def sendsAg (c : Dev nD) (t : Fin 4) : List (Fin 8) → BodyProg F → BodyProg F
  | [], k => k
  | j :: js, k =>
    .op (.enqueueDma (asSl ![t.val % 2, 0, 0] (inbAs t))
      (.remote (Dev.tc (devAg c t j)) (rbSl abM (offD c t) (inbD c t)) (.dma (asem t j)))
      (.dma (semAt4 cc0_scratch8 (offR c t) (inbR c t)))
      (((Memref.isWhole_whole _).wordExact_slice rfl _ (words_as t)).reshape _ _)
      (((Memref.isWhole_whole _).wordExact_slice rfl _ (words_rb c t)).reshape _ _) ⟨⟨rfl, Or.inl rfl⟩, trivial⟩) fun _ => sendsAg c t js k

/-- The waits for a tile's partial-product sends to have left. -/
def drainRs (t : Fin 4) : List (Fin 8) → BodyProg F → BodyProg F
  | [], k => k
  | j :: js, k => .op (.waitDma (ssem t j) (tsSl ![t.val % 2, 64 * j.val, 0] (inbT t j)).view.ref S64x1024 .bf16 (.inr (tsSl ![t.val % 2, 64 * j.val, 0] (inbT t j)).hasMemref)) fun _ => drainRs t js k

/-- The second half of a tile's reduction: the partial products in, added, and the sum sent out. -/
def finishRs (c : Dev nD) (t : Fin 4) (k : BodyProg F) : BodyProg F :=
  waitsRs t all8 (sumK t all8 acc0 fun a =>
  .op (.load asM (rAs t).toLoadRect (View.loadsAt_vmem h_S1x64x1024)) fun _ =>
  .op (.store asM (rAs t) (redT a) Finset.univ
    (View.stores_vmem h_S1x64x1024 ((Memref.isWhole_whole _).storeExact_slice rfl _ (packed_as t)) (fun _ => rfl)) (.inl rfl)) fun _ =>
  sendsAg c t all8 (drainRs t all8 k))

/-- The waits for the devices' reduced rows of a tile. -/
def waitsAg (t : Fin 4) : List (Fin 8) → BodyProg F → BodyProg F
  | [], k => k
  | s :: ss, k => .op (.waitDma (gsem t s) (rbSl abM ![t.val, 64 * s.val, 0] (inbB t s)).view.ref S64x1024 .bf16 (.inr (rbSl abM ![t.val, 64 * s.val, 0] (inbB t s)).hasMemref)) fun _ => waitsAg t ss k

/-- The waits for a tile's reduced-row sends to have left. -/
def drainAg (t : Fin 4) : List (Fin 8) → BodyProg F → BodyProg F
  | [], k => k
  | j :: js, k => .op (.waitDma (asem t j) (asSl ![t.val % 2, 0, 0] (inbAs t)).view.ref S64x1024 .bf16 (.inr (asSl ![t.val % 2, 0, 0] (inbAs t)).hasMemref)) fun _ => drainAg t js k

/-- The end of a tile: the reduced rows in, the tile of the result written. -/
def finishAg (t : Fin 4) (k : BodyProg F) : BodyProg F :=
  waitsAg t all8
  (.op (.load abM (rAb t).toLoadRect (View.loadsAt_vmem h_S1x512x1024)) fun v =>
  .op (.load outM (rRows t).toLoadRect (View.loadsAt_vmem h_S512x1024)) fun _ =>
  .op (.store outM (rRows t) (outT v) Finset.univ (View.stores_vmem_bits_univ h_S512x1024 rfl) (.inl rfl)) fun _ =>
  drainAg t all8 k)

/-- The body on device `c`, after it has read which device it is. -/
def bodyC (c : Dev nD) : BodyProg F :=
  barrier c <|
  tileK 0 <| sendsRs c 0 all8 <|
  tileK 1 <| sendsRs c 1 all8 <| finishRs c 0 <|
  tileK 2 <| sendsRs c 2 all8 <| finishRs c 1 <| finishAg 0 <|
  tileK 3 <| sendsRs c 3 all8 <| finishRs c 2 <| finishAg 1 <|
  finishRs c 3 <| finishAg 2 <| finishAg 3 <| .ret PUnit.unit

/-- The body. -/
def body : BodyProg F := .op .deviceId bodyC

/-- The printed body is the stretches in turn. -/
theorem bodyAt_eq : bodyAt0 (F := F) t0_0 = body := by
  chain_rfl

end Cert.KernelIdeal.Gen.Fused

end
-- ==== Proof.ContentsKernelIdeal.lean ====
module

public import proofs.«01_k».proof.Proof.BodyKernelIdeal
public import Idealize.ShloMosaic.Lib.ValueIdxCore

@[expose] public section

set_option maxRecDepth 65536

noncomputable section

namespace Cert.KernelIdeal.Gen.Fused

open Idealize.ShloMosaic Idealize.ShloMosaic.TcCoe
open Idealize.SL Idealize.SL.Sem
open Idealize.ShloMosaic.ValueIdx (ix2 ix3 eq_ix2 eq_ix3)

variable {F : FTy → Type} [FloatOps F] [Named F]

/-! # What each buffer holds

Every buffer of the kernel is described by one function of the element's index, so that a block of a
buffer and the buffer itself are spoken of with the same function. -/

/-- What the five argument windows of one device hold. -/
structure Ins (F : FTy → Type) where
  /-- The activations. -/
  x : S2048x1024.Idx → F .bf16
  /-- The device's columns of the query projection. -/
  wq : S1024x1024.Idx → F .bf16
  /-- The device's keys. -/
  k : S2048x1024.Idx → F .bf16
  /-- The device's values. -/
  v : S2048x1024.Idx → F .bf16
  /-- The device's rows of the output projection. -/
  wo : S1024x1024.Idx → F .bf16

/-- The device a row of sixty-four belongs to. -/
def devOf (n : ℕ) : Dev nD := ⟨n / 64 % 8, Nat.mod_lt _ (by decide)⟩
/-- The head a column of a hundred and twenty-eight belongs to. -/
def headOf (n : ℕ) : Fin 8 := ⟨n / 128 % 8, Nat.mod_lt _ (by decide)⟩
/-- The tile a row of five hundred and twelve belongs to. -/
def tileOf (n : ℕ) : Fin 4 := ⟨n / 512 % 4, Nat.mod_lt _ (by decide)⟩

variable (I : Dev nD → Ins F)

/-- What a head of a tile computes on device `c`. -/
def HD (c : Dev nD) (t : Fin 4) (h : Fin 8) : FVec F S512x128 .bf16 :=
  headT t ((xM.access (rRows t)).read (Elt F) (I c).x) ((wqM.access (rWq h)).read (Elt F) (I c).wq)
    ((kM.access (rKv t h)).read (Elt F) (I c).k) ((vM.access (rKv t h)).read (Elt F) (I c).v)
/-- The contexts of a tile, all heads. -/
def CX (c : Dev nD) (t : Fin 4) : S512x1024.Idx → F .bf16 := fun i =>
  HD I c t (headOf (i 1).val) (ix2 ⟨(i 0).val, (i 0).isLt⟩ ⟨(i 1).val % 128, Nat.mod_lt _ (by decide)⟩)
/-- A tile's partial product. -/
def PJ (c : Dev nD) (t : Fin 4) : FVec F S1x512x1024 .bf16 :=
  projT ((ctxM.access rCtxAll).read (Elt F) (CX I c t)) ((woM.access rWo).read (Elt F) (I c).wo)
/-- The send buffer holding tile `t`'s partial product (in either half). -/
def TS (c : Dev nD) (t : Fin 4) : S2x512x1024.Idx → F .bf16 := fun i =>
  PJ I c t (ix3 (0 : Fin 1) ⟨(i 1).val, (i 1).isLt⟩ ⟨(i 2).val, (i 2).isLt⟩)
/-- The buffer of received partial products. -/
def RB (c : Dev nD) : S4x512x1024.Idx → F .bf16 := fun i =>
  PJ I (devOf (i 1).val) ⟨(i 0).val, (i 0).isLt⟩
    (ix3 (0 : Fin 1) ⟨64 * c.val + (i 1).val % 64, by have h : c.val < 8 := c.isLt; have := Nat.mod_lt (i 1).val (show 0 < 64 by decide); show _ < 512; omega⟩ ⟨(i 2).val, (i 2).isLt⟩)
/-- The received partial products of a tile added up over a list of devices. -/
def SM (c : Dev nD) (t : Fin 4) (l : List (Fin 8)) (a : FVec F S64x1024 .f32) : FVec F S64x1024 .f32 :=
  l.foldl (fun a s => accT a ((rbM.access (rRb t s)).read (Elt F) (RB I c))) a
/-- A tile's reduced rows. -/
def RD (c : Dev nD) (t : Fin 4) : FVec F S1x64x1024 .bf16 := redT (SM I c t all8 acc0)
/-- The send buffer holding tile `t`'s reduced rows (in either half). -/
def AS (c : Dev nD) (t : Fin 4) : S2x64x1024.Idx → F .bf16 := fun i =>
  RD I c t (ix3 (0 : Fin 1) ⟨(i 1).val, (i 1).isLt⟩ ⟨(i 2).val, (i 2).isLt⟩)
/-- The buffer of received reduced rows: the same on every device. -/
def AB : S4x512x1024.Idx → F .bf16 := fun i =>
  RD I (devOf (i 1).val) ⟨(i 0).val, (i 0).isLt⟩
    (ix3 (0 : Fin 1) ⟨(i 1).val % 64, Nat.mod_lt _ (by decide)⟩ ⟨(i 2).val, (i 2).isLt⟩)
/-- The result. -/
def OUT : S2048x1024.Idx → F .f32 := fun i =>
  outT ((abM.access (rAb (tileOf (i 0).val))).read (Elt F) (AB I))
    (ix2 ⟨(i 0).val % 512, Nat.mod_lt _ (by decide)⟩ ⟨(i 1).val, (i 1).isLt⟩)

/-! ## The blocks as sets of indices -/

/-- A slice of a receive buffer covers its rectangle. -/
theorem set_rb (o : Fin 3 → ℕ) (h : ∀ a, o a + S1x64x1024.size a ≤ S4x512x1024.size a) :
    (rbSl rbM o h).view.set = (Rect.unit (s := S4x512x1024) o S1x64x1024.size h).set :=
  (View.set_reshape _ _).trans (View.set_slice_whole _ _)
/-- The elements that a block of the reduced rows' receive buffer views are its rectangle's. -/
theorem set_ab (o : Fin 3 → ℕ) (h : ∀ a, o a + S1x64x1024.size a ≤ S4x512x1024.size a) :
    (rbSl abM o h).view.set = (Rect.unit (s := S4x512x1024) o S1x64x1024.size h).set :=
  (View.set_reshape _ _).trans (View.set_slice_whole _ _)
/-- The elements that a block of the send buffer views are its rectangle's. -/
theorem set_ts (o : Fin 3 → ℕ) (h : ∀ a, o a + S1x64x1024.size a ≤ S2x512x1024.size a) :
    (tsSl o h).view.set = (Rect.unit (s := S2x512x1024) o S1x64x1024.size h).set :=
  (View.set_reshape _ _).trans (View.set_slice_whole _ _)
/-- The elements that a half of the reduced rows' buffer views are its rectangle's. -/
theorem set_as (o : Fin 3 → ℕ) (h : ∀ a, o a + S1x64x1024.size a ≤ S2x64x1024.size a) :
    (asSl o h).view.set = (Rect.unit (s := S2x64x1024) o S1x64x1024.size h).set :=
  (View.set_reshape _ _).trans (View.set_slice_whole _ _)

/-- Block `s` of a half lies in the send buffer. -/
theorem inbT' (b : Fin 2) (s : Fin 8) : ∀ a, (![b.val, 64 * s.val, 0] : Fin 3 → ℕ) a + S1x64x1024.size a ≤ S2x512x1024.size a := by
  revert b s; decide
/-- A half of the send buffer lies in it. -/
theorem inbTb (b : Fin 2) : ∀ a, (![b.val, 0, 0] : Fin 3 → ℕ) a + S1x512x1024.size a ≤ S2x512x1024.size a := by
  revert b; decide
/-- A half of the reduced rows' buffer lies in it. -/
theorem inbAb (b : Fin 2) : ∀ a, (![b.val, 0, 0] : Fin 3 → ℕ) a + S1x64x1024.size a ≤ S2x64x1024.size a := by
  revert b; decide

/-- The half of a two-tile buffer a tile uses. -/
def half (t : Fin 4) : Fin 2 := ⟨t.val % 2, Nat.mod_lt _ (by decide)⟩

/-- Device `s`'s block of tile `t` in a receive buffer. -/
def setB (t : Fin 4) (s : Fin 8) : Finset S4x512x1024.Idx := (rRb t s).set
/-- A tile of a receive buffer. -/
def setBt (t : Fin 4) : Finset S4x512x1024.Idx := (rAb t).set
/-- Device `s`'s block in half `b` of the partial products to send. -/
def setT (b : Fin 2) (s : Fin 8) : Finset S2x512x1024.Idx := (Rect.unit (s := S2x512x1024) ![b.val, 64 * s.val, 0] S1x64x1024.size (inbT' b s)).set
/-- Half `b` of the partial products to send. -/
def setTb (b : Fin 2) : Finset S2x512x1024.Idx := (Rect.unit (s := S2x512x1024) ![b.val, 0, 0] S1x512x1024.size (inbTb b)).set
/-- Half `b` of the reduced rows to send. -/
def setA (b : Fin 2) : Finset S2x64x1024.Idx := (Rect.unit (s := S2x64x1024) ![b.val, 0, 0] S1x64x1024.size (inbAb b)).set
/-- A tile of the result. -/
def setO (t : Fin 4) : Finset S2048x1024.Idx := (rRows t).set

/-- All three coordinates named. -/
theorem forall_fin3 {p : Fin 3 → Prop} : (∀ a, p a) ↔ p 0 ∧ p 1 ∧ p 2 :=
  ⟨fun h => ⟨h 0, h 1, h 2⟩, fun ⟨h0, h1, h2⟩ a => match a with | 0 => h0 | 1 => h1 | 2 => h2⟩
/-- Both coordinates named. -/
theorem forall_fin2 {p : Fin 2 → Prop} : (∀ a, p a) ↔ p 0 ∧ p 1 :=
  ⟨fun h => ⟨h 0, h 1⟩, fun ⟨h0, h1⟩ a => match a with | 0 => h0 | 1 => h1⟩

/-- Block `s` of tile `t` is the tile's rows from `64 s` to `64 s + 63`. -/
theorem mem_setB {t : Fin 4} {s : Fin 8} {i : S4x512x1024.Idx} : i ∈ setB t s ↔ (i 0).val = t.val ∧ (i 1).val / 64 = s.val := by
  have h2 : (i 2).val < 1024 := (i 2).isLt
  unfold setB rRb
  rw [Rect.mem_set_unit, forall_fin3]
  show ((t.val ≤ (i 0).val ∧ (i 0).val < t.val + 1) ∧ (64 * s.val ≤ (i 1).val ∧ (i 1).val < 64 * s.val + 64) ∧ (0 ≤ (i 2).val ∧ (i 2).val < 0 + 1024)) ↔ _
  omega
/-- A tile's part of a receive buffer is the elements whose first coordinate is the tile. -/
theorem mem_setBt {t : Fin 4} {i : S4x512x1024.Idx} : i ∈ setBt t ↔ (i 0).val = t.val := by
  have h1 : (i 1).val < 512 := (i 1).isLt
  have h2 : (i 2).val < 1024 := (i 2).isLt
  unfold setBt rAb
  rw [Rect.mem_set_unit, forall_fin3]
  show ((t.val ≤ (i 0).val ∧ (i 0).val < t.val + 1) ∧ (0 ≤ (i 1).val ∧ (i 1).val < 0 + 512) ∧ (0 ≤ (i 2).val ∧ (i 2).val < 0 + 1024)) ↔ _
  omega
/-- Block `s` of a half is the half's rows from `64 s` to `64 s + 63`. -/
theorem mem_setT {b : Fin 2} {s : Fin 8} {i : S2x512x1024.Idx} : i ∈ setT b s ↔ (i 0).val = b.val ∧ (i 1).val / 64 = s.val := by
  have h2 : (i 2).val < 1024 := (i 2).isLt
  unfold setT
  rw [Rect.mem_set_unit, forall_fin3]
  show ((b.val ≤ (i 0).val ∧ (i 0).val < b.val + 1) ∧ (64 * s.val ≤ (i 1).val ∧ (i 1).val < 64 * s.val + 64) ∧ (0 ≤ (i 2).val ∧ (i 2).val < 0 + 1024)) ↔ _
  omega
/-- A half of the send buffer is the elements whose first coordinate is the half. -/
theorem mem_setTb {b : Fin 2} {i : S2x512x1024.Idx} : i ∈ setTb b ↔ (i 0).val = b.val := by
  have h1 : (i 1).val < 512 := (i 1).isLt
  have h2 : (i 2).val < 1024 := (i 2).isLt
  unfold setTb
  rw [Rect.mem_set_unit, forall_fin3]
  show ((b.val ≤ (i 0).val ∧ (i 0).val < b.val + 1) ∧ (0 ≤ (i 1).val ∧ (i 1).val < 0 + 512) ∧ (0 ≤ (i 2).val ∧ (i 2).val < 0 + 1024)) ↔ _
  omega
/-- A half of the reduced rows' buffer is the elements whose first coordinate is the half. -/
theorem mem_setA {b : Fin 2} {i : S2x64x1024.Idx} : i ∈ setA b ↔ (i 0).val = b.val := by
  have h1 : (i 1).val < 64 := (i 1).isLt
  have h2 : (i 2).val < 1024 := (i 2).isLt
  unfold setA
  rw [Rect.mem_set_unit, forall_fin3]
  show ((b.val ≤ (i 0).val ∧ (i 0).val < b.val + 1) ∧ (0 ≤ (i 1).val ∧ (i 1).val < 0 + 64) ∧ (0 ≤ (i 2).val ∧ (i 2).val < 0 + 1024)) ↔ _
  omega
/-- A tile's part of the result is its 512 rows. -/
theorem mem_setO {t : Fin 4} {i : S2048x1024.Idx} : i ∈ setO t ↔ (i 0).val / 512 = t.val := by
  have h1 : (i 1).val < 1024 := (i 1).isLt
  unfold setO rRows
  rw [Rect.mem_set_unit, forall_fin2]
  show ((512 * t.val ≤ (i 0).val ∧ (i 0).val < 512 * t.val + 512) ∧ (0 ≤ (i 1).val ∧ (i 1).val < 0 + 1024)) ↔ _
  omega
/-- A head's part of the contexts is the columns of that head. -/
theorem mem_ctx {h : Fin 8} {i : S512x1024.Idx} : i ∈ (rCtx h).set ↔ headOf (i 1).val = h := by
  have h0 : (i 0).val < 512 := (i 0).isLt
  have h1 : (i 1).val < 1024 := (i 1).isLt
  unfold rCtx
  rw [Rect.mem_set_unit, forall_fin2, Fin.ext_iff]
  show ((0 ≤ (i 0).val ∧ (i 0).val < 0 + 512) ∧ (128 * h.val ≤ (i 1).val ∧ (i 1).val < 128 * h.val + 128)) ↔ (i 1).val / 128 % 8 = h.val
  omega

/-- A tile of a receive buffer is its eight blocks. -/
theorem setBt_eq (t : Fin 4) : setBt t = Finset.univ.biUnion (setB t) := by
  ext i
  have h1 : (i 1).val < 512 := (i 1).isLt
  simp only [Finset.mem_biUnion, Finset.mem_univ, true_and, mem_setBt, mem_setB]
  exact ⟨fun h => ⟨⟨(i 1).val / 64, by omega⟩, h, rfl⟩, fun ⟨_, h, _⟩ => h⟩
/-- Two blocks of a tile share nothing. -/
theorem setB_disj (t : Fin 4) (s s' : Fin 8) (h : s ≠ s') : Disjoint (setB t s) (setB t s') := by
  rw [Finset.disjoint_left]
  intro i hi hi'
  exact h (Fin.ext ((mem_setB.mp hi).2.symm.trans (mem_setB.mp hi').2))
/-- A receive buffer is its four tiles. -/
theorem univ_Bt : (Finset.univ : Finset S4x512x1024.Idx) = Finset.univ.biUnion setBt := by
  ext i
  simp only [Finset.mem_biUnion, Finset.mem_univ, true_and, mem_setBt, true_iff]
  exact ⟨i 0, rfl⟩
/-- Two tiles' parts share nothing. -/
theorem setBt_disj (t t' : Fin 4) (h : t ≠ t') : Disjoint (setBt t) (setBt t') := by
  rw [Finset.disjoint_left]
  intro i hi hi'
  exact h (Fin.ext ((mem_setBt.mp hi).symm.trans (mem_setBt.mp hi')))
/-- A half of the partial products to send is its eight blocks. -/
theorem setTb_eq (b : Fin 2) : setTb b = Finset.univ.biUnion (setT b) := by
  ext i
  have h1 : (i 1).val < 512 := (i 1).isLt
  simp only [Finset.mem_biUnion, Finset.mem_univ, true_and, mem_setTb, mem_setT]
  exact ⟨fun h => ⟨⟨(i 1).val / 64, by omega⟩, h, rfl⟩, fun ⟨_, h, _⟩ => h⟩
/-- Two blocks of a half share nothing. -/
theorem setT_disj (b : Fin 2) (s s' : Fin 8) (h : s ≠ s') : Disjoint (setT b s) (setT b s') := by
  rw [Finset.disjoint_left]
  intro i hi hi'
  exact h (Fin.ext ((mem_setT.mp hi).2.symm.trans (mem_setT.mp hi').2))
/-- The send buffer is its two halves. -/
theorem univ_Tb : (Finset.univ : Finset S2x512x1024.Idx) = Finset.univ.biUnion setTb := by
  ext i
  simp only [Finset.mem_biUnion, Finset.mem_univ, true_and, mem_setTb, true_iff]
  exact ⟨i 0, rfl⟩
/-- The send buffer's two halves share nothing. -/
theorem setTb_disj (b b' : Fin 2) (h : b ≠ b') : Disjoint (setTb b) (setTb b') := by
  rw [Finset.disjoint_left]
  intro i hi hi'
  exact h (Fin.ext ((mem_setTb.mp hi).symm.trans (mem_setTb.mp hi')))
/-- The reduced rows' buffer is its two halves. -/
theorem univ_A : (Finset.univ : Finset S2x64x1024.Idx) = Finset.univ.biUnion setA := by
  ext i
  simp only [Finset.mem_biUnion, Finset.mem_univ, true_and, mem_setA, true_iff]
  exact ⟨i 0, rfl⟩
/-- The two halves of the reduced rows' buffer share nothing. -/
theorem setA_disj (b b' : Fin 2) (h : b ≠ b') : Disjoint (setA b) (setA b') := by
  rw [Finset.disjoint_left]
  intro i hi hi'
  exact h (Fin.ext ((mem_setA.mp hi).symm.trans (mem_setA.mp hi')))
/-- The result is its four tiles. -/
theorem univ_O : (Finset.univ : Finset S2048x1024.Idx) = Finset.univ.biUnion setO := by
  ext i
  have h0 : (i 0).val < 2048 := (i 0).isLt
  simp only [Finset.mem_biUnion, Finset.mem_univ, true_and, mem_setO, true_iff]
  exact ⟨⟨(i 0).val / 512, by omega⟩, rfl⟩
/-- Two tiles' parts of the result share nothing. -/
theorem setO_disj (t t' : Fin 4) (h : t ≠ t') : Disjoint (setO t) (setO t') := by
  rw [Finset.disjoint_left]
  intro i hi hi'
  exact h (Fin.ext ((mem_setO.mp hi).symm.trans (mem_setO.mp hi')))

/-! ## Where the elements of a block lie -/

/-- Where an element of a block lies in the partial products' receive buffer, a coordinate at a time. -/
theorem rb_emb (o : Fin 3 → ℕ) (h : ∀ a, o a + S1x64x1024.size a ≤ S4x512x1024.size a) (z : S64x1024.Idx) (a : Fin 3) :
    (((rbSl rbM o h).view.emb z : S4x512x1024.Idx) a).val = o a + ((Shape.reshapeEquiv squeezes_S1x64x1024_S64x1024.numel_eq z : S1x64x1024.Idx) a).val := by
  show o a + 1 * _ = _
  rw [Nat.one_mul]
  rfl
/-- Where an element of a block lies in the reduced rows' receive buffer. -/
theorem ab_emb (o : Fin 3 → ℕ) (h : ∀ a, o a + S1x64x1024.size a ≤ S4x512x1024.size a) (z : S64x1024.Idx) (a : Fin 3) :
    (((rbSl abM o h).view.emb z : S4x512x1024.Idx) a).val = o a + ((Shape.reshapeEquiv squeezes_S1x64x1024_S64x1024.numel_eq z : S1x64x1024.Idx) a).val := by
  show o a + 1 * _ = _
  rw [Nat.one_mul]
  rfl
/-- Where an element of a block lies in the send buffer. -/
theorem ts_emb (o : Fin 3 → ℕ) (h : ∀ a, o a + S1x64x1024.size a ≤ S2x512x1024.size a) (z : S64x1024.Idx) (a : Fin 3) :
    (((tsSl o h).view.emb z : S2x512x1024.Idx) a).val = o a + ((Shape.reshapeEquiv squeezes_S1x64x1024_S64x1024.numel_eq z : S1x64x1024.Idx) a).val := by
  show o a + 1 * _ = _
  rw [Nat.one_mul]
  rfl
/-- Where an element of a half lies in the reduced rows' buffer. -/
theorem as_emb (o : Fin 3 → ℕ) (h : ∀ a, o a + S1x64x1024.size a ≤ S2x64x1024.size a) (z : S64x1024.Idx) (a : Fin 3) :
    (((asSl o h).view.emb z : S2x64x1024.Idx) a).val = o a + ((Shape.reshapeEquiv squeezes_S1x64x1024_S64x1024.numel_eq z : S1x64x1024.Idx) a).val := by
  show o a + 1 * _ = _
  rw [Nat.one_mul]
  rfl

/-- Two indices of three coordinates with the same coordinates. -/
theorem ix3_ext {n0 n1 n2 : ℕ} {a a' : Fin n0} {b b' : Fin n1} {d d' : Fin n2} (h0 : a.val = a'.val) (h1 : b.val = b'.val) (h2 : d.val = d'.val) :
    (ix3 a b d : (⟨3, ![n0, n1, n2]⟩ : Shape).Idx) = ix3 a' b' d' := by
  rw [Fin.ext h0, Fin.ext h1, Fin.ext h2]
/-- Two index pairs with the same numbers are the same. -/
theorem ix2_ext {n0 n1 : ℕ} {a a' : Fin n0} {b b' : Fin n1} (h0 : a.val = a'.val) (h1 : b.val = b'.val) :
    (ix2 a b : (⟨2, ![n0, n1]⟩ : Shape).Idx) = ix2 a' b' := by
  rw [Fin.ext h0, Fin.ext h1]

/-- What the partial products' copy lays down is what the receive buffer is said to hold. -/
theorem land_rs (c q : Dev nD) (t : Fin 4) (f : S4x512x1024.Idx → F .bf16) (i : S4x512x1024.Idx) (hi : i ∈ setB t c) :
    (rbSl rbM ![t.val, 64 * c.val, 0] (inbB t c)).view.write (Elt F) f
      ((tsSl ![t.val % 2, 64 * q.val, 0] (inbT t q)).view.read (Elt F) (TS I c t)) Finset.univ i = RB I q i := by
  have hi' : i ∈ (rbSl rbM ![t.val, 64 * c.val, 0] (inbB t c)).view.set := by rw [set_rb]; exact hi
  obtain ⟨z, -, rfl⟩ := Finset.mem_map.mp hi'
  refine (View.write_emb_of_mem _ _ (Finset.mem_univ z)).trans ?_
  show TS I c t ((tsSl ![t.val % 2, 64 * q.val, 0] (inbT t q)).view.emb z) = _
  obtain ⟨h0, h1⟩ := mem_setB.mp hi
  have e0 := rb_emb ![t.val, 64 * c.val, 0] (inbB t c) z 0
  have e1 := rb_emb ![t.val, 64 * c.val, 0] (inbB t c) z 1
  have e2 := rb_emb ![t.val, 64 * c.val, 0] (inbB t c) z 2
  have g1 := ts_emb ![t.val % 2, 64 * q.val, 0] (inbT t q) z 1
  have g2 := ts_emb ![t.val % 2, 64 * q.val, 0] (inbT t q) z 2
  have w1 : ((Shape.reshapeEquiv squeezes_S1x64x1024_S64x1024.numel_eq z : S1x64x1024.Idx) 1).val < 64 := ((Shape.reshapeEquiv squeezes_S1x64x1024_S64x1024.numel_eq z : S1x64x1024.Idx) 1).isLt
  generalize (rbSl rbM ![t.val, 64 * c.val, 0] (inbB t c)).view.emb z = i at *
  generalize (tsSl ![t.val % 2, 64 * q.val, 0] (inbT t q)).view.emb z = i' at *
  generalize (Shape.reshapeEquiv squeezes_S1x64x1024_S64x1024.numel_eq z : S1x64x1024.Idx) = w at *
  have hc : c.val < 8 := c.isLt
  have hd : devOf ((i : S4x512x1024.Idx) 1).val = c := Fin.ext (by show _ / 64 % 8 = _; rw [h1]; exact Nat.mod_eq_of_lt hc)
  have ht : (⟨((i : S4x512x1024.Idx) 0).val, ((i : S4x512x1024.Idx) 0).isLt⟩ : Fin 4) = t := Fin.ext h0
  unfold TS RB
  rw [hd, ht]
  refine congrArg _ (ix3_ext rfl ?_ ?_)
  · show ((i' : S2x512x1024.Idx) 1).val = 64 * q.val + ((i : S4x512x1024.Idx) 1).val % 64
    change _ = 64 * c.val + _ at e1
    change _ = 64 * q.val + _ at g1
    omega
  · show ((i' : S2x512x1024.Idx) 2).val = ((i : S4x512x1024.Idx) 2).val
    rw [e2, g2]; rfl

/-- What the reduced rows' copy lays down is what the receive buffer is said to hold. -/
theorem land_ag (c : Dev nD) (t : Fin 4) (f : S4x512x1024.Idx → F .bf16) (i : S4x512x1024.Idx) (hi : i ∈ setB t c) :
    (rbSl abM ![t.val, 64 * c.val, 0] (inbB t c)).view.write (Elt F) f
      ((asSl ![t.val % 2, 0, 0] (inbAs t)).view.read (Elt F) (AS I c t)) Finset.univ i = AB I i := by
  have hi' : i ∈ (rbSl abM ![t.val, 64 * c.val, 0] (inbB t c)).view.set := by rw [set_ab]; exact hi
  obtain ⟨z, -, rfl⟩ := Finset.mem_map.mp hi'
  refine (View.write_emb_of_mem _ _ (Finset.mem_univ z)).trans ?_
  show AS I c t ((asSl ![t.val % 2, 0, 0] (inbAs t)).view.emb z) = _
  obtain ⟨h0, h1⟩ := mem_setB.mp hi
  have e0 := ab_emb ![t.val, 64 * c.val, 0] (inbB t c) z 0
  have e1 := ab_emb ![t.val, 64 * c.val, 0] (inbB t c) z 1
  have e2 := ab_emb ![t.val, 64 * c.val, 0] (inbB t c) z 2
  have g1 := as_emb ![t.val % 2, 0, 0] (inbAs t) z 1
  have g2 := as_emb ![t.val % 2, 0, 0] (inbAs t) z 2
  have w1 : ((Shape.reshapeEquiv squeezes_S1x64x1024_S64x1024.numel_eq z : S1x64x1024.Idx) 1).val < 64 := ((Shape.reshapeEquiv squeezes_S1x64x1024_S64x1024.numel_eq z : S1x64x1024.Idx) 1).isLt
  generalize (rbSl abM ![t.val, 64 * c.val, 0] (inbB t c)).view.emb z = i at *
  generalize (asSl ![t.val % 2, 0, 0] (inbAs t)).view.emb z = i' at *
  generalize (Shape.reshapeEquiv squeezes_S1x64x1024_S64x1024.numel_eq z : S1x64x1024.Idx) = w at *
  have hc : c.val < 8 := c.isLt
  have hd : devOf ((i : S4x512x1024.Idx) 1).val = c := Fin.ext (by show _ / 64 % 8 = _; rw [h1]; exact Nat.mod_eq_of_lt hc)
  have ht : (⟨((i : S4x512x1024.Idx) 0).val, ((i : S4x512x1024.Idx) 0).isLt⟩ : Fin 4) = t := Fin.ext h0
  unfold AS AB
  rw [hd, ht]
  refine congrArg _ (ix3_ext rfl ?_ ?_)
  · show ((i' : S2x64x1024.Idx) 1).val = ((i : S4x512x1024.Idx) 1).val % 64
    change _ = 64 * c.val + _ at e1
    change _ = 0 + _ at g1
    omega
  · show ((i' : S2x64x1024.Idx) 2).val = ((i : S4x512x1024.Idx) 2).val
    rw [e2, g2]; rfl

/-- A head's context stored: its columns hold it, the others what they held. -/
theorem store_ctx (c : Dev nD) (t : Fin 4) (h : Fin 8) (f : S512x1024.Idx → F .bf16) (i : S512x1024.Idx)
    (hi : headOf (i 1).val = h ∨ f i = CX I c t i) :
    (ctxM.access (rCtx h)).write (Elt F) f (HD I c t h) Finset.univ i = CX I c t i := by
  by_cases hm : i ∈ (rCtx h).set
  · have hm' : i ∈ (ctxM.access (rCtx h)).set := by rw [View.set_slice_whole]; exact hm
    obtain ⟨z, -, rfl⟩ := Finset.mem_map.mp hm'
    refine (View.write_emb_of_mem _ _ (Finset.mem_univ z)).trans ?_
    show HD I c t h z = _
    have e0 : (((ctxM.access (rCtx h)).emb z : S512x1024.Idx) 0).val = 0 + 1 * ((z : S512x128.Idx) 0).val := rfl
    have e1 : (((ctxM.access (rCtx h)).emb z : S512x1024.Idx) 1).val = 128 * h.val + 1 * ((z : S512x128.Idx) 1).val := rfl
    have hh := mem_ctx.mp hm
    have z1 : ((z : S512x128.Idx) 1).val < 128 := ((z : S512x128.Idx) 1).isLt
    generalize (ctxM.access (rCtx h)).emb z = i at *
    unfold CX
    rw [show headOf ((i : S512x1024.Idx) 1).val = h from hh]
    refine congrArg _ ((eq_ix2 z).trans (ix2_ext ?_ ?_))
    · show ((z : S512x128.Idx) 0).val = ((i : S512x1024.Idx) 0).val
      omega
    · show ((z : S512x128.Idx) 1).val = ((i : S512x1024.Idx) 1).val % 128
      omega
  · refine (View.write_of_not_mem _ _ _ ?_).trans (hi.resolve_left fun hh => hm (mem_ctx.mpr hh))
    rw [View.setOn_univ, View.set_slice_whole]; exact hm

/-- A tile's partial product stored. -/
theorem store_ts (c : Dev nD) (t : Fin 4) (f : S2x512x1024.Idx → F .bf16) (i : S2x512x1024.Idx) (hi : i ∈ (rTs t).set) :
    (tsM.access (rTs t)).write (Elt F) f (PJ I c t) Finset.univ i = TS I c t i := by
  have hm' : i ∈ (tsM.access (rTs t)).set := by rw [View.set_slice_whole]; exact hi
  obtain ⟨z, -, rfl⟩ := Finset.mem_map.mp hm'
  refine (View.write_emb_of_mem _ _ (Finset.mem_univ z)).trans ?_
  show PJ I c t z = _
  have e1 : (((tsM.access (rTs t)).emb z : S2x512x1024.Idx) 1).val = 0 + 1 * ((z : S1x512x1024.Idx) 1).val := rfl
  have e2 : (((tsM.access (rTs t)).emb z : S2x512x1024.Idx) 2).val = 0 + 1 * ((z : S1x512x1024.Idx) 2).val := rfl
  have z0 : ((z : S1x512x1024.Idx) 0).val < 1 := ((z : S1x512x1024.Idx) 0).isLt
  generalize (tsM.access (rTs t)).emb z = i at *
  unfold TS
  refine congrArg _ ((eq_ix3 z).trans (ix3_ext ?_ ?_ ?_))
  · show ((z : S1x512x1024.Idx) 0).val = 0
    omega
  · show ((z : S1x512x1024.Idx) 1).val = ((i : S2x512x1024.Idx) 1).val
    omega
  · show ((z : S1x512x1024.Idx) 2).val = ((i : S2x512x1024.Idx) 2).val
    omega

/-- A tile's reduced rows stored. -/
theorem store_as (c : Dev nD) (t : Fin 4) (f : S2x64x1024.Idx → F .bf16) (i : S2x64x1024.Idx) (hi : i ∈ (rAs t).set) :
    (asM.access (rAs t)).write (Elt F) f (RD I c t) Finset.univ i = AS I c t i := by
  have hm' : i ∈ (asM.access (rAs t)).set := by rw [View.set_slice_whole]; exact hi
  obtain ⟨z, -, rfl⟩ := Finset.mem_map.mp hm'
  refine (View.write_emb_of_mem _ _ (Finset.mem_univ z)).trans ?_
  show RD I c t z = _
  have e1 : (((asM.access (rAs t)).emb z : S2x64x1024.Idx) 1).val = 0 + 1 * ((z : S1x64x1024.Idx) 1).val := rfl
  have e2 : (((asM.access (rAs t)).emb z : S2x64x1024.Idx) 2).val = 0 + 1 * ((z : S1x64x1024.Idx) 2).val := rfl
  have z0 : ((z : S1x64x1024.Idx) 0).val < 1 := ((z : S1x64x1024.Idx) 0).isLt
  generalize (asM.access (rAs t)).emb z = i at *
  unfold AS
  refine congrArg _ ((eq_ix3 z).trans (ix3_ext ?_ ?_ ?_))
  · show ((z : S1x64x1024.Idx) 0).val = 0
    omega
  · show ((z : S1x64x1024.Idx) 1).val = ((i : S2x64x1024.Idx) 1).val
    omega
  · show ((z : S1x64x1024.Idx) 2).val = ((i : S2x64x1024.Idx) 2).val
    omega

/-- A tile of the result stored. -/
theorem store_out (t : Fin 4) (f : S2048x1024.Idx → F .f32) (i : S2048x1024.Idx) (hi : i ∈ setO t) :
    (outM.access (rRows t)).write (Elt F) f (outT ((abM.access (rAb t)).read (Elt F) (AB I))) Finset.univ i = OUT I i := by
  have hm' : i ∈ (outM.access (rRows t)).set := by rw [View.set_slice_whole]; exact hi
  obtain ⟨z, -, rfl⟩ := Finset.mem_map.mp hm'
  refine (View.write_emb_of_mem _ _ (Finset.mem_univ z)).trans ?_
  show outT ((abM.access (rAb t)).read (Elt F) (AB I)) z = _
  have hh := mem_setO.mp hi
  have e0 : (((outM.access (rRows t)).emb z : S2048x1024.Idx) 0).val = 512 * t.val + 1 * ((z : S512x1024.Idx) 0).val := rfl
  have e1 : (((outM.access (rRows t)).emb z : S2048x1024.Idx) 1).val = 0 + 1 * ((z : S512x1024.Idx) 1).val := rfl
  have z0 : ((z : S512x1024.Idx) 0).val < 512 := ((z : S512x1024.Idx) 0).isLt
  generalize (outM.access (rRows t)).emb z = i at *
  have ht : tileOf ((i : S2048x1024.Idx) 0).val = t := Fin.ext (by
    show ((i : S2048x1024.Idx) 0).val / 512 % 4 = t.val
    have := t.isLt
    omega)
  unfold OUT
  rw [ht]
  refine congrArg _ ((eq_ix2 z).trans (ix2_ext ?_ ?_))
  · show ((z : S512x1024.Idx) 0).val = ((i : S2048x1024.Idx) 0).val % 512
    omega
  · show ((z : S512x1024.Idx) 1).val = ((i : S2048x1024.Idx) 1).val
    omega

/-- Once every head is stored, the contexts read back are the tile's. -/
theorem ctx_of_all {c : Dev nD} {t : Fin 4} {f : S512x1024.Idx → F .bf16} (h : ∀ i, f i = CX I c t i) : f = CX I c t := funext h

end Cert.KernelIdeal.Gen.Fused

end
-- ==== Proof.ProtocolKernelIdeal.lean ====
module

public import proofs.«01_k».proof.Proof.ContentsKernelIdeal
public import Idealize.ShloMosaic.Lib.Pipeline.Regions
public import Idealize.ShloMosaic.Lib.Pipeline.Kit
public import Idealize.ShloMosaic.Lib.Pipeline.BigSepL
public import Idealize.ShloMosaic.Lib.Pipeline.RegionTalk
public import Idealize.ShloMosaic.Lib.Rounds
public import Idealize.ShloMosaic.Lib.ShareLeaves
public import Idealize.ShloMosaic.Lib.Tactic

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

/-! # The protocol

Who may touch what, when. A receive buffer's blocks are handed to their writers at the barrier; each
copy hands its block, filled, to the receiving semaphore's owner and its source back to the sender. -/

/-- The ghost state: the staging copies' beside this protocol's, whose duties are named by a device. -/
abbrev UU : Type := UR sig nD τ × URounds (GSem nD τ sig) (Fin 8)

local notation "𝕄" => MT nD τ sig Unit (Elt F) ℕ UU ℕ

/-- Where the staging copies' ghost state sits. -/
abbrev EP : Emb (UR sig nD τ) (MT nD τ sig Unit (Elt F) ℕ UU ℕ) := embL
/-- Where this protocol's ghost state sits. -/
abbrev ER : Emb (URounds (GSem nD τ sig) (Fin 8)) (MT nD τ sig Unit (Elt F) ℕ UU ℕ) := embR

/-! ## The semaphores -/

/-- The kernel's own copy semaphores in twelve rows of eight. -/
def dsem (R : Fin 12) (j : Fin 8) : DmaSem sig := ⟨6 + 8 * R.val + j.val, by have := R.isLt; have := j.isLt; show _ < 102; omega⟩
/-- The row of the partial-product sends in a half. -/
def rowSs (b : Fin 2) : Fin 12 := ⟨b.val, by omega⟩
/-- The row of a tile's partial products received. -/
def rowRs (t : Fin 4) : Fin 12 := ⟨2 + t.val, by omega⟩
/-- The row of the reduced-row sends in a half. -/
def rowSa (b : Fin 2) : Fin 12 := ⟨6 + b.val, by omega⟩
/-- The row of a tile's reduced rows received. -/
def rowRa (t : Fin 4) : Fin 12 := ⟨8 + t.val, by omega⟩

/-- The semaphore of a partial product's send, by row and place. -/
theorem ssem_eq (t : Fin 4) (j : Fin 8) : ssem t j = dsem (rowSs (half t)) j := by revert t j; decide
/-- The semaphore of a partial product's landing, by row and place. -/
theorem rsem_eq (t : Fin 4) (j : Fin 8) : rsem t j = dsem (rowRs t) j := by revert t j; decide
/-- The semaphore of a reduced row's send, by row and place. -/
theorem asem_eq (t : Fin 4) (j : Fin 8) : asem t j = dsem (rowSa (half t)) j := by revert t j; decide
/-- The semaphore of a reduced row's landing, by row and place. -/
theorem gsem_eq (t : Fin 4) (j : Fin 8) : gsem t j = dsem (rowRa t) j := by revert t j; decide

/-- Device `c`'s barrier cell. -/
abbrev barCell (c : Dev nD) : GSem nD τ sig := ((c : Thread nD τ), .reg barS)
/-- One of device `c`'s copy cells. -/
abbrev dcell (c : Dev nD) (R : Fin 12) (j : Fin 8) : GSem nD τ sig := ((c : Thread nD τ), .dma (dsem R j))

/-- Which of the kernel's copy semaphores a semaphore is. -/
def dec : SemLoc sig → Option (Fin 12 × Fin 8)
  | .dma n => if 6 ≤ n.val then some (⟨(n.val - 6) / 8 % 12, Nat.mod_lt _ (by decide)⟩, ⟨(n.val - 6) % 8, Nat.mod_lt _ (by decide)⟩) else none
  | .reg _ => none

/-- A copy semaphore reads back as its row and place. -/
theorem dec_dsem (R : Fin 12) (j : Fin 8) : dec (.dma (dsem R j)) = some (R, j) := by
  have hR := R.isLt
  have hj := j.isLt
  refine (if_pos (by show 6 ≤ 6 + 8 * R.val + j.val; omega) : dec (.dma (dsem R j)) = _).trans ?_
  unfold dsem
  refine congrArg some (Prod.ext (Fin.ext ?_) (Fin.ext ?_))
  · show (6 + 8 * R.val + j.val - 6) / 8 % 12 = R.val
    omega
  · show (6 + 8 * R.val + j.val - 6) % 8 = j.val
    omega
/-- The barrier is no copy semaphore. -/
theorem dec_bar : dec (.reg barS) = none := rfl

/-- The units one block's copy credits. -/
abbrev N : ℕ := (rbSl rbM ![0, 0, 0] (inbB 0 0)).view.dmaCredit
/-- A block's credit is not zero. -/
theorem N_pos : 0 < N := View.dmaCredit_pos _ (by decide)

/-! ## What is held -/

variable (I : Dev nD → Ins F)

/-- Device `s`'s block of tile `t` among the partial products received by `c`. -/
def rbP (c : Dev nD) (t : Fin 4) (s : Fin 8) (f : S4x512x1024.Idx → F .bf16) : sProp 𝕄 :=
  rbM.view.loc (c : Thread nD τ) ↦[setB t s]{fullShare} f
/-- Device `s`'s block of tile `t` among the reduced rows received by `c`. -/
def abP (c : Dev nD) (t : Fin 4) (s : Fin 8) (f : S4x512x1024.Idx → F .bf16) : sProp 𝕄 :=
  abM.view.loc (c : Thread nD τ) ↦[setB t s]{fullShare} f
/-- The block for device `s` in a half of `c`'s partial products to send. -/
def tsP (c : Dev nD) (b : Fin 2) (s : Fin 8) (f : S2x512x1024.Idx → F .bf16) : sProp 𝕄 :=
  tsM.view.loc (c : Thread nD τ) ↦[setT b s]{fullShare} f
/-- A share of a half of `c`'s reduced rows to send. -/
def asP (c : Dev nD) (b : Fin 2) (q : PosShare TreeShare) (f : S2x64x1024.Idx → F .bf16) : sProp 𝕄 :=
  asM.view.loc (c : Thread nD τ) ↦[setA b]{q} f
/-- One of the eight equal shares. -/
abbrev eighth (j : Fin 8) : PosShare TreeShare := ShareLeaves.leaf 3 fullShare j

/-- The tile a half carries in its `n`-th round. -/
def tileIn (b : Fin 2) (n : ℕ) : Fin 4 := ⟨(b.val + 2 * n) % 4, Nat.mod_lt _ (by decide)⟩
/-- The tile is recovered from its half and its round there. -/
theorem tileIn_half (t : Fin 4) : tileIn (half t) (t.val / 2) = t := by revert t; decide

/-- What device `p` hands device `c` at the barrier, of tile `t`: `c`'s blocks in `p`'s receive buffers, their semaphores ready. -/
def lend (p c : Dev nD) (t : Fin 4) : sProp 𝕄 :=
  iprop((∃ f, rbP p t c f) ∗ reached ER (dcell p (rowRs t) c) 0 ∗ (∃ f, abP p t c f) ∗ reached ER (dcell p (rowRa t) c) 0)
/-- All four tiles' of it. -/
def barPay (p c : Dev nD) : sProp 𝕄 := bigSep Finset.univ fun t : Fin 4 => lend p c t

/-- What a copy cell's round hands over. -/
def rowPay (R : Fin 12) (c : Dev nD) (j : Fin 8) (n : ℕ) : sProp 𝕄 :=
  match R with
  | 0 => tsP c 0 (rot c j.val) (TS I c (tileIn 0 n))
  | 1 => tsP c 1 (rot c j.val) (TS I c (tileIn 1 n))
  | 2 => rbP c 0 j (RB I c)
  | 3 => rbP c 1 j (RB I c)
  | 4 => rbP c 2 j (RB I c)
  | 5 => rbP c 3 j (RB I c)
  | 6 => asP c 0 (eighth j) (AS I c (tileIn 0 n))
  | 7 => asP c 1 (eighth j) (AS I c (tileIn 1 n))
  | 8 => abP c 0 j (AB I)
  | 9 => abP c 1 j (AB I)
  | 10 => abP c 2 j (AB I)
  | 11 => abP c 3 j (AB I)

/-- A partial product's send returns the block sent. -/
theorem rowPay_ss (c : Dev nD) (t : Fin 4) (j : Fin 8) : rowPay I (rowSs (half t)) c j (t.val / 2) = tsP c (half t) (rot c j.val) (TS I c t) := by
  match t with
  | 0 => rfl
  | 1 => rfl
  | 2 => rfl
  | 3 => rfl
/-- A reduced row's send returns an eighth of the rows sent. -/
theorem rowPay_sa (c : Dev nD) (t : Fin 4) (j : Fin 8) : rowPay I (rowSa (half t)) c j (t.val / 2) = asP c (half t) (eighth j) (AS I c t) := by
  match t with
  | 0 => rfl
  | 1 => rfl
  | 2 => rfl
  | 3 => rfl
/-- A partial product's landing hands over the block, filled. -/
theorem rowPay_rs (c : Dev nD) (t : Fin 4) (j : Fin 8) (n : ℕ) : rowPay I (rowRs t) c j n = rbP c t j (RB I c) := by
  match t with
  | 0 => rfl
  | 1 => rfl
  | 2 => rfl
  | 3 => rfl
/-- A reduced row's landing hands over the block, filled. -/
theorem rowPay_ra (c : Dev nD) (t : Fin 4) (j : Fin 8) (n : ℕ) : rowPay I (rowRa t) c j n = abP c t j (AB I) := by
  match t with
  | 0 => rfl
  | 1 => rfl
  | 2 => rfl
  | 3 => rfl

/-- What a copy semaphore hands over can be kept in its invariant. -/
instance rowPay_storable (R : Fin 12) (c : Dev nD) (j : Fin 8) (n : ℕ) : BI.Storable (upEmb : UEmb _ 𝕄) (rowPay I R c j n) := by
  match R with
  | 0 | 1 | 2 | 3 | 4 | 5 | 6 | 7 | 8 | 9 | 10 | 11 => unfold rowPay tsP rbP asP abP; infer_instance
/-- What one device lends another for a tile can be kept in an invariant. -/
instance lend_storable (p c : Dev nD) (t : Fin 4) : BI.Storable (upEmb : UEmb _ 𝕄) (lend (F := F) p c t) := by
  unfold lend rbP abP; infer_instance
/-- What a barrier signal hands over can be kept in its invariant. -/
instance barPay_storable (p c : Dev nD) : BI.Storable (upEmb : UEmb _ 𝕄) (barPay (F := F) p c) := by
  unfold barPay; infer_instance

/-- How many rounds a row's cells run. -/
def rounds (R : Fin 12) : ℕ := (![2, 2, 1, 1, 1, 1, 2, 2, 1, 1, 1, 1] : Fin 12 → ℕ) R

/-- The schedule. -/
def Rd : Rounds.Schedule (GSem nD τ sig) (Fin 8) 𝕄 where
  duties g r := match dec g.2 with
    | some (R, _) => if r < rounds R then {0} else ∅
    | none => if r = 0 ∧ g.2 = .reg barS then Finset.univ.erase g.1.1 else ∅
  unitless _ := False
  amount g _ _ := match dec g.2 with
    | some _ => N
    | none => 1
  payload g r d := match dec g.2 with
    | some (R, j) => rowPay I R g.1.1 j r
    | none => barPay d g.1.1
  amount_pos g _ _ _ := by
    cases dec g.2 with
    | none => exact Nat.one_pos
    | some _ => exact N_pos

/-- Everything the schedule hands over can be kept in an invariant. -/
instance Rd_storable (g : GSem nD τ sig) (r : ℕ) (d : Fin 8) : BI.Storable (upEmb : UEmb _ 𝕄) ((Rd I).payload g r d) := by
  show BI.Storable upEmb (match dec g.2 with
    | some (R, j) => rowPay I R g.1.1 j r
    | none => barPay d g.1.1)
  cases dec g.2 with
  | none => exact barPay_storable _ _
  | some _ => exact rowPay_storable I _ _ _ _

/-- A copy semaphore has one duty in each of its rounds, -/
theorem duties_d (c : Dev nD) (R : Fin 12) (j : Fin 8) (r : ℕ) (h : r < rounds R) : (Rd I).duties (dcell c R j) r = {0} := by
  dsimp only [Rd]; rw [dec_dsem]; exact if_pos h
/-- and none after them. -/
theorem duties_d_end (c : Dev nD) (R : Fin 12) (j : Fin 8) (r : ℕ) (h : rounds R ≤ r) : (Rd I).duties (dcell c R j) r = ∅ := by
  dsimp only [Rd]; rw [dec_dsem]; exact if_neg (Nat.not_lt.mpr h)
/-- The barrier's one round has a duty for every other device, -/
theorem duties_bar (c : Dev nD) : (Rd I).duties (barCell c) 0 = Finset.univ.erase c := by
  dsimp only [Rd]; rw [dec_bar]; exact if_pos ⟨rfl, rfl⟩
/-- and no round follows. -/
theorem duties_bar_end (c : Dev nD) (r : ℕ) (h : 1 ≤ r) : (Rd I).duties (barCell c) r = ∅ := by
  dsimp only [Rd]; rw [dec_bar]; exact if_neg fun ⟨h0, _⟩ => by omega
/-- A copy's duty is a block's credit. -/
theorem amount_d (c : Dev nD) (R : Fin 12) (j : Fin 8) (r : ℕ) (d : Fin 8) : (Rd I).amount (dcell c R j) r d = N := by
  dsimp only [Rd]; rw [dec_dsem]
/-- A signal's duty is one. -/
theorem amount_bar (c : Dev nD) (r : ℕ) (d : Fin 8) : (Rd I).amount (barCell c) r d = 1 := by
  dsimp only [Rd]; rw [dec_bar]
/-- A copy's duty hands over its row's payload. -/
theorem payload_d (c : Dev nD) (R : Fin 12) (j : Fin 8) (r : ℕ) (d : Fin 8) : (Rd I).payload (dcell c R j) r d = rowPay I R c j r := by
  dsimp only [Rd]; rw [dec_dsem]
/-- A signal hands over what its device lends. -/
theorem payload_bar (c : Dev nD) (r : ℕ) (d : Fin 8) : (Rd I).payload (barCell c) r d = barPay d c := by
  dsimp only [Rd]; rw [dec_bar]
/-- A copy semaphore expects a block's credit each round. -/
theorem expect_d (c : Dev nD) (R : Fin 12) (j : Fin 8) (r : ℕ) (h : r < rounds R) : (Rd I).expect (dcell c R j) r = N := by
  unfold Schedule.expect Schedule.amountOf; rw [duties_d I c R j r h, Finset.sum_singleton, amount_d]
/-- The barrier expects seven signals. -/
theorem expect_bar (c : Dev nD) : (Rd I).expect (barCell c) 0 = 7 := by
  unfold Schedule.expect Schedule.amountOf
  rw [duties_bar, Finset.sum_congr rfl fun d _ => amount_bar I c 0 d, Finset.sum_const, Finset.card_erase_of_mem (Finset.mem_univ _)]
  rfl
/-- What a wait on a copy semaphore receives. -/
theorem rest_d (c : Dev nD) (R : Fin 12) (j : Fin 8) (r : ℕ) (h : r < rounds R) :
    bigSep ((Rd I).duties (dcell c R j) r \ ∅) (fun d => (Rd I).payload (dcell c R j) r d) = rowPay I R c j r := by
  rw [Finset.sdiff_empty, duties_d I c R j r h, bigSep_singleton, payload_d]
/-- What the wait at the barrier receives. -/
theorem rest_bar (c : Dev nD) :
    bigSep ((Rd I).duties (barCell c) 0 \ ∅) (fun d => (Rd I).payload (barCell c) 0 d) = bigSep (Finset.univ.erase c) fun p : Dev nD => barPay p c := by
  rw [Finset.sdiff_empty, duties_bar]
  exact bigSep_congr fun d _ => payload_bar I c 0 d

/-! ## The order of waiting -/

/-- Every TensorCore's semaphore has the one level index. -/
def L (g : GSem nD τ sig) : Finset Unit := if g.1.2 = .tc then {()} else ∅
/-- A row's level: the sends' own waits at the bottom, the receives in the order they are paid. -/
def rowLv (R : Fin 12) : ℕ := (![0, 0, 2, 3, 5, 7, 0, 0, 4, 6, 8, 9] : Fin 12 → ℕ) R
/-- A cell's level. -/
def lv (g : GSem nD τ sig) (_ : Unit) : ℕ := match dec g.2 with
  | some (R, _) => rowLv R
  | none => if g.2 = .reg barS then 1 else 0

/-- Another core's semaphore has none. -/
theorem L_of_ne (g : GSem nD τ sig) (h : g.1.2 ≠ .tc) : L g = ∅ := if_neg h
/-- A TensorCore's semaphore has it. -/
theorem L_tc (c : Dev nD) (sm : SemLoc sig) : L ((c : Thread nD τ), sm) = {()} := if_pos rfl
/-- A copy semaphore's level is its row's. -/
theorem lv_d (c : Dev nD) (R : Fin 12) (j : Fin 8) (u : Unit) : lv (dcell c R j) u = rowLv R := by
  unfold lv; rw [dec_dsem]
/-- The barrier's level is one. -/
theorem lv_bar (c : Dev nD) (u : Unit) : lv (barCell c) u = 1 := by
  unfold lv; rw [dec_bar]; exact if_pos rfl

/-- Everything owed lies above a level. -/
def Above (n : ℕ) (O : CellTallies nD τ sig Unit) : Prop := ∀ g u, 0 < O g u → g.1.2 = .tc ∧ n < lv g u

/-- Nothing owed is above any level. -/
theorem above_zero (n : ℕ) : Above n 0 := fun _ _ h => absurd h (Nat.lt_irrefl 0)
/-- Two debts above a level make a debt above it. -/
theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
/-- A debt to one semaphore is above every level below that semaphore's. -/
theorem above_tally {n k : ℕ} (c : Dev nD) (sm : SemLoc sig) (h : n < lv ((c : Thread nD τ), sm) ()) :
    Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
/-- A debt above a level is above every lower one. -/
theorem above_mono {n n' : ℕ} {O : CellTallies nD τ sig Unit} (hn : n' ≤ n) (h : Above n O) : Above n' O := fun g u hg =>
  ⟨(h g u hg).1, Nat.lt_of_le_of_lt hn (h g u hg).2⟩

/-- A wait at a level is allowed where everything owed is above it. -/
theorem mayWait {n : ℕ} {O : CellTallies nD τ sig Unit} (h : Above n O) (c : Dev nD) (sm : SemLoc sig) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (h g u hg).1]; exact Finset.mem_singleton_self _)
    (fun p hp => by rw [Finset.mem_singleton.mp hp]; exact hs)
    (fun g u hg => (h g u hg).2)

/-- What sending tile `t`'s partial products to a list of places pays. -/
def dueRs (c : Dev nD) (t : Fin 4) : List (Fin 8) → CellTallies nD τ sig Unit
  | [] => 0
  | j :: js => dueRs c t js + tallyAt (dcell (rot c j.val) (rowRs t) c) () N
/-- What sending tile `t`'s reduced rows to a list of places pays. -/
def dueAg (c : Dev nD) (t : Fin 4) : List (Fin 8) → CellTallies nD τ sig Unit
  | [] => 0
  | j :: js => dueAg c t js + tallyAt (dcell (rot c j.val) (rowRa t) c) () N
/-- What the barrier's signals pay. -/
def dueBar (c : Dev nD) : List (Fin 7) → CellTallies nD τ sig Unit
  | [] => 0
  | j :: js => dueBar c js + tallyAt (barCell (rot c (j.val + 1))) () 1

/-- The partial products' debts are above every level below their row's. -/
theorem above_dueRs {n : ℕ} (c : Dev nD) (t : Fin 4) (h : n < rowLv (rowRs t)) : ∀ l, Above n (dueRs c t l)
  | [] => above_zero n
  | _ :: js => above_add (above_dueRs c t h js) (above_tally _ _ (by rw [lv_d]; exact h))
/-- The reduced rows' debts are above every level below their row's. -/
theorem above_dueAg {n : ℕ} (c : Dev nD) (t : Fin 4) (h : n < rowLv (rowRa t)) : ∀ l, Above n (dueAg c t l)
  | [] => above_zero n
  | _ :: js => above_add (above_dueAg c t h js) (above_tally _ _ (by rw [lv_d]; exact h))
/-- The barrier's debts are above level zero. -/
theorem above_dueBar {n : ℕ} (c : Dev nD) (h : n < 1) : ∀ l, Above n (dueBar c l)
  | [] => above_zero n
  | _ :: js => above_add (above_dueBar c h js) (above_tally _ _ (by rw [lv_bar]; exact h))

/-! ## The cells -/

/-- The row and the place tell the copy semaphores apart. -/
theorem dsem_inj {R R' : Fin 12} {j j' : Fin 8} (h : (SemLoc.dma (dsem R j) : SemLoc sig) = .dma (dsem R' j')) : R = R' ∧ j = j' := by
  have := dec_dsem R j
  rw [h, dec_dsem] at this
  exact ⟨(congrArg Prod.fst (Option.some.inj this)).symm, (congrArg Prod.snd (Option.some.inj this)).symm⟩

/-- The kernel's own semaphores, as the launch counts them. -/
abbrev osem : Fin 12 × Fin 8 → SemLoc sig := fun k => .dma (dsem k.1 k.2)

/-- Every device's barrier. -/
def barEmb : Dev nD ↪ GSem nD τ sig := ⟨fun c => barCell c, fun _ _ h => congrArg (fun g : GSem nD τ sig => g.1.1) h⟩
/-- Every device's copy semaphores. -/
def scEmb : Dev nD × (Fin 12 × Fin 8) ↪ GSem nD τ sig :=
  ⟨fun ck => dcell ck.1 ck.2.1 ck.2.2, fun _ _ h =>
    Prod.ext (congrArg (fun g : GSem nD τ sig => g.1.1) h) (Prod.ext (dsem_inj (congrArg Prod.snd h)).1 (dsem_inj (congrArg Prod.snd h)).2)⟩

/-- The barrier cells. -/
abbrev barCells : Finset (GSem nD τ sig) := Finset.univ.map barEmb
/-- The copy cells. -/
abbrev scCells : Finset (GSem nD τ sig) := Finset.univ.map scEmb

/-- The barriers are no copy semaphores. -/
theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have h' : (SemLoc.dma (dsem ck.2.1 ck.2.2) : SemLoc sig) = .reg barS := congrArg Prod.snd h
  cases h'
/-- A device's barrier is among the cells. -/
theorem bar_mem (c : Dev nD) : barCell c ∈ (barCells ∪ scCells : Finset (GSem nD τ sig)) :=
  Finset.mem_union_left _ (Finset.mem_map_of_mem barEmb (Finset.mem_univ c))
/-- A device's copy semaphore is among the cells. -/
theorem d_mem (c : Dev nD) (R : Fin 12) (j : Fin 8) : dcell c R j ∈ (barCells ∪ scCells : Finset (GSem nD τ sig)) :=
  Finset.mem_union_right _ (Finset.mem_map_of_mem scEmb (Finset.mem_univ (c, (R, j))))

/-- What every device may consult: every cell's invariant, the barrier cells' first rounds open, the levels. -/
def records (κ : GSem nD τ sig → ℕ) : sProp 𝕄 :=
  iprop((bigSep (barCells ∪ scCells) fun g => cellInv ER (Rd I) (κ g) g) ∗ bigSep barCells fun g => reached ER g 0)

/-- The records can be used again and again. -/
instance records_persistent (κ : GSem nD τ sig → ℕ) : BI.Persistent (records I κ) := by unfold records; infer_instance

/-- One cell's invariant out of all. -/
theorem inv_at (κ : GSem nD τ sig → ℕ) {g : GSem nD τ sig} (hg : g ∈ (barCells ∪ scCells : Finset (GSem nD τ sig))) :
    (bigSep (barCells ∪ scCells) fun g => (cellInv ER (Rd I) (κ g) g : sProp 𝕄)) ⊢ cellInv ER (Rd I) (κ g) g :=
  bigSep_elim hg
/-- One barrier's first round out of all. -/
theorem reached_at (c : Dev nD) : (bigSep barCells fun g => (reached ER g 0 : sProp 𝕄)) ⊢ reached ER (barCell c) 0 :=
  bigSep_elim (Finset.mem_map_of_mem barEmb (Finset.mem_univ c))
/-- The records hold a barrier's invariant. -/
theorem inv_bar (κ : GSem nD τ sig → ℕ) (c : Dev nD) : records I κ ⊢ cellInv ER (Rd I) (κ (barCell c)) (barCell c) := by
  unfold records
  iintro ⟨H, -⟩
  iapply (inv_at I κ (bar_mem c)) $$ H
/-- The records hold a copy semaphore's invariant. -/
theorem inv_d (κ : GSem nD τ sig → ℕ) (c : Dev nD) (R : Fin 12) (j : Fin 8) : records I κ ⊢ cellInv ER (Rd I) (κ (dcell c R j)) (dcell c R j) := by
  unfold records
  iintro ⟨H, -⟩
  iapply (inv_at I κ (d_mem c R j)) $$ H
/-- The records hold that a barrier's first round is reached. -/
theorem reached_bar (κ : GSem nD τ sig → ℕ) (c : Dev nD) : records I κ ⊢ reached ER (barCell c) 0 := by
  unfold records
  iintro ⟨-, H⟩
  iapply (reached_at (F := F) c) $$ H

/-! ## The ring -/

/-- The ring's turn from `c`, as a matching of places and devices. -/
def rotE (c : Dev nD) : Fin 8 ≃ Dev nD where
  toFun j := rot c j.val
  invFun d := ⟨(d.val + 8 - c.val) % 8, Nat.mod_lt _ (by decide)⟩
  left_inv j := by revert c j; decide
  right_inv d := by revert c d; decide

/-- The list of eight places is all of them. -/
theorem sepL_all8 (Φ : Fin 8 → sProp 𝕄) : bigSepL all8 Φ = bigSep Finset.univ Φ :=
  (bigSep_univ_eq_bigSepL all8 (by decide) (by decide) Φ).symm
/-- Going round from any device meets every device once. -/
theorem sepL_rot (c : Dev nD) (Φ : Dev nD → sProp 𝕄) : bigSepL all8 (fun j => Φ (rot c j.val)) = bigSep Finset.univ Φ := by
  rw [sepL_all8, bigSep_univ_equiv (rotE c) Φ]
  rfl

end Cert.KernelIdeal.Gen.Fused

end
-- ==== Proof.StepsKernelIdeal.lean ====
module

public import proofs.«01_k».proof.Proof.ProtocolKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # One operation of the protocol at a time -/

/-- The kernel has no loop that needs a variant. -/
abbrev 𝒱₀ : Variants := Variants.none

/-- The program `k` runs on device `c` and ends as `Q` says. -/
abbrev Run (c : Dev nD) (k : BodyProg F) (Q : PUnit → sProp 𝕄) : sProp 𝕄 :=
  wp frame (wpE (defs₀ (F := F)) 𝒱₀ (c : Thread nD τ) none) Set.univ k Q
/-- What device `c` still owes. -/
def owing (c : Dev nD) (O : CellTallies nD τ sig Unit) : sProp 𝕄 := iprop(∃ W : Waits sig Unit, owes (c : Thread nD τ) O W)

variable (I : Dev nD → Ins F)

/-- What is known throughout: the records and the levels. -/
def known (κ : GSem nD τ sig → ℕ) : sProp 𝕄 := iprop(records I κ ∗ levAts L lv)
/-- What is known can be used again and again. -/
instance known_persistent (κ : GSem nD τ sig → ℕ) : BI.Persistent (known I κ) := by unfold known; infer_instance

/-- What is known holds a copy semaphore's invariant, -/
theorem known_inv (κ : GSem nD τ sig → ℕ) (c : Dev nD) (R : Fin 12) (j : Fin 8) : known I κ ⊢ cellInv ER (Rd I) (κ (dcell c R j)) (dcell c R j) := by
  unfold known
  iintro ⟨H, -⟩
  iapply (inv_d I κ c R j) $$ H
/-- a barrier's invariant, -/
theorem known_bar (κ : GSem nD τ sig → ℕ) (c : Dev nD) : known I κ ⊢ cellInv ER (Rd I) (κ (barCell c)) (barCell c) := by
  unfold known
  iintro ⟨H, -⟩
  iapply (inv_bar I κ c) $$ H
/-- that a barrier's first round is reached, -/
theorem known_reached (κ : GSem nD τ sig → ℕ) (c : Dev nD) : known I κ ⊢ reached ER (barCell c) 0 := by
  unfold known
  iintro ⟨H, -⟩
  iapply (reached_bar I κ c) $$ H
/-- and leave to wait at a level below everything owed. -/
theorem known_mayWait (κ : GSem nD τ sig → ℕ) {n : ℕ} {O : CellTallies nD τ sig Unit} (h : Above n O) (c : Dev nD) (sm : SemLoc sig)
    (hs : lv ((c : Thread nD τ), sm) () ≤ n) : known I κ ⊢ MayWait (c : Thread nD τ) sm () O := by
  unfold known
  iintro ⟨-, H⟩
  iapply (mayWait h c sm hs) $$ H

/-- A wait for a copy: the round's payload comes back and the next round opens. -/
theorem wait_step (κ : GSem nD τ sig → ℕ) (c : Dev nD) (R : Fin 12) (j : Fin 8) (r : ℕ) (hr : r < rounds R)
    {n : ℕ} {O : CellTallies nD τ sig Unit} (hO : Above n O) (hl : rowLv R ≤ n)
    (sm : DmaSem sig) (hsm : sm = dsem R j) (M : Memref sig .tc .vmem S64x1024 .bf16) (hM : M.view.ref.dmaCredit S64x1024 .bf16 = N)
    (k : BodyProg F) (Q : PUnit → sProp 𝕄) :
    iprop(known I κ ∗ owing c O ∗ cred (tallyAt (dcell c R j) () N) ∗ atPos ER (dcell c R j) r ∅ 0)
      ⊢ iprop((owing c O ∗ atPos ER (dcell c R j) (r + 1) ∅ 0 ∗ reached ER (dcell c R j) (r + 1) ∗ rowPay I R c j r -∗ Run c k Q)
        -∗ Run c (.op (.waitDma sm M.view.ref S64x1024 .bf16 (.inr M.hasMemref)) fun _ => k) Q) := by
  subst hsm
  unfold owing
  iintro ⟨#HK, ⟨%W, HO⟩, Hc, Hat⟩ Hk
  ihave Hc' := (Entails.of_eq (by rw [hM] : (cred (tallyAt (dcell c R j) () N) : sProp 𝕄) = cred (tallyAt (dcell c R j) () (M.view.ref.dmaCredit S64x1024 .bf16)))) $$ Hc
  iapply (Rounds.wp_wait_rest_token 𝒱₀ ER (Rd I) (c : Thread nD τ) none (κ := κ (dcell c R j))
      (wpE_waitDma_eq 𝒱₀ (c : Thread nD τ) none Set.univ) (Set.mem_univ _) () (O := O) (W := W) (R := r) (m := 0) (T := ∅)
      ((Nat.zero_add _).trans (hM.trans (expect_d I c R j r hr).symm))) $$ [Hc' HO Hat]
  · isplitr; · iapply (known_inv I κ c R j); iexact HK
    isplitl [Hc']; · iexact Hc'
    isplitl [HO]; · iexact HO
    isplitr; · iapply (known_mayWait I κ hO c (.dma (dsem R j)) (by rw [lv_d]; exact hl)); iexact HK
    iexact Hat
  iintro ⟨HO, Hat, Hr, Hpay⟩
  ihave Hp := (Entails.of_eq (rest_d I c R j r hr)) $$ Hpay
  iapply Hk
  isplitl [HO]; · iexists _; iexact HO
  isplitl [Hat]; · iexact Hat
  isplitl [Hr]; · iexact Hr
  iexact Hp

/-- A copy to a device: the source and the destination block go in, the source's return is promised. -/
theorem send_step (κ : GSem nD τ sig → ℕ) (c q : Dev nD) (src dst : Memref sig .tc .vmem S64x1024 .bf16) (R₁ R₂ : Fin 12) (j s : Fin 8) (r : ℕ)
    (hr₁ : r < rounds R₁) (hr₂ : 0 < rounds R₂) (hN : dst.view.dmaCredit = N) (sh : PosShare TreeShare)
    (fs : Buf (Elt F) (src.view.loc (c : Thread nD τ))) (fd : Buf (Elt F) (dst.view.loc (q : Thread nD τ)))
    (hp₁ : (src.view.loc (c : Thread nD τ) ↦[src.view.set]{sh} fs : sProp 𝕄) ⊢ rowPay I R₁ c j r)
    (hp₂ : (dst.view.loc (q : Thread nD τ) ↦[dst.view.set]{fullShare} (dst.view.write (Elt F) fd (src.view.read (Elt F) fs) Finset.univ) : sProp 𝕄) ⊢ rowPay I R₂ q s 0)
    (Dq : Dev nD) (hD : Dq = q) (sS sR : DmaSem sig) (hS : sS = dsem R₁ j) (hR : sR = dsem R₂ s)
    (hsrc : src.view.WordExact) (hdst : dst.view.WordExact) (hsem : DmaTarget.Typed .vmem (.dma sR) (.remote (Dev.tc Dq) dst (.dma sS) : DmaTarget nD τ sig (.tc) .vmem S64x1024 .bf16))
    {O O' : CellTallies nD τ sig Unit} (hO : O' = O + tallyAt (dcell q R₂ s) () N) (k : BodyProg F) (Q : PUnit → sProp 𝕄) :
    iprop(known I κ ∗ owing c O' ∗ (src.view.loc (c : Thread nD τ) ↦[src.view.set]{sh} fs) ∗ (dst.view.loc (q : Thread nD τ) ↦[dst.view.set]{fullShare} fd)
        ∗ dutyTok ER (dcell c R₁ j) r 0 ∗ reached ER (dcell c R₁ j) r ∗ dutyTok ER (dcell q R₂ s) 0 0 ∗ reached ER (dcell q R₂ s) 0)
      ⊢ iprop((owing c O ∗ cred (tallyAt (dcell c R₁ j) () N) -∗ Run c k Q)
        -∗ Run c (.op (.enqueueDma src (.remote (Dev.tc Dq) dst (.dma sS)) (.dma sR) hsrc hdst hsem) fun _ => k) Q) := by
  subst hD hS hR
  unfold owing
  iintro ⟨#HK, ⟨%W, HO⟩, Hs, Hd, HtS, HrS, HtD, HrD⟩ Hk
  iapply (Rounds.wp_send_pointsTo 𝒱₀ ER (Rd I) (c : Thread nD τ) none (c' := (Dq : Thread nD τ)) (src := src) (dst := dst)
      (sS := .dma (dsem R₁ j)) (sem := .dma (dsem R₂ s)) (q := sh) (fs := fs) (κ₁ := κ (dcell c R₁ j)) (κ₂ := κ (dcell Dq R₂ s))
      (r₁ := r) (r₂ := 0) (d₁ := 0) (d₂ := 0) (fd := fd)
      (by rw [duties_d I c R₁ j r hr₁]; exact Finset.mem_singleton_self _) (by rw [duties_d I Dq R₂ s 0 hr₂]; exact Finset.mem_singleton_self _)
      () () N hN (amount_d I c R₁ j r 0) (amount_d I Dq R₂ s 0 0) O hO (W := W)
      (by rw [payload_d]; exact hp₁) (by rw [payload_d]; exact hp₂)) $$ [Hs Hd HO HtS HrS HtD HrD]
  · isplitr; · iapply (known_inv I κ c R₁ j); iexact HK
    isplitr; · iapply (known_inv I κ Dq R₂ s); iexact HK
    isplitl [Hs]; · iexact Hs
    isplitl [Hd]; · iexact Hd
    isplitl [HO]; · iexact HO
    isplitl [HtS]; · iexact HtS
    isplitl [HrS]; · iexact HrS
    isplitl [HtD]; · iexact HtD
    iexact HrD
  iintro ⟨Hc, HO⟩
  iapply Hk
  isplitl [HO]; · iexists _; iexact HO
  iexact Hc

/-- A signal at the barrier: the blocks of one's own buffers the other device will write. -/
theorem signal_step (κ : GSem nD τ sig → ℕ) (c q : Dev nD) (hq : c ≠ q) (Dq : Dev nD) (hD : Dq = q)
    {O O' : CellTallies nD τ sig Unit} (hO : O' = O + tallyAt (barCell q) () 1) (k : BodyProg F) (Q : PUnit → sProp 𝕄) :
    iprop(known I κ ∗ owing c O' ∗ dutyTok ER (barCell q) 0 c ∗ barPay c q)
      ⊢ iprop((owing c O -∗ Run c k Q)
        -∗ Run c (.op (.semSignal (Dq, .tc) barS (BitVec.toInt 1#32)) fun _ => k) Q) := by
  subst hD
  unfold owing
  iintro ⟨#HK, ⟨%W, HO⟩, Ht, Hp⟩ Hk
  iapply (Rounds.wp_signal 𝒱₀ ER (Rd I) (c : Thread nD τ) none (dst := (Dq : Thread nD τ)) (sem := barS) (r := 0) (d := c) (κ := κ (barCell Dq))
      (by rw [duties_bar]; exact Finset.mem_erase.mpr ⟨hq, Finset.mem_univ _⟩) (amount_bar I Dq 0 c) () O hO (W := W))
    $$ [HO Ht Hp]
  · isplitr; · iapply (known_bar I κ Dq); iexact HK
    isplitl [HO]; · iexact HO
    isplitl [Ht]; · iexact Ht
    isplitl [Hp]
    · rw [payload_bar]; iexact Hp
    iapply (known_reached I κ Dq); iexact HK
  iintro HO
  iapply Hk
  iexists _; iexact HO

/-- The wait at the barrier: the blocks the other devices handed over. -/
theorem barrier_step (κ : GSem nD τ sig → ℕ) (c : Dev nD) {O : CellTallies nD τ sig Unit} (hO : Above 1 O) (k : BodyProg F) (Q : PUnit → sProp 𝕄) :
    iprop(known I κ ∗ owing c O ∗ cred (tallyAt (barCell c) () 7) ∗ atPos ER (barCell c) 0 ∅ 0)
      ⊢ iprop((owing c O ∗ atPos ER (barCell c) 1 ∅ 0 ∗ (bigSep (Finset.univ.erase c) fun p : Dev nD => barPay p c) -∗ Run c k Q)
        -∗ Run c (.op (.semWait barS (BitVec.toInt 7#32)) fun _ => k) Q) := by
  unfold owing
  iintro ⟨#HK, ⟨%W, HO⟩, Hc, Hat⟩ Hk
  iapply (Rounds.wp_wait_rest_token 𝒱₀ ER (Rd I) (c : Thread nD τ) none (κ := κ (barCell c))
      (wpE_semWait_eq 𝒱₀ (c : Thread nD τ) none Set.univ) (Set.mem_univ _) () (O := O) (W := W) (R := 0) (m := 0) (T := ∅)
      ((Nat.zero_add 7).trans (expect_bar I c).symm)) $$ [Hc HO Hat]
  · isplitr; · iapply (known_bar I κ c); iexact HK
    isplitl [Hc]; · iexact Hc
    isplitl [HO]; · iexact HO
    isplitr; · iapply (known_mayWait I κ hO c (.reg barS) (by rw [lv_bar])); iexact HK
    iexact Hat
  iintro ⟨HO, Hat, -, Hpay⟩
  ihave Hp := (Entails.of_eq (rest_bar I c)) $$ Hpay
  iapply Hk
  isplitl [HO]; · iexists _; iexact HO
  isplitl [Hat]; · iexact Hat
  iexact Hp

end Cert.KernelIdeal.Gen.Fused

end
-- ==== Proof.StretchKernelIdeal.lean ====
module

public import proofs.«01_k».proof.Proof.StepsKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # The stretches' triples -/

variable (I : Dev nD → Ins F)

/-! ## Assertions over a list of places -/

/-- Where device `c` stands at a row's cells. -/
def poss (R : Fin 12) (c : Dev nD) (r : ℕ) (l : List (Fin 8)) : sProp 𝕄 :=
  bigSepL l fun j => iprop(atPos ER (dcell c R j) r ∅ 0 ∗ reached ER (dcell c R j) r)
/-- The credits for waiting once at a row's cells. -/
def creds (R : Fin 12) (c : Dev nD) (l : List (Fin 8)) : sProp 𝕄 := bigSepL l fun j => cred (tallyAt (dcell c R j) () N)
/-- What a round of a row's cells hands over. -/
def pays (R : Fin 12) (c : Dev nD) (r : ℕ) (l : List (Fin 8)) : sProp 𝕄 := bigSepL l fun j => rowPay I R c j r

/-! ## Waiting -/

/-- Waits for copies in turn. -/
def waitsG (sm : Fin 8 → DmaSem sig) (M : Fin 8 → Memref sig .tc .vmem S64x1024 .bf16) : List (Fin 8) → BodyProg F → BodyProg F
  | [], k => k
  | j :: js, k => .op (.waitDma (sm j) (M j).view.ref S64x1024 .bf16 (.inr (M j).hasMemref)) fun _ => waitsG sm M js k

/-- The waits for the partial products are waits of the one form. -/
theorem waitsRs_eq (t : Fin 4) (k : BodyProg F) : ∀ l, waitsRs t l k = waitsG (rsem t) (fun s => rbSl rbM ![t.val, 64 * s.val, 0] (inbB t s)) l k
  | [] => rfl
  | s :: ss => by unfold waitsRs waitsG; rw [waitsRs_eq t k ss]
/-- The waits for the reduced rows are too. -/
theorem waitsAg_eq (t : Fin 4) (k : BodyProg F) : ∀ l, waitsAg t l k = waitsG (gsem t) (fun s => rbSl abM ![t.val, 64 * s.val, 0] (inbB t s)) l k
  | [] => rfl
  | s :: ss => by unfold waitsAg waitsG; rw [waitsAg_eq t k ss]
/-- The waits for the partial products' sends are too. -/
theorem drainRs_eq (t : Fin 4) (k : BodyProg F) : ∀ l, drainRs t l k = waitsG (ssem t) (fun j => tsSl ![t.val % 2, 64 * j.val, 0] (inbT t j)) l k
  | [] => rfl
  | s :: ss => by unfold drainRs waitsG; rw [drainRs_eq t k ss]
/-- The waits for the reduced rows' sends are too. -/
theorem drainAg_eq (t : Fin 4) (k : BodyProg F) : ∀ l, drainAg t l k = waitsG (asem t) (fun _ => asSl ![t.val % 2, 0, 0] (inbAs t)) l k
  | [] => rfl
  | s :: ss => by unfold drainAg waitsG; rw [drainAg_eq t k ss]

/-- **A row of waits** spends its credits and receives what each place hands over, the round moved on. -/
theorem waits_run (κ : GSem nD τ sig → ℕ) (c : Dev nD) (R : Fin 12) (r : ℕ) (hr : r < rounds R) {n : ℕ} {O : CellTallies nD τ sig Unit} (hO : Above n O) (hl : rowLv R ≤ n)
    (sm : Fin 8 → DmaSem sig) (hsm : ∀ j, sm j = dsem R j) (M : Fin 8 → Memref sig .tc .vmem S64x1024 .bf16) (hM : ∀ j, (M j).view.ref.dmaCredit S64x1024 .bf16 = N)
    (k : BodyProg F) (Q : PUnit → sProp 𝕄) : ∀ l,
    iprop(known I κ ∗ owing c O ∗ creds R c l ∗ poss R c r l)
      ⊢ iprop((owing c O ∗ poss R c (r + 1) l ∗ pays I R c r l -∗ Run c k Q) -∗ Run c (waitsG sm M l k) Q)
  | [] => by
    unfold waitsG
    iintro ⟨-, HO, -, -⟩ Hk
    iapply Hk
    isplitl [HO]; · iexact HO
    isplitl []
    · unfold poss; rw [bigSepL_nil]; iempintro
    unfold pays; rw [bigSepL_nil]; iempintro
  | j :: js => by
    unfold waitsG creds poss pays
    rw [bigSepL_cons', bigSepL_cons', bigSepL_cons', bigSepL_cons']
    iintro ⟨#HK, HO, ⟨Hc, Hcs⟩, ⟨⟨Hat, -⟩, Hats⟩⟩ Hk
    iapply (wait_step I κ c R j r hr hO hl (sm j) (hsm j) (M j) (hM j) (waitsG sm M js k) Q) $$ [HO Hc Hat]
    · isplitr; · iexact HK
      isplitl [HO]; · iexact HO
      isplitl [Hc]; · iexact Hc
      iexact Hat
    iintro ⟨HO, Hat, Hr, Hp⟩
    iapply (waits_run κ c R r hr hO hl sm hsm M hM k Q js) $$ [HO Hcs Hats]
    · isplitr; · iexact HK
      isplitl [HO]; · iexact HO
      isplitl [Hcs]; · unfold creds; iexact Hcs
      unfold poss; iexact Hats
    iintro ⟨HO, Hats, Hps⟩
    iapply Hk
    isplitl [HO]; · iexact HO
    isplitl [Hat Hr Hats]
    · isplitl [Hat Hr]
      · isplitl [Hat]; · iexact Hat
        iexact Hr
      unfold poss; iexact Hats
    isplitl [Hp]; · iexact Hp
    unfold pays; iexact Hps

/-! ## Sending -/

/-- A block of the send buffer, as a copy views it. -/
theorem ts_pts (c : Dev nD) (t : Fin 4) (s : Fin 8) (f : S2x512x1024.Idx → F .bf16) :
    ((tsSl ![t.val % 2, 64 * s.val, 0] (inbT t s)).view.loc (c : Thread nD τ) ↦[(tsSl ![t.val % 2, 64 * s.val, 0] (inbT t s)).view.set]{fullShare} f : sProp 𝕄)
      = tsP c (half t) s f := by
  unfold tsP; rw [set_ts]; rfl
/-- A share of a half of the reduced rows' buffer, as a copy views it. -/
theorem as_pts (c : Dev nD) (t : Fin 4) (sh : PosShare TreeShare) (f : S2x64x1024.Idx → F .bf16) :
    ((asSl ![t.val % 2, 0, 0] (inbAs t)).view.loc (c : Thread nD τ) ↦[(asSl ![t.val % 2, 0, 0] (inbAs t)).view.set]{sh} f : sProp 𝕄)
      = asP c (half t) sh f := by
  unfold asP; rw [set_as]; rfl
/-- A block of the partial products' receive buffer, as a copy views it. -/
theorem rb_pts (c : Dev nD) (t : Fin 4) (s : Fin 8) (f : S4x512x1024.Idx → F .bf16) :
    ((rbSl rbM ![t.val, 64 * s.val, 0] (inbB t s)).view.loc (c : Thread nD τ) ↦[(rbSl rbM ![t.val, 64 * s.val, 0] (inbB t s)).view.set]{fullShare} f : sProp 𝕄)
      = rbP c t s f := by
  unfold rbP; rw [set_rb]; rfl
/-- A block of the reduced rows' receive buffer, as a copy views it. -/
theorem ab_pts (c : Dev nD) (t : Fin 4) (s : Fin 8) (f : S4x512x1024.Idx → F .bf16) :
    ((rbSl abM ![t.val, 64 * s.val, 0] (inbB t s)).view.loc (c : Thread nD τ) ↦[(rbSl abM ![t.val, 64 * s.val, 0] (inbB t s)).view.set]{fullShare} f : sProp 𝕄)
      = abP c t s f := by
  unfold abP; rw [set_ab]; rfl

/-- What a send of a partial product needs besides its block: the destination block, ready, and the two duties. -/
def seedRs (c : Dev nD) (t : Fin 4) (j : Fin 8) : sProp 𝕄 :=
  iprop((∃ f, rbP (rot c j.val) t c f) ∗ reached ER (dcell (rot c j.val) (rowRs t) c) 0
    ∗ dutyTok ER (dcell (rot c j.val) (rowRs t) c) 0 0 ∗ dutyTok ER (dcell c (rowSs (half t)) j) (t.val / 2) 0)
/-- What a send of reduced rows needs besides its share of them. -/
def seedAg (c : Dev nD) (t : Fin 4) (j : Fin 8) : sProp 𝕄 :=
  iprop((∃ f, abP (rot c j.val) t c f) ∗ reached ER (dcell (rot c j.val) (rowRa t) c) 0
    ∗ dutyTok ER (dcell (rot c j.val) (rowRa t) c) 0 0 ∗ dutyTok ER (dcell c (rowSa (half t)) j) (t.val / 2) 0)

/-- A tile's partial-product sends are in a round of their row, -/
theorem rounds_Ss (t : Fin 4) : t.val / 2 < rounds (rowSs (half t)) := by revert t; decide
/-- its reduced-row sends too, -/
theorem rounds_Sa (t : Fin 4) : t.val / 2 < rounds (rowSa (half t)) := by revert t; decide
/-- the partial products received have one round, -/
theorem rounds_Rs (t : Fin 4) : 0 < rounds (rowRs t) := by revert t; decide
/-- and the reduced rows received too. -/
theorem rounds_Ra (t : Fin 4) : 0 < rounds (rowRa t) := by revert t; decide

/-- The printed semaphore of a partial product's landing, by row and place. -/
theorem semAt4_rs (c : Dev nD) (t : Fin 4) (h : ∀ a, (![t.val, c.val] : Fin 2 → ℕ) a + S1x1.size a ≤ S4x8.size a) :
    semAt4 cc0_scratch6 ![t.val, c.val] h = dsem (rowRs t) c := by revert c t; decide
/-- The printed semaphore of a reduced row's landing, by row and place. -/
theorem semAt4_ag (c : Dev nD) (t : Fin 4) (h : ∀ a, (![t.val, c.val] : Fin 2 → ℕ) a + S1x1.size a ≤ S4x8.size a) :
    semAt4 cc0_scratch8 ![t.val, c.val] h = dsem (rowRa t) c := by revert c t; decide

/-- A send of one block, its computed places named. -/
theorem sendRs_step (κ : GSem nD τ sig → ℕ) (c : Dev nD) (t : Fin 4) (j : Fin 8) (Dq : Dev nD) (hD : Dq = rot c j.val)
    (oS oD : Fin 3 → ℕ) (oR : Fin 2 → ℕ) (hoS : oS = ![t.val % 2, 64 * (rot c j.val).val, 0]) (hoD : oD = ![t.val, 64 * c.val, 0]) (hoR : oR = ![t.val, c.val])
    (iS : ∀ a, oS a + S1x64x1024.size a ≤ S2x512x1024.size a) (iD : ∀ a, oD a + S1x64x1024.size a ≤ S4x512x1024.size a) (iR : ∀ a, oR a + S1x1.size a ≤ S4x8.size a)
    (hsrc : (tsSl oS iS).view.WordExact) (hdst : (rbSl rbM oD iD).view.WordExact)
    (hsem : DmaTarget.Typed .vmem (.dma (semAt4 cc0_scratch6 oR iR)) (.remote (Dev.tc Dq) (rbSl rbM oD iD) (.dma (ssem t j)) : DmaTarget nD τ sig (.tc) .vmem S64x1024 .bf16))
    (O : CellTallies nD τ sig Unit) (k : BodyProg F) (Q : PUnit → sProp 𝕄) :
    iprop(known I κ ∗ owing c (O + tallyAt (dcell (rot c j.val) (rowRs t) c) () N) ∗ seedRs c t j ∗ tsP c (half t) (rot c j.val) (TS I c t)
        ∗ reached ER (dcell c (rowSs (half t)) j) (t.val / 2))
      ⊢ iprop((owing c O ∗ cred (tallyAt (dcell c (rowSs (half t)) j) () N) -∗ Run c k Q)
        -∗ Run c (.op (.enqueueDma (tsSl oS iS) (.remote (Dev.tc Dq) (rbSl rbM oD iD) (.dma (ssem t j))) (.dma (semAt4 cc0_scratch6 oR iR)) hsrc hdst hsem) fun _ => k) Q) := by
  subst hoS hoD hoR
  unfold seedRs
  iintro ⟨#HK, HO, ⟨⟨%f, Hd⟩, HrD, HtD, HtS⟩, Hs, HrS⟩ Hk
  ihave Hs' := (Entails.of_eq (ts_pts c t (rot c j.val) (TS I c t)).symm) $$ Hs
  ihave Hd' := (Entails.of_eq (rb_pts (rot c j.val) t c f).symm) $$ Hd
  iapply (send_step I κ c (rot c j.val) (tsSl ![t.val % 2, 64 * (rot c j.val).val, 0] iS) (rbSl rbM ![t.val, 64 * c.val, 0] iD) (rowSs (half t)) (rowRs t) j c (t.val / 2)
      (rounds_Ss t) (rounds_Rs t) rfl fullShare (TS I c t) f
      (by rw [rowPay_ss]; exact Entails.of_eq (ts_pts c t (rot c j.val) (TS I c t)))
      (by rw [rowPay_rs]
          refine (Entails.of_eq (rb_pts (rot c j.val) t c _)).trans (Entails.of_eq ?_)
          exact pointsTo_congr fun i hi => land_rs I c (rot c j.val) t f i hi)
      Dq hD (ssem t j) (semAt4 cc0_scratch6 ![t.val, c.val] iR) (ssem_eq t j) (semAt4_rs c t iR) hsrc hdst hsem rfl k Q) $$ [HO HrD HtD HtS HrS Hs' Hd']
  · isplitr; · iexact HK
    isplitl [HO]; · iexact HO
    isplitl [Hs']; · iexact Hs'
    isplitl [Hd']; · iexact Hd'
    isplitl [HtS]; · iexact HtS
    isplitl [HrS]; · iexact HrS
    isplitl [HtD]; · iexact HtD
    iexact HrD
  iexact Hk

/-- **One send of reduced rows**: an eighth of the source and the target's block are lent, the landing's debt paid. -/
theorem sendAg_step (κ : GSem nD τ sig → ℕ) (c : Dev nD) (t : Fin 4) (j : Fin 8) (Dq : Dev nD) (hD : Dq = rot c j.val)
    (oD : Fin 3 → ℕ) (oR : Fin 2 → ℕ) (hoD : oD = ![t.val, 64 * c.val, 0]) (hoR : oR = ![t.val, c.val])
    (iD : ∀ a, oD a + S1x64x1024.size a ≤ S4x512x1024.size a) (iR : ∀ a, oR a + S1x1.size a ≤ S4x8.size a)
    (hsrc : (asSl ![t.val % 2, 0, 0] (inbAs t)).view.WordExact) (hdst : (rbSl abM oD iD).view.WordExact)
    (hsem : DmaTarget.Typed .vmem (.dma (semAt4 cc0_scratch8 oR iR)) (.remote (Dev.tc Dq) (rbSl abM oD iD) (.dma (asem t j)) : DmaTarget nD τ sig (.tc) .vmem S64x1024 .bf16))
    (O : CellTallies nD τ sig Unit) (k : BodyProg F) (Q : PUnit → sProp 𝕄) :
    iprop(known I κ ∗ owing c (O + tallyAt (dcell (rot c j.val) (rowRa t) c) () N) ∗ seedAg c t j ∗ asP c (half t) (eighth j) (AS I c t)
        ∗ reached ER (dcell c (rowSa (half t)) j) (t.val / 2))
      ⊢ iprop((owing c O ∗ cred (tallyAt (dcell c (rowSa (half t)) j) () N) -∗ Run c k Q)
        -∗ Run c (.op (.enqueueDma (asSl ![t.val % 2, 0, 0] (inbAs t)) (.remote (Dev.tc Dq) (rbSl abM oD iD) (.dma (asem t j))) (.dma (semAt4 cc0_scratch8 oR iR)) hsrc hdst hsem) fun _ => k) Q) := by
  subst hoD hoR
  unfold seedAg
  iintro ⟨#HK, HO, ⟨⟨%f, Hd⟩, HrD, HtD, HtS⟩, Hs, HrS⟩ Hk
  ihave Hs' := (Entails.of_eq (as_pts c t (eighth j) (AS I c t)).symm) $$ Hs
  ihave Hd' := (Entails.of_eq (ab_pts (rot c j.val) t c f).symm) $$ Hd
  iapply (send_step I κ c (rot c j.val) (asSl ![t.val % 2, 0, 0] (inbAs t)) (rbSl abM ![t.val, 64 * c.val, 0] iD) (rowSa (half t)) (rowRa t) j c (t.val / 2)
      (rounds_Sa t) (rounds_Ra t) rfl (eighth j) (AS I c t) f
      (by rw [rowPay_sa]; exact Entails.of_eq (as_pts c t (eighth j) (AS I c t)))
      (by rw [rowPay_ra]
          refine (Entails.of_eq (ab_pts (rot c j.val) t c _)).trans (Entails.of_eq ?_)
          exact pointsTo_congr fun i hi => land_ag I c t f i hi)
      Dq hD (asem t j) (semAt4 cc0_scratch8 ![t.val, c.val] iR) (asem_eq t j) (semAt4_ag c t iR) hsrc hdst hsem rfl k Q) $$ [HO HrD HtD HtS HrS Hs' Hd']
  · isplitr; · iexact HK
    isplitl [HO]; · iexact HO
    isplitl [Hs']; · iexact Hs'
    isplitl [Hd']; · iexact Hd'
    isplitl [HtS]; · iexact HtS
    isplitl [HrS]; · iexact HrS
    isplitl [HtD]; · iexact HtD
    iexact HrD
  iexact Hk

/-- **A tile's sends of partial products**, one to each device on the list. -/
theorem sendsRs_run (κ : GSem nD τ sig → ℕ) (c : Dev nD) (t : Fin 4) (O : CellTallies nD τ sig Unit) (k : BodyProg F) (Q : PUnit → sProp 𝕄) : ∀ l,
    iprop(known I κ ∗ owing c (O + dueRs c t l) ∗ bigSepL l (seedRs c t) ∗ (bigSepL l fun j => tsP c (half t) (rot c j.val) (TS I c t))
        ∗ poss (rowSs (half t)) c (t.val / 2) l)
      ⊢ iprop((owing c O ∗ poss (rowSs (half t)) c (t.val / 2) l ∗ creds (rowSs (half t)) c l -∗ Run c k Q) -∗ Run c (sendsRs c t l k) Q)
  | [] => by
    unfold sendsRs dueRs poss creds
    rw [bigSepL_nil, bigSepL_nil, bigSepL_nil, bigSepL_nil, add_zero]
    iintro ⟨-, HO, -, -, -⟩ Hk
    iapply Hk
    isplitl [HO]; · iexact HO
    isplitl [] <;> iempintro
  | j :: js => by
    unfold sendsRs dueRs poss creds
    rw [bigSepL_cons', bigSepL_cons', bigSepL_cons', bigSepL_cons', ← add_assoc]
    iintro ⟨#HK, HO, ⟨Hd, Hds⟩, ⟨Hs, Hss⟩, ⟨⟨Hat, #Hr⟩, Hats⟩⟩ Hk
    iapply (sendRs_step I κ c t j (devRs c t j) (devRs_eq c t j) (offS c j t) (offD c t) (offR c t) (offS_eq c t j) (offD_eq c t) (offR_eq c t)
      (inbS c t j) (inbD c t) (inbR c t) _ _ _ (O + dueRs c t js) (sendsRs c t js k) Q) $$ [HO Hd Hs]
    · isplitr; · iexact HK
      isplitl [HO]; · iexact HO
      isplitl [Hd]; · iexact Hd
      isplitl [Hs]; · iexact Hs
      iexact Hr
    iintro ⟨HO, Hc⟩
    iapply (sendsRs_run κ c t O k Q js) $$ [HO Hds Hss Hats]
    · isplitr; · iexact HK
      isplitl [HO]; · iexact HO
      isplitl [Hds]; · iexact Hds
      isplitl [Hss]; · iexact Hss
      unfold poss; iexact Hats
    iintro ⟨HO, Hats, Hcs⟩
    iapply Hk
    isplitl [HO]; · iexact HO
    isplitl [Hat Hats]
    · isplitl [Hat]
      · isplitl [Hat]; · iexact Hat
        iexact Hr
      unfold poss; iexact Hats
    isplitl [Hc]; · iexact Hc
    unfold creds; iexact Hcs

/-- **A tile's sends of reduced rows**, one to each device on the list. -/
theorem sendsAg_run (κ : GSem nD τ sig → ℕ) (c : Dev nD) (t : Fin 4) (O : CellTallies nD τ sig Unit) (k : BodyProg F) (Q : PUnit → sProp 𝕄) : ∀ l,
    iprop(known I κ ∗ owing c (O + dueAg c t l) ∗ bigSepL l (seedAg c t) ∗ (bigSepL l fun j => asP c (half t) (eighth j) (AS I c t))
        ∗ poss (rowSa (half t)) c (t.val / 2) l)
      ⊢ iprop((owing c O ∗ poss (rowSa (half t)) c (t.val / 2) l ∗ creds (rowSa (half t)) c l -∗ Run c k Q) -∗ Run c (sendsAg c t l k) Q)
  | [] => by
    unfold sendsAg dueAg poss creds
    rw [bigSepL_nil, bigSepL_nil, bigSepL_nil, bigSepL_nil, add_zero]
    iintro ⟨-, HO, -, -, -⟩ Hk
    iapply Hk
    isplitl [HO]; · iexact HO
    isplitl [] <;> iempintro
  | j :: js => by
    unfold sendsAg dueAg poss creds
    rw [bigSepL_cons', bigSepL_cons', bigSepL_cons', bigSepL_cons', ← add_assoc]
    iintro ⟨#HK, HO, ⟨Hd, Hds⟩, ⟨Hs, Hss⟩, ⟨⟨Hat, #Hr⟩, Hats⟩⟩ Hk
    iapply (sendAg_step I κ c t j (devAg c t j) (devAg_eq c t j) (offD c t) (offR c t) (offD_eq c t) (offR_eq c t)
      (inbD c t) (inbR c t) _ _ _ (O + dueAg c t js) (sendsAg c t js k) Q) $$ [HO Hd Hs]
    · isplitr; · iexact HK
      isplitl [HO]; · iexact HO
      isplitl [Hd]; · iexact Hd
      isplitl [Hs]; · iexact Hs
      iexact Hr
    iintro ⟨HO, Hc⟩
    iapply (sendsAg_run κ c t O k Q js) $$ [HO Hds Hss Hats]
    · isplitr; · iexact HK
      isplitl [HO]; · iexact HO
      isplitl [Hds]; · iexact Hds
      isplitl [Hss]; · iexact Hss
      unfold poss; iexact Hats
    iintro ⟨HO, Hats, Hcs⟩
    iapply Hk
    isplitl [HO]; · iexact HO
    isplitl [Hat Hats]
    · isplitl [Hat]
      · isplitl [Hat]; · iexact Hat
        iexact Hr
      unfold poss; iexact Hats
    isplitl [Hc]; · iexact Hc
    unfold creds; iexact Hcs

end Cert.KernelIdeal.Gen.Fused

end
-- ==== Proof.PhaseKernelIdeal.lean ====
module

public import proofs.«01_k».proof.Proof.StretchKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # The body's phases -/

variable (I : Dev nD → Ins F)

/-! ## A tile's compute -/

/-- The five argument windows. -/
def insP (c : Dev nD) : sProp 𝕄 :=
  iprop((xM.view.loc (c : Thread nD τ) ↦[Finset.univ]{fullShare} (I c).x) ∗ (wqM.view.loc (c : Thread nD τ) ↦[Finset.univ]{fullShare} (I c).wq)
    ∗ (kM.view.loc (c : Thread nD τ) ↦[Finset.univ]{fullShare} (I c).k) ∗ (vM.view.loc (c : Thread nD τ) ↦[Finset.univ]{fullShare} (I c).v)
    ∗ (woM.view.loc (c : Thread nD τ) ↦[Finset.univ]{fullShare} (I c).wo))
/-- The contexts' buffer. -/
def ctxP (c : Dev nD) (f : S512x1024.Idx → F .bf16) : sProp 𝕄 := ctxM.view.loc (c : Thread nD τ) ↦[Finset.univ]{fullShare} f
/-- A half of the partial products to send, whole. -/
def tsH (c : Dev nD) (b : Fin 2) (f : S2x512x1024.Idx → F .bf16) : sProp 𝕄 := tsM.view.loc (c : Thread nD τ) ↦[setTb b]{fullShare} f
/-- A half of the reduced rows to send, whole. -/
def asH (c : Dev nD) (b : Fin 2) (f : S2x64x1024.Idx → F .bf16) : sProp 𝕄 := asM.view.loc (c : Thread nD τ) ↦[setA b]{fullShare} f
/-- A tile of the result. -/
def outP (c : Dev nD) (t : Fin 4) (f : S2048x1024.Idx → F .f32) : sProp 𝕄 := outM.view.loc (c : Thread nD τ) ↦[setO t]{fullShare} f

/-- A column's head is one of the eight. -/
theorem headOf_mem (n : ℕ) : headOf n ∈ all8 := by
  generalize headOf n = h; revert h; decide

/-- **One head of a tile** writes its columns of the contexts. -/
theorem headK_run (c : Dev nD) (t : Fin 4) (h : Fin 8) (f : S512x1024.Idx → F .bf16) (k : BodyProg F) (Q : PUnit → sProp 𝕄) :
    iprop(insP I c ∗ ctxP c f)
      ⊢ iprop((insP I c ∗ ctxP c ((ctxM.access (rCtx h)).write (Elt F) f (HD I c t h) Finset.univ) -∗ Run c k Q)
        -∗ Run c (headK t ((xM.access (rRows t)).read (Elt F) (I c).x) h k) Q) := by
  unfold headK insP ctxP
  iintro ⟨⟨Hx, Hwq, Hk', Hv, Hwo⟩, Hc⟩ Hk
  iapply (wp_load_rect 𝒱₀ (c : Thread nD τ) none Set.univ (m := wqM) (r := rWq h) (S := Finset.univ) (Finset.subset_univ _)) $$ Hwq
  iintro Hwq
  iapply (wp_load_rect 𝒱₀ (c : Thread nD τ) none Set.univ (m := kM) (r := rKv t h) (S := Finset.univ) (Finset.subset_univ _)) $$ Hk'
  iintro Hk'
  iapply (wp_load_rect 𝒱₀ (c : Thread nD τ) none Set.univ (m := vM) (r := rKv t h) (S := Finset.univ) (Finset.subset_univ _)) $$ Hv
  iintro Hv
  iapply (wp_load_rect 𝒱₀ (c : Thread nD τ) none Set.univ (m := ctxM) (r := rCtx h) (S := Finset.univ) (Finset.subset_univ _)) $$ Hc
  iintro Hc
  iapply (wp_store 𝒱₀ (c : Thread nD τ) none Set.univ (m := ctxM) (r := rCtx h) (S := Finset.univ) (Finset.subset_univ _)) $$ Hc
  iintro Hc
  iapply Hk
  isplitl [Hx Hwq Hk' Hv Hwo]
  · isplitl [Hx]; · iexact Hx
    isplitl [Hwq]; · iexact Hwq
    isplitl [Hk']; · iexact Hk'
    isplitl [Hv]; · iexact Hv
    iexact Hwo
  iexact Hc

/-- **A tile's heads**: once the listed heads are done, the contexts are complete. -/
theorem headsK_run (c : Dev nD) (t : Fin 4) (k : BodyProg F) (Q : PUnit → sProp 𝕄) : ∀ (l : List (Fin 8)) (f : S512x1024.Idx → F .bf16),
    (∀ i : S512x1024.Idx, headOf (i 1).val ∉ l → f i = CX I c t i) →
    (iprop(insP I c ∗ ctxP c f)
      ⊢ iprop((insP I c ∗ ctxP c (CX I c t) -∗ Run c k Q)
        -∗ Run c (headsK t ((xM.access (rRows t)).read (Elt F) (I c).x) l k) Q))
  | [], f, hf => by
    unfold headsK
    rw [show f = CX I c t from funext fun i => hf i List.not_mem_nil]
    iintro H Hk
    iapply Hk
    iexact H
  | h :: hs, f, hf => by
    unfold headsK
    iintro H Hk
    iapply (headK_run I c t h f (headsK t ((xM.access (rRows t)).read (Elt F) (I c).x) hs k) Q) $$ H
    iintro H
    iapply (headsK_run c t k Q hs ((ctxM.access (rCtx h)).write (Elt F) f (HD I c t h) Finset.univ) (fun i hi => store_ctx I c t h f i (by
      by_cases e : headOf (i 1).val = h
      · exact Or.inl e
      · exact Or.inr (hf i fun hm => (List.mem_cons.mp hm).elim e hi)))) $$ H
    iexact Hk

/-- A half of the send buffer is its eight blocks, in the order of the sends. -/
theorem tsH_split (c : Dev nD) (t : Fin 4) (f : S2x512x1024.Idx → F .bf16) :
    (tsH c (half t) f : sProp 𝕄) = bigSepL all8 fun j => tsP c (half t) (rot c j.val) f := by
  rw [sepL_rot c (fun s => tsP c (half t) s f)]
  unfold tsH tsP
  rw [setTb_eq]
  exact pointsTo_biUnion _ _ fun s _ s' _ h => setT_disj (half t) s s' h

/-- The stored partial product is the half's contents. -/
theorem ts_stored (c : Dev nD) (t : Fin 4) (g : S2x512x1024.Idx → F .bf16) :
    ((tsM.access (rTs t)).loc (c : Thread nD τ) ↦[setTb (half t)]{fullShare} (tsM.access (rTs t)).write (Elt F) g
        (projT ((ctxM.access rCtxAll).read (Elt F) (CX I c t)) ((woM.access rWo).read (Elt F) (I c).wo)) Finset.univ : sProp 𝕄)
      ⊢ tsH c (half t) (TS I c t) :=
  Entails.of_eq (pointsTo_congr fun i hi => store_ts I c t g i hi)

/-- **A tile's computation** leaves its partial product in its half of the send buffer, a block for each device. -/
theorem tileK_run (c : Dev nD) (t : Fin 4) (k : BodyProg F) (Q : PUnit → sProp 𝕄) :
    iprop(insP I c ∗ (∃ f, ctxP c f) ∗ (∃ f, tsH c (half t) f))
      ⊢ iprop((insP I c ∗ (∃ f, ctxP c f) ∗ (bigSepL all8 fun j => tsP c (half t) (rot c j.val) (TS I c t)) -∗ Run c k Q)
        -∗ Run c (tileK t k) Q) := by
  unfold tileK
  iintro ⟨Hin, ⟨%f, Hc⟩, ⟨%g, Ht⟩⟩ Hk
  unfold insP
  icases Hin with ⟨Hx, Hr⟩
  iapply (wp_load_rect 𝒱₀ (c : Thread nD τ) none Set.univ (m := xM) (r := rRows t) (S := Finset.univ) (Finset.subset_univ _)) $$ Hx
  iintro Hx
  iapply (headsK_run I c t _ Q all8 f (fun i hi => absurd (headOf_mem _) hi)) $$ [Hx Hr Hc]
  · unfold insP
    isplitl [Hx Hr]
    · isplitl [Hx]; · iexact Hx
      iexact Hr
    iexact Hc
  iintro ⟨Hin, Hc⟩
  unfold insP ctxP tsH
  icases Hin with ⟨Hx, Hwq, Hk', Hv, Hwo⟩
  iapply (wp_load_rect 𝒱₀ (c : Thread nD τ) none Set.univ (m := ctxM) (r := rCtxAll) (S := Finset.univ) (Finset.subset_univ _)) $$ Hc
  iintro Hc
  iapply (wp_load_rect 𝒱₀ (c : Thread nD τ) none Set.univ (m := woM) (r := rWo) (S := Finset.univ) (Finset.subset_univ _)) $$ Hwo
  iintro Hwo
  have hs : (tsM.access (rTs t)).set ⊆ setTb (half t) := by rw [View.set_slice_whole]; exact Finset.Subset.refl _
  iapply (wp_load_rect 𝒱₀ (c : Thread nD τ) none Set.univ (m := tsM) (r := rTs t) (S := setTb (half t)) hs) $$ Ht
  iintro Ht
  iapply (wp_store 𝒱₀ (c : Thread nD τ) none Set.univ (m := tsM) (r := rTs t) (Mk := Finset.univ) (S := setTb (half t)) (by rw [View.setOn_univ]; exact hs)) $$ Ht
  iintro Ht
  iapply Hk
  isplitl [Hx Hwq Hk' Hv Hwo]
  · isplitl [Hx]; · iexact Hx
    isplitl [Hwq]; · iexact Hwq
    isplitl [Hk']; · iexact Hk'
    isplitl [Hv]; · iexact Hv
    iexact Hwo
  isplitl [Hc]; · iexists _; iexact Hc
  rw [← tsH_split]
  iapply (ts_stored I c t g)
  iexact Ht

/-! ## The sum of the partial products -/

/-- **The reduction** adds the received blocks in the order of the devices. -/
theorem sumK_run (c : Dev nD) (t : Fin 4) (k : FVec F S64x1024 .f32 → BodyProg F) (Q : PUnit → sProp 𝕄) : ∀ (l : List (Fin 8)) (a : FVec F S64x1024 .f32),
    (bigSepL l fun s => rbP c t s (RB I c))
      ⊢ iprop(((bigSepL l fun s => rbP c t s (RB I c)) -∗ Run c (k (SM I c t l a)) Q)
        -∗ Run c (sumK t l a k) Q)
  | [], a => by
    unfold sumK
    iintro H Hk
    iapply Hk
    iexact H
  | s :: ss, a => by
    unfold sumK
    rw [bigSepL_cons']
    iintro ⟨H, Hs⟩ Hk
    unfold rbP
    iapply (wp_load_rect 𝒱₀ (c : Thread nD τ) none Set.univ (m := rbM) (r := rRb t s) (S := setB t s) (by rw [View.set_slice_whole]; exact Finset.Subset.refl _)) $$ H
    iintro H
    iapply (sumK_run c t k Q ss (accT a ((rbM.access (rRb t s)).read (Elt F) (RB I c)))) $$ [Hs]
    · unfold rbP; iexact Hs
    iintro Hs
    iapply Hk
    isplitl [H]; · iexact H
    unfold rbP; iexact Hs

/-! ## The second half of a tile's reduction -/

/-- A buffer's piece is its eight equal shares. -/
theorem eight_shares {ℓ : Loc nD τ sig} (S : Finset (Idx ℓ)) (f : Buf (Elt F) ℓ) :
    (ℓ ↦[S]{fullShare} f : sProp 𝕄) = bigSep Finset.univ fun j : Fin 8 => ℓ ↦[S]{eighth j} f :=
  ShareLeaves.pointsTo_leaves S f 3 fullShare

/-- A half of the reduced rows' buffer is eight shares, one for each send. -/
theorem asH_split (c : Dev nD) (t : Fin 4) (f : S2x64x1024.Idx → F .bf16) :
    (asH c (half t) f : sProp 𝕄) = bigSepL all8 fun j => asP c (half t) (eighth j) f := by
  refine Eq.trans ?_ (sepL_all8 fun j => asP c (half t) (eighth j) f).symm
  unfold asH asP
  exact eight_shares _ _

/-- The partial products' sends return the half of the send buffer. -/
theorem pays_ss (c : Dev nD) (t : Fin 4) : pays I (rowSs (half t)) c (t.val / 2) all8 = tsH c (half t) (TS I c t) := by
  unfold pays
  rw [tsH_split]
  exact congrArg (bigSepL all8) (funext fun j => rowPay_ss I c t j)
/-- The reduced rows' sends return the half of their buffer. -/
theorem pays_sa (c : Dev nD) (t : Fin 4) : pays I (rowSa (half t)) c (t.val / 2) all8 = asH c (half t) (AS I c t) := by
  unfold pays
  rw [asH_split]
  exact congrArg (bigSepL all8) (funext fun j => rowPay_sa I c t j)
/-- The partial products' landings hand over the tile's eight blocks. -/
theorem pays_rs (c : Dev nD) (t : Fin 4) : pays I (rowRs t) c 0 all8 = bigSepL all8 fun s => rbP c t s (RB I c) := by
  unfold pays
  exact congrArg (bigSepL all8) (funext fun j => rowPay_rs I c t j 0)
/-- A tile of the received reduced rows. -/
def abH (c : Dev nD) (t : Fin 4) (f : S4x512x1024.Idx → F .bf16) : sProp 𝕄 := abM.view.loc (c : Thread nD τ) ↦[setBt t]{fullShare} f
/-- The reduced rows' landings hand over the tile's part whole. -/
theorem pays_ra (c : Dev nD) (t : Fin 4) : pays I (rowRa t) c 0 all8 = abH c t (AB I) := by
  unfold pays
  rw [show (fun j => rowPay I (rowRa t) c j 0) = fun j => abP c t j (AB I) from funext fun j => rowPay_ra I c t j 0, sepL_all8]
  unfold abH abP
  rw [setBt_eq]
  exact (pointsTo_biUnion _ _ fun s _ s' _ h => setB_disj t s s' h).symm

/-- The stored sum is the half's contents, in eight shares. -/
theorem as_stored (c : Dev nD) (t : Fin 4) (f : S2x64x1024.Idx → F .bf16) :
    ((asM.access (rAs t)).loc (c : Thread nD τ) ↦[setA (half t)]{fullShare} (asM.access (rAs t)).write (Elt F) f (redT (SM I c t all8 acc0)) Finset.univ : sProp 𝕄)
      ⊢ bigSepL all8 fun j => asP c (half t) (eighth j) (AS I c t) := by
  rw [← asH_split]
  exact Entails.of_eq (pointsTo_congr fun i hi => store_as I c t f i hi)
/-- The stored rows are the result's. -/
theorem out_stored (c : Dev nD) (t : Fin 4) (f : S2048x1024.Idx → F .f32) :
    ((outM.access (rRows t)).loc (c : Thread nD τ) ↦[setO t]{fullShare} (outM.access (rRows t)).write (Elt F) f
        (outT ((abM.access (rAb t)).read (Elt F) (AB I))) Finset.univ : sProp 𝕄)
      ⊢ outP c t (OUT I) :=
  Entails.of_eq (pointsTo_congr fun i hi => store_out I t f i hi)
/-- The partial products' sends are waited for at the lowest level, -/
theorem lvl_Ss (t : Fin 4) : rowLv (rowSs (half t)) ≤ 0 := by revert t; decide
/-- and the reduced rows' too. -/
theorem lvl_Sa (t : Fin 4) : rowLv (rowSa (half t)) ≤ 0 := by revert t; decide

/-- **The reduce-scatter of a tile**: its landings waited for, summed and sent on, and its sends drained. -/
theorem finishRs_run (κ : GSem nD τ sig → ℕ) (c : Dev nD) (t : Fin 4) {n : ℕ} {O : CellTallies nD τ sig Unit} (hO : Above n (O + dueAg c t all8)) (hn : rowLv (rowRs t) ≤ n)
    (k : BodyProg F) (Q : PUnit → sProp 𝕄) :
    iprop(known I κ ∗ owing c (O + dueAg c t all8) ∗ creds (rowRs t) c all8 ∗ poss (rowRs t) c 0 all8 ∗ bigSepL all8 (seedAg c t) ∗ (∃ f, asH c (half t) f)
        ∗ poss (rowSa (half t)) c (t.val / 2) all8 ∗ creds (rowSs (half t)) c all8 ∗ poss (rowSs (half t)) c (t.val / 2) all8)
      ⊢ iprop((owing c O ∗ poss (rowRs t) c 1 all8 ∗ (bigSepL all8 fun s => rbP c t s (RB I c)) ∗ poss (rowSa (half t)) c (t.val / 2) all8 ∗ creds (rowSa (half t)) c all8
          ∗ poss (rowSs (half t)) c (t.val / 2 + 1) all8 ∗ (∃ f, tsH c (half t) f) -∗ Run c k Q)
        -∗ Run c (finishRs c t k) Q) := by
  unfold finishRs
  iintro ⟨#HK, HO, HcR, HpR, Hseed, ⟨%f, Has⟩, HpA, HcS, HpS⟩ Hk
  rw [waitsRs_eq]
  iapply (waits_run I κ c (rowRs t) 0 (rounds_Rs t) hO hn (rsem t) (rsem_eq t) (fun s => rbSl rbM ![t.val, 64 * s.val, 0] (inbB t s)) (fun _ => rfl) _ Q all8) $$ [HO HcR HpR]
  · isplitr; · iexact HK
    isplitl [HO]; · iexact HO
    isplitl [HcR]; · iexact HcR
    iexact HpR
  iintro ⟨HO, HpR, Hpay⟩
  ihave Hrb := (Entails.of_eq (pays_rs I c t)) $$ Hpay
  iapply (sumK_run I c t _ Q all8 acc0) $$ Hrb
  iintro Hrb
  unfold asH
  have hs : (asM.access (rAs t)).set ⊆ setA (half t) := by rw [View.set_slice_whole]; exact Finset.Subset.refl _
  iapply (wp_load_rect 𝒱₀ (c : Thread nD τ) none Set.univ (m := asM) (r := rAs t) (S := setA (half t)) hs) $$ Has
  iintro Has
  iapply (wp_store 𝒱₀ (c : Thread nD τ) none Set.univ (m := asM) (r := rAs t) (Mk := Finset.univ) (S := setA (half t)) (by rw [View.setOn_univ]; exact hs)) $$ Has
  iintro Has
  ihave Has' := (as_stored I c t f) $$ Has
  iapply (sendsAg_run I κ c t O (drainRs t all8 k) Q all8) $$ [HO Hseed Has' HpA]
  · isplitr; · iexact HK
    isplitl [HO]; · iexact HO
    isplitl [Hseed]; · iexact Hseed
    isplitl [Has']; · iexact Has'
    iexact HpA
  iintro ⟨HO, HpA, HcA⟩
  rw [drainRs_eq]
  have hO' : Above 0 O := fun g u hg => by
    have h := hO g u (by rw [Pi.add_apply, Finsupp.add_apply]; exact Nat.add_pos_left hg _)
    exact ⟨h.1, Nat.lt_of_le_of_lt (Nat.zero_le n) h.2⟩
  iapply (waits_run I κ c (rowSs (half t)) (t.val / 2) (rounds_Ss t) hO' (lvl_Ss t) (ssem t) (ssem_eq t) (fun j => tsSl ![t.val % 2, 64 * j.val, 0] (inbT t j)) (fun _ => rfl) k Q all8) $$ [HO HcS HpS]
  · isplitr; · iexact HK
    isplitl [HO]; · iexact HO
    isplitl [HcS]; · iexact HcS
    iexact HpS
  iintro ⟨HO, HpS, Hpay⟩
  ihave Hts := (Entails.of_eq (pays_ss I c t)) $$ Hpay
  iapply Hk
  isplitl [HO]; · iexact HO
  isplitl [HpR]; · iexact HpR
  isplitl [Hrb]; · iexact Hrb
  isplitl [HpA]; · iexact HpA
  isplitl [HcA]; · iexact HcA
  isplitl [HpS]; · iexact HpS
  iexists _; iexact Hts

/-- **The all-gather of a tile**: its landings waited for and stored in the result, and its sends drained. -/
theorem finishAg_run (κ : GSem nD τ sig → ℕ) (c : Dev nD) (t : Fin 4) {n : ℕ} {O : CellTallies nD τ sig Unit} (hO : Above n O) (hn : rowLv (rowRa t) ≤ n)
    (k : BodyProg F) (Q : PUnit → sProp 𝕄) :
    iprop(known I κ ∗ owing c O ∗ creds (rowRa t) c all8 ∗ poss (rowRa t) c 0 all8 ∗ (∃ f, outP c t f)
        ∗ poss (rowSa (half t)) c (t.val / 2) all8 ∗ creds (rowSa (half t)) c all8)
      ⊢ iprop((owing c O ∗ poss (rowRa t) c 1 all8 ∗ abH c t (AB I) ∗ outP c t (OUT I) ∗ poss (rowSa (half t)) c (t.val / 2 + 1) all8 ∗ (∃ f, asH c (half t) f) -∗ Run c k Q)
        -∗ Run c (finishAg t k) Q) := by
  unfold finishAg
  iintro ⟨#HK, HO, HcR, HpR, ⟨%f, Hout⟩, HpA, HcA⟩ Hk
  rw [waitsAg_eq]
  iapply (waits_run I κ c (rowRa t) 0 (rounds_Ra t) hO hn (gsem t) (gsem_eq t) (fun s => rbSl abM ![t.val, 64 * s.val, 0] (inbB t s)) (fun _ => rfl) _ Q all8) $$ [HO HcR HpR]
  · isplitr; · iexact HK
    isplitl [HO]; · iexact HO
    isplitl [HcR]; · iexact HcR
    iexact HpR
  iintro ⟨HO, HpR, Hpay⟩
  ihave Hab := (Entails.of_eq (pays_ra I c t)) $$ Hpay
  unfold abH outP
  iapply (wp_load_rect 𝒱₀ (c : Thread nD τ) none Set.univ (m := abM) (r := rAb t) (S := setBt t) (by rw [View.set_slice_whole]; exact Finset.Subset.refl _)) $$ Hab
  iintro Hab
  have hs : (outM.access (rRows t)).set ⊆ setO t := by rw [View.set_slice_whole]; exact Finset.Subset.refl _
  iapply (wp_load_rect 𝒱₀ (c : Thread nD τ) none Set.univ (m := outM) (r := rRows t) (S := setO t) hs) $$ Hout
  iintro Hout
  iapply (wp_store 𝒱₀ (c : Thread nD τ) none Set.univ (m := outM) (r := rRows t) (Mk := Finset.univ) (S := setO t) (by rw [View.setOn_univ]; exact hs)) $$ Hout
  iintro Hout
  ihave Hout' := (out_stored I c t f) $$ Hout
  rw [drainAg_eq]
  iapply (waits_run I κ c (rowSa (half t)) (t.val / 2) (rounds_Sa t) (above_mono (Nat.zero_le n) hO) (lvl_Sa t) (asem t) (asem_eq t) (fun _ => asSl ![t.val % 2, 0, 0] (inbAs t)) (fun _ => rfl) k Q all8) $$ [HO HcA HpA]
  · isplitr; · iexact HK
    isplitl [HO]; · iexact HO
    isplitl [HcA]; · iexact HcA
    iexact HpA
  iintro ⟨HO, HpA, Hpay⟩
  ihave Has := (Entails.of_eq (pays_sa I c t)) $$ Hpay
  iapply Hk
  isplitl [HO]; · iexact HO
  isplitl [HpR]; · iexact HpR
  isplitl [Hab]; · iexact Hab
  isplitl [Hout']; · unfold outP; iexact Hout'
  isplitl [HpA]; · iexact HpA
  iexists _; iexact Has

/-! ## The barrier -/

/-- What each signal needs: the duty at the other device's barrier, and the blocks handed over. -/
def seedBar (c : Dev nD) (j : Fin 7) : sProp 𝕄 :=
  iprop(dutyTok ER (barCell (rot c (j.val + 1))) 0 c ∗ barPay c (rot c (j.val + 1)))

/-- No device is one of the seven after it. -/
theorem rot_ne (c : Dev nD) (j : Fin 7) : c ≠ rot c (j.val + 1) := by revert c j; decide

/-- **The barrier's signals**, one to each device on the list. -/
theorem signals_run (κ : GSem nD τ sig → ℕ) (c : Dev nD) (O : CellTallies nD τ sig Unit) (k : BodyProg F) (Q : PUnit → sProp 𝕄) : ∀ l,
    iprop(known I κ ∗ owing c (O + dueBar c l) ∗ bigSepL l (seedBar c))
      ⊢ iprop((owing c O -∗ Run c k Q) -∗ Run c (signals c l k) Q)
  | [] => by
    unfold signals dueBar
    rw [add_zero]
    iintro ⟨-, HO, -⟩ Hk
    iapply Hk
    iexact HO
  | j :: js => by
    unfold signals dueBar
    rw [bigSepL_cons', ← add_assoc]
    iintro ⟨#HK, HO, ⟨Hd, Hds⟩⟩ Hk
    unfold seedBar
    iapply (signal_step I κ c (rot c (j.val + 1)) (rot_ne c j) (devBar c j) (devBar_eq c j) rfl (signals c js k) Q) $$ [HO Hd]
    · isplitr; · iexact HK
      isplitl [HO]; · iexact HO
      iexact Hd
    iintro HO
    iapply (signals_run κ c O k Q js) $$ [HO Hds]
    · isplitr; · iexact HK
      isplitl [HO]; · iexact HO
      unfold seedBar; iexact Hds
    iexact Hk

/-- **The barrier**: seven signals sent and seven waited for, and every other device's blocks received. -/
theorem barrier_run (κ : GSem nD τ sig → ℕ) (c : Dev nD) {O : CellTallies nD τ sig Unit} (hO : Above 1 O) (k : BodyProg F) (Q : PUnit → sProp 𝕄) :
    iprop(known I κ ∗ owing c (O + dueBar c [0, 1, 2, 3, 4, 5, 6]) ∗ bigSepL [0, 1, 2, 3, 4, 5, 6] (seedBar c) ∗ cred (tallyAt (barCell c) () 7) ∗ atPos ER (barCell c) 0 ∅ 0)
      ⊢ iprop((owing c O ∗ atPos ER (barCell c) 1 ∅ 0 ∗ (bigSep (Finset.univ.erase c) fun p : Dev nD => barPay p c) -∗ Run c k Q)
        -∗ Run c (barrier c k) Q) := by
  unfold barrier
  iintro ⟨#HK, HO, Hs, Hc, Hat⟩ Hk
  iapply (signals_run I κ c O _ Q [0, 1, 2, 3, 4, 5, 6]) $$ [HO Hs]
  · isplitr; · iexact HK
    isplitl [HO]; · iexact HO
    iexact Hs
  iintro HO
  iapply (barrier_step I κ c hO k Q) $$ [HO Hc Hat]
  · isplitr; · iexact HK
    isplitl [HO]; · iexact HO
    isplitl [Hc]; · iexact Hc
    iexact Hat
  iexact Hk

end Cert.KernelIdeal.Gen.Fused

end
-- ==== Proof.BookKernelIdeal.lean ====
module

public import proofs.«01_k».proof.Proof.PhaseKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # The whole body -/

variable (I : Dev nD → Ins F)

/-! ## What the body starts from -/

/-- The duties of a tile's sends of partial products. -/
def tokRs (c : Dev nD) (t : Fin 4) : sProp 𝕄 :=
  bigSepL all8 fun j => iprop(dutyTok ER (dcell (rot c j.val) (rowRs t) c) 0 0 ∗ dutyTok ER (dcell c (rowSs (half t)) j) (t.val / 2) 0)
/-- The duties of a tile's sends of reduced rows. -/
def tokAg (c : Dev nD) (t : Fin 4) : sProp 𝕄 :=
  bigSepL all8 fun j => iprop(dutyTok ER (dcell (rot c j.val) (rowRa t) c) 0 0 ∗ dutyTok ER (dcell c (rowSa (half t)) j) (t.val / 2) 0)

/-- What is left to pay before each phase, last phase first. -/
def O8 (c : Dev nD) : CellTallies nD τ sig Unit := 0 + dueAg c 3 all8
/-- What is left to pay with tile 2's reduced rows. -/
def O7 (c : Dev nD) : CellTallies nD τ sig Unit := O8 c + dueAg c 2 all8
/-- What is left to pay with tile 3's partial products. -/
def O6 (c : Dev nD) : CellTallies nD τ sig Unit := O7 c + dueRs c 3 all8
/-- What is left to pay with tile 1's reduced rows. -/
def O5 (c : Dev nD) : CellTallies nD τ sig Unit := O6 c + dueAg c 1 all8
/-- What is left to pay with tile 2's partial products. -/
def O4 (c : Dev nD) : CellTallies nD τ sig Unit := O5 c + dueRs c 2 all8
/-- What is left to pay with tile 0's reduced rows. -/
def O3 (c : Dev nD) : CellTallies nD τ sig Unit := O4 c + dueAg c 0 all8
/-- What is left to pay with tile 1's partial products. -/
def O2 (c : Dev nD) : CellTallies nD τ sig Unit := O3 c + dueRs c 1 all8
/-- What is left to pay with tile 0's partial products, which is all that is left after the barrier. -/
def O1 (c : Dev nD) : CellTallies nD τ sig Unit := O2 c + dueRs c 0 all8
/-- Everything a device will pay. -/
def O₀ (c : Dev nD) : CellTallies nD τ sig Unit := O1 c + dueBar c [0, 1, 2, 3, 4, 5, 6]

/-- What is owed then is above level 8. -/
theorem above8 (c : Dev nD) : Above 8 (O8 c) := above_add (above_zero _) (above_dueAg c 3 (by decide) _)
/-- What is owed then is above level 7. -/
theorem above7 (c : Dev nD) : Above 7 (O7 c) := above_add (above_mono (by decide) (above8 c)) (above_dueAg c 2 (by decide) _)
/-- What is owed then is above level 6. -/
theorem above6 (c : Dev nD) : Above 6 (O6 c) := above_add (above_mono (by decide) (above7 c)) (above_dueRs c 3 (by decide) _)
/-- What is owed then is above level 5. -/
theorem above5 (c : Dev nD) : Above 5 (O5 c) := above_add (above_mono (by decide) (above6 c)) (above_dueAg c 1 (by decide) _)
/-- What is owed then is above level 4. -/
theorem above4 (c : Dev nD) : Above 4 (O4 c) := above_add (above_mono (by decide) (above5 c)) (above_dueRs c 2 (by decide) _)
/-- What is owed then is above level 3. -/
theorem above3 (c : Dev nD) : Above 3 (O3 c) := above_add (above_mono (by decide) (above4 c)) (above_dueAg c 0 (by decide) _)
/-- What is owed then is above level 2. -/
theorem above2 (c : Dev nD) : Above 2 (O2 c) := above_add (above_mono (by decide) (above3 c)) (above_dueRs c 1 (by decide) _)
/-- What is owed then is above level 1. -/
theorem above1 (c : Dev nD) : Above 1 (O1 c) := above_add (above_mono (by decide) (above2 c)) (above_dueRs c 0 (by decide) _)

/-- The buffers the body works in, at whatever they hold. -/
def bufsP (c : Dev nD) : sProp 𝕄 :=
  iprop((∃ f, ctxP c f) ∗ (∃ f, tsH c 0 f) ∗ (∃ f, tsH c 1 f) ∗ (∃ f, asH c 0 f) ∗ (∃ f, asH c 1 f))

/-- All of it. -/
def bodyPre (c : Dev nD) : sProp 𝕄 :=
  iprop(owing c (O₀ c) ∗ insP I c ∗ bufsP c ∗ (bigSepL [0, 1, 2, 3] fun t => iprop(∃ f, outP c t f))
    ∗ (bigSepL [0, 1, 2, 3, 4, 5, 6] (seedBar c) ∗ barPay c c ∗ cred (tallyAt (barCell c) () 7) ∗ atPos ER (barCell c) 0 ∅ 0)
    ∗ (bigSepL [0, 1, 2, 3] fun t => iprop(tokRs c t ∗ tokAg c t))
    ∗ (bigSepL [0, 1, 2, 3] fun t => iprop(creds (rowRs t) c all8 ∗ creds (rowRa t) c all8))
    ∗ (bigSepL [0, 1, 2, 3, 4, 5, 6, 7, 8, 9, 10, 11] fun R => poss R c 0 all8))

/-- What it leaves: the result, every buffer back, every counter back at zero, nothing owed. -/
def bodyPost (c : Dev nD) : sProp 𝕄 :=
  iprop(owing c 0 ∗ insP I c ∗ bufsP c ∗ (bigSepL [0, 1, 2, 3] fun t => outP c t (OUT I))
    ∗ (bigSepL [0, 1, 2, 3] fun t => bigSepL all8 fun s => rbP c t s (RB I c)) ∗ (bigSepL [0, 1, 2, 3] fun t => abH c t (AB I))
    ∗ semVal (barCell c) 0 ∗ (bigSepL [0, 1, 2, 3, 4, 5, 6, 7, 8, 9, 10, 11] fun R => bigSepL all8 fun j => semVal (dcell c R j) 0))

/-! ## The blocks handed over, by tile -/

/-- What the barrier brings, sorted by tile and by the order of the sends. -/
theorem lent (c : Dev nD) :
    iprop(barPay c c ∗ bigSep (Finset.univ.erase c) fun p : Dev nD => barPay p c)
      ⊢ (bigSepL [0, 1, 2, 3] fun t => bigSepL all8 fun j => lend (rot c j.val) c t : sProp 𝕄) := by
  rw [← bigSep_univ_at (fun p : Dev nD => (barPay p c : sProp 𝕄)) c, ← bigSep_univ_eq_bigSepL [0, 1, 2, 3] (by decide) (by decide) (fun t : Fin 4 => bigSepL all8 fun j => (lend (rot c j.val) c t : sProp 𝕄))]
  unfold barPay
  rw [BI.bigSep_univ_comm]
  exact Entails.of_eq (bigSep_congr fun t _ => (sepL_rot c fun p => lend p c t).symm)

/-- Two lists side by side are one list of pairs, -/
theorem sepL_sep {X : Type} (Φ Ψ : X → sProp 𝕄) : ∀ l : List X, iprop(bigSepL l Φ ∗ bigSepL l Ψ) ⊢ bigSepL l fun x => iprop(Φ x ∗ Ψ x)
  | [] => by
    rw [bigSepL_nil, bigSepL_nil, bigSepL_nil]
    iintro ⟨-, -⟩
    iempintro
  | x :: xs => by
    rw [bigSepL_cons', bigSepL_cons', bigSepL_cons']
    iintro ⟨⟨H1, Hs1⟩, ⟨H2, Hs2⟩⟩
    isplitl [H1 H2]
    · isplitl [H1]; · iexact H1
      iexact H2
    iapply (sepL_sep Φ Ψ xs)
    isplitl [Hs1]; · iexact Hs1
    iexact Hs2
/-- and back. -/
theorem sepL_unsep {X : Type} (Φ Ψ : X → sProp 𝕄) : ∀ l : List X, (bigSepL l fun x => iprop(Φ x ∗ Ψ x)) ⊢ iprop(bigSepL l Φ ∗ bigSepL l Ψ)
  | [] => by
    rw [bigSepL_nil, bigSepL_nil, bigSepL_nil]
    iintro -
    isplitl [] <;> iempintro
  | x :: xs => by
    rw [bigSepL_cons', bigSepL_cons', bigSepL_cons']
    iintro ⟨⟨H1, H2⟩, Hs⟩
    ihave Hs' := (sepL_unsep Φ Ψ xs) $$ Hs
    icases Hs' with ⟨Hs1, Hs2⟩
    isplitl [H1 Hs1]
    · isplitl [H1]; · iexact H1
      iexact Hs1
    isplitl [H2]; · iexact H2
    iexact Hs2

/-- What a tile's sends need, from the blocks lent and the duties' tokens. -/
theorem seed_step (c : Dev nD) (t : Fin 4) :
    iprop((bigSepL all8 fun j => lend (rot c j.val) c t) ∗ tokRs c t ∗ tokAg c t) ⊢ (iprop(bigSepL all8 (seedRs c t) ∗ bigSepL all8 (seedAg c t)) : sProp 𝕄) := by
  unfold tokRs tokAg
  iintro ⟨HL, HR, HA⟩
  iapply (sepL_unsep (seedRs c t) (seedAg c t) all8)
  ihave H1 := (sepL_sep _ _ all8) $$ [HL HR]
  · isplitl [HL]; · iexact HL
    iexact HR
  ihave H2 := (sepL_sep _ _ all8) $$ [H1 HA]
  · isplitl [H1]; · iexact H1
    iexact HA
  iapply (bigSepL_mono (l := all8) (Φ := fun j => iprop((lend (rot c j.val) c t
      ∗ (dutyTok ER (dcell (rot c j.val) (rowRs t) c) 0 0 ∗ dutyTok ER (dcell c (rowSs (half t)) j) (t.val / 2) 0))
      ∗ (dutyTok ER (dcell (rot c j.val) (rowRa t) c) 0 0 ∗ dutyTok ER (dcell c (rowSa (half t)) j) (t.val / 2) 0)))
    (Ψ := fun j => iprop(seedRs c t j ∗ seedAg c t j)) fun j _ => by
      unfold lend seedRs seedAg
      iintro ⟨⟨⟨Hf, Hr, Hg, Hs⟩, Ht1, Ht2⟩, Ht3, Ht4⟩
      isplitl [Hf Hr Ht1 Ht2]
      · isplitl [Hf]; · iexact Hf
        isplitl [Hr]; · iexact Hr
        isplitl [Ht1]; · iexact Ht1
        iexact Ht2
      · isplitl [Hg]; · iexact Hg
        isplitl [Hs]; · iexact Hs
        isplitl [Ht3]; · iexact Ht3
        iexact Ht4)
  iexact H2

/-! ## Closing the cells -/

/-- A row of copy semaphores past its last round is at zero. -/
theorem close_d (κ : GSem nD τ sig → ℕ) (c : Dev nD) (R : Fin 12) (r : ℕ) (hr : rounds R = r) : ∀ l,
    iprop(known I κ ∗ poss R c r l) ⊢ (|={Set.univ}=> bigSepL l fun j => semVal (dcell c R j) 0 : sProp 𝕄)
  | [] => by
    rw [bigSepL_nil]
    iintro ⟨-, -⟩
    imodintro
    iempintro
  | j :: js => by
    unfold poss
    rw [bigSepL_cons', bigSepL_cons']
    iintro ⟨#HK, ⟨Hat, -⟩, Hs⟩
    imod (Rounds.cell_close ER (Rd I) (g := dcell c R j) (κ := κ (dcell c R j)) (Set.mem_univ _) id (R := r) (fun r' h => duties_d_end I c R j r' (hr ▸ h))) $$ [Hat] with Hv
    · isplitr; · iapply (known_inv I κ c R j); iexact HK
      iexact Hat
    imod (close_d κ c R r hr js) $$ [Hs] with Hvs
    · isplitr; · iexact HK
      unfold poss; iexact Hs
    imodintro
    isplitl [Hv]; · iexact Hv
    iexact Hvs
/-- The barrier past its round is at zero. -/
theorem close_bar (κ : GSem nD τ sig → ℕ) (c : Dev nD) :
    iprop(known I κ ∗ atPos ER (barCell c) 1 ∅ 0) ⊢ (|={Set.univ}=> semVal (barCell c) 0 : sProp 𝕄) := by
  iintro ⟨#HK, Hat⟩
  iapply (Rounds.cell_close ER (Rd I) (g := barCell c) (κ := κ (barCell c)) (Set.mem_univ _) id (R := 1) (fun r h => duties_bar_end I c r h))
  isplitr; · iapply (known_bar I κ c); iexact HK
  iexact Hat
/-- All rows past their last rounds are at zero. -/
theorem close_all (κ : GSem nD τ sig → ℕ) (c : Dev nD) : ∀ l : List (Fin 12),
    iprop(known I κ ∗ bigSepL l fun R => poss R c (rounds R) all8) ⊢ (|={Set.univ}=> bigSepL l fun R => bigSepL all8 fun j => semVal (dcell c R j) 0 : sProp 𝕄)
  | [] => by
    rw [bigSepL_nil, bigSepL_nil]
    iintro ⟨-, -⟩
    imodintro
    iempintro
  | R :: Rs => by
    rw [bigSepL_cons', bigSepL_cons']
    iintro ⟨#HK, Hp, Hps⟩
    imod (close_d I κ c R (rounds R) rfl all8) $$ [Hp] with Hv
    · isplitr; · iexact HK
      iexact Hp
    imod (close_all κ c Rs) $$ [Hps] with Hvs
    · isplitr; · iexact HK
      iexact Hps
    imodintro
    isplitl [Hv]; · iexact Hv
    iexact Hvs

end Cert.KernelIdeal.Gen.Fused

end
-- ==== Proof.RunKernelIdeal.lean ====
module

public import proofs.«01_k».proof.Proof.BookKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # The body's run -/

variable (I : Dev nD → Ins F)

/-- A list of four, written out. -/
theorem sepL4 {X : Type} (a b d e : X) (Φ : X → sProp 𝕄) : bigSepL [a, b, d, e] Φ = iprop(Φ a ∗ Φ b ∗ Φ d ∗ Φ e) := rfl
/-- A list of twelve, written out. -/
theorem sepL12 (Φ : Fin 12 → sProp 𝕄) : bigSepL [0, 1, 2, 3, 4, 5, 6, 7, 8, 9, 10, 11] Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := rfl

set_option maxHeartbeats 1600000 in
/-- **The whole body** at a device: from what it starts with to what it ends with. -/
theorem body_run (κ : GSem nD τ sig → ℕ) (c : Dev nD) (Q : PUnit → sProp 𝕄) :
    iprop(known I κ ∗ bodyPre I c ∗ (bodyPost I c -∗ Q PUnit.unit)) ⊢ Run c body Q := by
  unfold body
  rw [show Run c (.op .deviceId bodyC) Q = Run c (bodyC (F := F) c) Q from wp_deviceId 𝒱₀ (c : Thread nD τ) none Set.univ]
  unfold bodyPre bufsP bodyC
  simp only [sepL4, sepL12]
  iintro ⟨#HK, ⟨HO, Hin, ⟨Hctx, Hts0, Hts1, Has0, Has1⟩, ⟨Ho0, Ho1, Ho2, Ho3⟩, ⟨Hsb, Hbb, Hcb, Hatb⟩,
    ⟨Ht0, Ht1, Ht2, Ht3⟩, ⟨⟨Hcr0, Hca0⟩, ⟨Hcr1, Hca1⟩, ⟨Hcr2, Hca2⟩, ⟨Hcr3, Hca3⟩⟩,
    ⟨HpS0, HpS1, HpR0, HpR1, HpR2, HpR3, HpA0, HpA1, HpG0, HpG1, HpG2, HpG3⟩⟩, Hk⟩

  iapply (barrier_run I κ c (above1 c) _ Q) $$ [HO Hsb Hcb Hatb]
  · isplitr; · iexact HK
    isplitl [HO]; · iexact HO
    isplitl [Hsb]; · iexact Hsb
    isplitl [Hcb]; · iexact Hcb
    iexact Hatb
  iintro ⟨HO, Hatb, Hlent⟩
  ihave Hl := (lent (F := F) c) $$ [Hbb Hlent]
  · isplitl [Hbb]; · iexact Hbb
    iexact Hlent
  ihave Hl' := (Entails.of_eq (sepL4 (F := F) 0 1 2 3 fun t => bigSepL all8 fun j => lend (rot c j.val) c t)) $$ Hl
  icases Hl' with ⟨Hl0, Hl1, Hl2, Hl3⟩
  ihave Hd0 := (seed_step (F := F) c 0) $$ [Hl0 Ht0]
  · isplitl [Hl0]; · iexact Hl0
    iexact Ht0
  icases Hd0 with ⟨Hdr0, Hda0⟩
  ihave Hd1 := (seed_step (F := F) c 1) $$ [Hl1 Ht1]
  · isplitl [Hl1]; · iexact Hl1
    iexact Ht1
  icases Hd1 with ⟨Hdr1, Hda1⟩
  ihave Hd2 := (seed_step (F := F) c 2) $$ [Hl2 Ht2]
  · isplitl [Hl2]; · iexact Hl2
    iexact Ht2
  icases Hd2 with ⟨Hdr2, Hda2⟩
  ihave Hd3 := (seed_step (F := F) c 3) $$ [Hl3 Ht3]
  · isplitl [Hl3]; · iexact Hl3
    iexact Ht3
  icases Hd3 with ⟨Hdr3, Hda3⟩
  iapply (tileK_run I c 0 _ Q) $$ [Hin Hctx Hts0]
  · isplitl [Hin]; · iexact Hin
    isplitl [Hctx]; · iexact Hctx
    iexact Hts0
  iintro ⟨Hin, Hctx, Hts0⟩
  iapply (sendsRs_run I κ c 0 (O2 c) _ Q all8) $$ [HO Hdr0 Hts0 HpS0]
  · isplitr; · iexact HK
    isplitl [HO]; · iexact HO
    isplitl [Hdr0]; · iexact Hdr0
    isplitl [Hts0]; · iexact Hts0
    iexact HpS0
  iintro ⟨HO, HpS0, HcS0⟩
  iapply (tileK_run I c 1 _ Q) $$ [Hin Hctx Hts1]
  · isplitl [Hin]; · iexact Hin
    isplitl [Hctx]; · iexact Hctx
    iexact Hts1
  iintro ⟨Hin, Hctx, Hts1⟩
  iapply (sendsRs_run I κ c 1 (O3 c) _ Q all8) $$ [HO Hdr1 Hts1 HpS1]
  · isplitr; · iexact HK
    isplitl [HO]; · iexact HO
    isplitl [Hdr1]; · iexact Hdr1
    isplitl [Hts1]; · iexact Hts1
    iexact HpS1
  iintro ⟨HO, HpS1, HcS1⟩
  iapply (finishRs_run I κ c 0 (O := O4 c) (above3 c) (by decide) _ Q) $$ [HO Hcr0 HpR0 Hda0 Has0 HpA0 HcS0 HpS0]
  · isplitr; · iexact HK
    isplitl [HO]; · iexact HO
    isplitl [Hcr0]; · iexact Hcr0
    isplitl [HpR0]; · iexact HpR0
    isplitl [Hda0]; · iexact Hda0
    isplitl [Has0]; · iexact Has0
    isplitl [HpA0]; · iexact HpA0
    isplitl [HcS0]; · iexact HcS0
    iexact HpS0
  iintro ⟨HO, HpR0, Hrb0, HpA0, HcA0, HpS0, Hts0⟩
  iapply (tileK_run I c 2 _ Q) $$ [Hin Hctx Hts0]
  · isplitl [Hin]; · iexact Hin
    isplitl [Hctx]; · iexact Hctx
    iexact Hts0
  iintro ⟨Hin, Hctx, Hts0⟩
  iapply (sendsRs_run I κ c 2 (O5 c) _ Q all8) $$ [HO Hdr2 Hts0 HpS0]
  · isplitr; · iexact HK
    isplitl [HO]; · iexact HO
    isplitl [Hdr2]; · iexact Hdr2
    isplitl [Hts0]; · iexact Hts0
    iexact HpS0
  iintro ⟨HO, HpS0, HcS0⟩
  iapply (finishRs_run I κ c 1 (O := O6 c) (above5 c) (by decide) _ Q) $$ [HO Hcr1 HpR1 Hda1 Has1 HpA1 HcS1 HpS1]
  · isplitr; · iexact HK
    isplitl [HO]; · iexact HO
    isplitl [Hcr1]; · iexact Hcr1
    isplitl [HpR1]; · iexact HpR1
    isplitl [Hda1]; · iexact Hda1
    isplitl [Has1]; · iexact Has1
    isplitl [HpA1]; · iexact HpA1
    isplitl [HcS1]; · iexact HcS1
    iexact HpS1
  iintro ⟨HO, HpR1, Hrb1, HpA1, HcA1, HpS1, Hts1⟩
  iapply (finishAg_run I κ c 0 (O := O6 c) (above6 c) (by decide) _ Q) $$ [HO Hca0 HpG0 Ho0 HpA0 HcA0]
  · isplitr; · iexact HK
    isplitl [HO]; · iexact HO
    isplitl [Hca0]; · iexact Hca0
    isplitl [HpG0]; · iexact HpG0
    isplitl [Ho0]; · iexact Ho0
    isplitl [HpA0]; · iexact HpA0
    iexact HcA0
  iintro ⟨HO, HpG0, Hab0, Ho0, HpA0, Has0⟩
  iapply (tileK_run I c 3 _ Q) $$ [Hin Hctx Hts1]
  · isplitl [Hin]; · iexact Hin
    isplitl [Hctx]; · iexact Hctx
    iexact Hts1
  iintro ⟨Hin, Hctx, Hts1⟩
  iapply (sendsRs_run I κ c 3 (O7 c) _ Q all8) $$ [HO Hdr3 Hts1 HpS1]
  · isplitr; · iexact HK
    isplitl [HO]; · iexact HO
    isplitl [Hdr3]; · iexact Hdr3
    isplitl [Hts1]; · iexact Hts1
    iexact HpS1
  iintro ⟨HO, HpS1, HcS1⟩
  iapply (finishRs_run I κ c 2 (O := O8 c) (above7 c) (by decide) _ Q) $$ [HO Hcr2 HpR2 Hda2 Has0 HpA0 HcS0 HpS0]
  · isplitr; · iexact HK
    isplitl [HO]; · iexact HO
    isplitl [Hcr2]; · iexact Hcr2
    isplitl [HpR2]; · iexact HpR2
    isplitl [Hda2]; · iexact Hda2
    isplitl [Has0]; · iexact Has0
    isplitl [HpA0]; · iexact HpA0
    isplitl [HcS0]; · iexact HcS0
    iexact HpS0
  iintro ⟨HO, HpR2, Hrb2, HpA0, HcA0, HpS0, Hts0⟩
  iapply (finishAg_run I κ c 1 (O := O8 c) (above8 c) (by decide) _ Q) $$ [HO Hca1 HpG1 Ho1 HpA1 HcA1]
  · isplitr; · iexact HK
    isplitl [HO]; · iexact HO
    isplitl [Hca1]; · iexact Hca1
    isplitl [HpG1]; · iexact HpG1
    isplitl [Ho1]; · iexact Ho1
    isplitl [HpA1]; · iexact HpA1
    iexact HcA1
  iintro ⟨HO, HpG1, Hab1, Ho1, HpA1, Has1⟩
  iapply (finishRs_run I κ c 3 (O := 0) (above8 c) (by decide) _ Q) $$ [HO Hcr3 HpR3 Hda3 Has1 HpA1 HcS1 HpS1]
  · isplitr; · iexact HK
    isplitl [HO]; · iexact HO
    isplitl [Hcr3]; · iexact Hcr3
    isplitl [HpR3]; · iexact HpR3
    isplitl [Hda3]; · iexact Hda3
    isplitl [Has1]; · iexact Has1
    isplitl [HpA1]; · iexact HpA1
    isplitl [HcS1]; · iexact HcS1
    iexact HpS1
  iintro ⟨HO, HpR3, Hrb3, HpA1, HcA1, HpS1, Hts1⟩
  iapply (finishAg_run I κ c 2 (O := 0) (above_zero 8) (by decide) _ Q) $$ [HO Hca2 HpG2 Ho2 HpA0 HcA0]
  · isplitr; · iexact HK
    isplitl [HO]; · iexact HO
    isplitl [Hca2]; · iexact Hca2
    isplitl [HpG2]; · iexact HpG2
    isplitl [Ho2]; · iexact Ho2
    isplitl [HpA0]; · iexact HpA0
    iexact HcA0
  iintro ⟨HO, HpG2, Hab2, Ho2, HpA0, Has0⟩
  iapply (finishAg_run I κ c 3 (O := 0) (above_zero 9) (by decide) _ Q) $$ [HO Hca3 HpG3 Ho3 HpA1 HcA1]
  · isplitr; · iexact HK
    isplitl [HO]; · iexact HO
    isplitl [Hca3]; · iexact Hca3
    isplitl [HpG3]; · iexact HpG3
    isplitl [Ho3]; · iexact Ho3
    isplitl [HpA1]; · iexact HpA1
    iexact HcA1
  iintro ⟨HO, HpG3, Hab3, Ho3, HpA1, Has1⟩
  rw [show Run c (.ret PUnit.unit) Q = iprop(|={Set.univ}=> Q PUnit.unit) from wp_ret _ _ _ _ _]
  imod (close_bar I κ c) $$ [Hatb] with Hvb
  · isplitr; · iexact HK
    iexact Hatb
  imod (close_all I κ c [0, 1, 2, 3, 4, 5, 6, 7, 8, 9, 10, 11]) $$ [HpS0 HpS1 HpR0 HpR1 HpR2 HpR3 HpA0 HpA1 HpG0 HpG1 HpG2 HpG3] with Hvs
  · isplitr; · iexact HK
    rw [sepL12]
    isplitl [HpS0]; · iexact HpS0
    isplitl [HpS1]; · iexact HpS1
    isplitl [HpR0]; · iexact HpR0
    isplitl [HpR1]; · iexact HpR1
    isplitl [HpR2]; · iexact HpR2
    isplitl [HpR3]; · iexact HpR3
    isplitl [HpA0]; · iexact HpA0
    isplitl [HpA1]; · iexact HpA1
    isplitl [HpG0]; · iexact HpG0
    isplitl [HpG1]; · iexact HpG1
    isplitl [HpG2]; · iexact HpG2
    iexact HpG3
  imodintro
  iapply Hk
  unfold bodyPost bufsP
  isplitl [HO]; · iexact HO
  isplitl [Hin]; · iexact Hin
  isplitl [Hctx Hts0 Hts1 Has0 Has1]
  · isplitl [Hctx]; · iexact Hctx
    isplitl [Hts0]; · iexact Hts0
    isplitl [Hts1]; · iexact Hts1
    isplitl [Has0]; · iexact Has0
    iexact Has1
  simp only [sepL4]
  isplitl [Ho0 Ho1 Ho2 Ho3]
  · isplitl [Ho0]; · iexact Ho0
    isplitl [Ho1]; · iexact Ho1
    isplitl [Ho2]; · iexact Ho2
    iexact Ho3
  isplitl [Hrb0 Hrb1 Hrb2 Hrb3]
  · isplitl [Hrb0]; · iexact Hrb0
    isplitl [Hrb1]; · iexact Hrb1
    isplitl [Hrb2]; · iexact Hrb2
    iexact Hrb3
  isplitl [Hab0 Hab1 Hab2 Hab3]
  · isplitl [Hab0]; · iexact Hab0
    isplitl [Hab1]; · iexact Hab1
    isplitl [Hab2]; · iexact Hab2
    iexact Hab3
  isplitl [Hvb]; · iexact Hvb
  iexact Hvs

end Cert.KernelIdeal.Gen.Fused

end
-- ==== Proof.RegionKernelIdeal.lean ====
module

public import proofs.«01_k».proof.Proof.RunKernelIdeal
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.ValueKit.Geometry

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # The kernel's region of the program -/

/-! ## The buffers, cut for the body and joined after it -/

/-- What opening a row of cells leaves known. -/
def reach (R : Fin 12) (c : Dev nD) : sProp 𝕄 := bigSepL all8 fun j => reached ER (dcell c R j) 0

/-- A row at its start has reached its first round. -/
theorem poss_reach (R : Fin 12) (c : Dev nD) : poss R c 0 all8 ⊢ (iprop(poss R c 0 all8 ∗ reach R c) : sProp 𝕄) := by
  unfold poss reach
  refine BIBase.Entails.trans ?_ (sepL_unsep (fun j => iprop(atPos ER (dcell c R j) 0 ∅ 0 ∗ reached ER (dcell c R j) 0)) (fun j => reached ER (dcell c R j) 0) all8)
  refine bigSepL_mono fun j _ => ?_
  iintro ⟨Ha, #Hr⟩
  isplitl [Ha]
  · isplitl [Ha]; · iexact Ha
    iexact Hr
  iexact Hr

/-- A tile's blocks of both receive buffers, ready to lend. -/
theorem lend_tile (c : Dev nD) (t : Fin 4) (f g : S4x512x1024.Idx → F .bf16) :
    iprop((rbM.view.loc (c : Thread nD τ) ↦[setBt t]{fullShare} f) ∗ (abM.view.loc (c : Thread nD τ) ↦[setBt t]{fullShare} g)
        ∗ reach (rowRs t) c ∗ reach (rowRa t) c)
      ⊢ (bigSepL all8 fun s => lend c s t : sProp 𝕄) := by
  have h1 : (rbM.view.loc (c : Thread nD τ) ↦[setBt t]{fullShare} f : sProp 𝕄) = bigSepL all8 fun s => rbP c t s f := by
    rw [sepL_all8]; unfold rbP; rw [setBt_eq]
    exact pointsTo_biUnion _ _ fun s _ s' _ h => setB_disj t s s' h
  have h2 : (abM.view.loc (c : Thread nD τ) ↦[setBt t]{fullShare} g : sProp 𝕄) = bigSepL all8 fun s => abP c t s g := by
    rw [sepL_all8]; unfold abP; rw [setBt_eq]
    exact pointsTo_biUnion _ _ fun s _ s' _ h => setB_disj t s s' h
  rw [h1, h2]
  unfold reach
  iintro ⟨H1, H2, H3, H4⟩
  ihave Ha := (sepL_sep _ _ all8) $$ [H1 H3]
  · isplitl [H1]; · iexact H1
    iexact H3
  ihave Hb := (sepL_sep _ _ all8) $$ [H2 H4]
  · isplitl [H2]; · iexact H2
    iexact H4
  ihave H := (sepL_sep _ _ all8) $$ [Ha Hb]
  · isplitl [Ha]; · iexact Ha
    iexact Hb
  iapply (bigSepL_mono (l := all8) (Φ := fun s => iprop((rbP c t s f ∗ reached ER (dcell c (rowRs t) s) 0) ∗ (abP c t s g ∗ reached ER (dcell c (rowRa t) s) 0)))
    (Ψ := fun s => (lend c s t : sProp 𝕄)) fun s _ => by
      unfold lend
      iintro ⟨⟨Ha, Hr⟩, Hb, Hs⟩
      isplitl [Ha]; · iexists f; iexact Ha
      isplitl [Hr]; · iexact Hr
      isplitl [Hb]; · iexists g; iexact Hb
      iexact Hs)
  iexact H

/-- No place on is the device itself. -/
theorem rot_zero (c : Dev nD) : rot c 0 = c := by revert c; decide

/-- The receive buffers whole, cut into what each device is lent at the barrier. -/
theorem lend_all (c : Dev nD) (f g : S4x512x1024.Idx → F .bf16) :
    iprop((rbM.view.loc (c : Thread nD τ) ↦[Finset.univ]{fullShare} f) ∗ (abM.view.loc (c : Thread nD τ) ↦[Finset.univ]{fullShare} g)
        ∗ (bigSepL [0, 1, 2, 3, 4, 5, 6, 7, 8, 9, 10, 11] fun R => reach R c))
      ⊢ (iprop(barPay c c ∗ bigSepL [0, 1, 2, 3, 4, 5, 6] fun j : Fin 7 => barPay c (rot c (j.val + 1))) : sProp 𝕄) := by
  have h1 : (rbM.view.loc (c : Thread nD τ) ↦[Finset.univ]{fullShare} f : sProp 𝕄)
      = bigSepL [0, 1, 2, 3] fun t => rbM.view.loc (c : Thread nD τ) ↦[setBt t]{fullShare} f := by
    rw [univ_Bt, ← bigSep_univ_eq_bigSepL [0, 1, 2, 3] (by decide) (by decide)]
    exact pointsTo_biUnion _ _ fun t _ t' _ h => setBt_disj t t' h
  have h2 : (abM.view.loc (c : Thread nD τ) ↦[Finset.univ]{fullShare} g : sProp 𝕄)
      = bigSepL [0, 1, 2, 3] fun t => abM.view.loc (c : Thread nD τ) ↦[setBt t]{fullShare} g := by
    rw [univ_Bt, ← bigSep_univ_eq_bigSepL [0, 1, 2, 3] (by decide) (by decide)]
    exact pointsTo_biUnion _ _ fun t _ t' _ h => setBt_disj t t' h
  have h3 : (bigSepL [0, 1, 2, 3] fun t => bigSepL all8 fun s => lend c s t : sProp 𝕄) = bigSepL all8 fun j => barPay c (rot c j.val) := by
    rw [sepL_rot c (fun p => barPay c p), ← bigSep_univ_eq_bigSepL [0, 1, 2, 3] (by decide) (by decide)]
    unfold barPay
    rw [BI.bigSep_univ_comm]
    exact bigSep_congr fun t _ => sepL_all8 _
  have h4 : (bigSepL all8 fun j => barPay c (rot c j.val) : sProp 𝕄)
      = iprop(barPay c (rot c 0) ∗ bigSepL [0, 1, 2, 3, 4, 5, 6] fun j : Fin 7 => barPay c (rot c (j.val + 1))) := rfl
  rw [rot_zero] at h4
  rw [h1, h2, ← h4, ← h3, sepL12, sepL4, sepL4, sepL4]
  iintro ⟨⟨Ha0, Ha1, Ha2, Ha3⟩, ⟨Hb0, Hb1, Hb2, Hb3⟩, -, -, Hr0, Hr1, Hr2, Hr3, -, -, Hs0, Hs1, Hs2, Hs3⟩
  isplitl [Ha0 Hb0 Hr0 Hs0]
  · iapply (lend_tile c 0 f g)
    isplitl [Ha0]; · iexact Ha0
    isplitl [Hb0]; · iexact Hb0
    isplitl [Hr0]; · iexact Hr0
    iexact Hs0
  isplitl [Ha1 Hb1 Hr1 Hs1]
  · iapply (lend_tile c 1 f g)
    isplitl [Ha1]; · iexact Ha1
    isplitl [Hb1]; · iexact Hb1
    isplitl [Hr1]; · iexact Hr1
    iexact Hs1
  isplitl [Ha2 Hb2 Hr2 Hs2]
  · iapply (lend_tile c 2 f g)
    isplitl [Ha2]; · iexact Ha2
    isplitl [Hb2]; · iexact Hb2
    isplitl [Hr2]; · iexact Hr2
    iexact Hs2
  iapply (lend_tile c 3 f g)
  isplitl [Ha3]; · iexact Ha3
  isplitl [Hb3]; · iexact Hb3
  isplitl [Hr3]; · iexact Hr3
  iexact Hs3

/-- The partial products' buffer is its two halves. -/
theorem ts_cut (c : Dev nD) (f : S2x512x1024.Idx → F .bf16) :
    (tsM.view.loc (c : Thread nD τ) ↦[Finset.univ]{fullShare} f : sProp 𝕄) = iprop(tsH c 0 f ∗ tsH c 1 f) := by
  rw [univ_Tb]
  refine (pointsTo_biUnion _ _ fun t _ t' _ h => setTb_disj t t' h).trans ?_
  exact BI.bigSep_fin_two (fun b => (tsM.view.loc (c : Thread nD τ) ↦[setTb b]{fullShare} f : sProp 𝕄))
/-- The two halves make the send buffer whole. -/
theorem ts_join (c : Dev nD) (f g : S2x512x1024.Idx → F .bf16) :
    iprop(tsH c 0 f ∗ tsH c 1 g) ⊢ (iprop(∃ h, tsM.view.loc (c : Thread nD τ) ↦[Finset.univ]{fullShare} h) : sProp 𝕄) := by
  have e : (bigSep Finset.univ fun b : Fin 2 => (tsM.view.loc (c : Thread nD τ) ↦[setTb b]{fullShare} ((![f, g] : Fin 2 → S2x512x1024.Idx → F .bf16) b) : sProp 𝕄))
      = iprop(tsH c 0 f ∗ tsH c 1 g) := BI.bigSep_fin_two _
  rw [← e, univ_Tb]
  refine (pointsTo_biUnion_join _ _ _ f fun t _ t' _ h => setTb_disj t t' h).trans ?_
  iintro ⟨%h, -, H⟩
  iexists h
  iexact H
/-- The reduced rows' buffer is its two halves. -/
theorem as_cut (c : Dev nD) (f : S2x64x1024.Idx → F .bf16) :
    (asM.view.loc (c : Thread nD τ) ↦[Finset.univ]{fullShare} f : sProp 𝕄) = iprop(asH c 0 f ∗ asH c 1 f) := by
  rw [univ_A]
  refine (pointsTo_biUnion _ _ fun t _ t' _ h => setA_disj t t' h).trans ?_
  exact BI.bigSep_fin_two (fun b => (asM.view.loc (c : Thread nD τ) ↦[setA b]{fullShare} f : sProp 𝕄))
/-- The two halves make the reduced rows' buffer whole. -/
theorem as_join (c : Dev nD) (f g : S2x64x1024.Idx → F .bf16) :
    iprop(asH c 0 f ∗ asH c 1 g) ⊢ (iprop(∃ h, asM.view.loc (c : Thread nD τ) ↦[Finset.univ]{fullShare} h) : sProp 𝕄) := by
  have e : (bigSep Finset.univ fun b : Fin 2 => (asM.view.loc (c : Thread nD τ) ↦[setA b]{fullShare} ((![f, g] : Fin 2 → S2x64x1024.Idx → F .bf16) b) : sProp 𝕄))
      = iprop(asH c 0 f ∗ asH c 1 g) := BI.bigSep_fin_two _
  rw [← e, univ_A]
  refine (pointsTo_biUnion_join _ _ _ f fun t _ t' _ h => setA_disj t t' h).trans ?_
  iintro ⟨%h, -, H⟩
  iexists h
  iexact H
/-- The result is its four tiles. -/
theorem out_cut (c : Dev nD) (f : S2048x1024.Idx → F .f32) :
    (outM.view.loc (c : Thread nD τ) ↦[Finset.univ]{fullShare} f : sProp 𝕄) = bigSepL [0, 1, 2, 3] fun t => outP c t f := by
  rw [univ_O, ← bigSep_univ_eq_bigSepL [0, 1, 2, 3] (by decide) (by decide)]
  exact pointsTo_biUnion _ _ fun t _ t' _ h => setO_disj t t' h
/-- The partial products' receive buffer is its blocks. -/
theorem rb_cut (c : Dev nD) (f : S4x512x1024.Idx → F .bf16) :
    (rbM.view.loc (c : Thread nD τ) ↦[Finset.univ]{fullShare} f : sProp 𝕄) = bigSepL [0, 1, 2, 3] fun t => bigSepL all8 fun s => rbP c t s f := by
  rw [univ_Bt, ← bigSep_univ_eq_bigSepL [0, 1, 2, 3] (by decide) (by decide)]
  refine (pointsTo_biUnion _ _ fun t _ t' _ h => setBt_disj t t' h).trans (bigSep_congr fun t _ => ?_)
  rw [sepL_all8]; unfold rbP; rw [setBt_eq]
  exact pointsTo_biUnion _ _ fun s _ s' _ h => setB_disj t s s' h
/-- The reduced rows' receive buffer is its tiles. -/
theorem ab_cut (c : Dev nD) (f : S4x512x1024.Idx → F .bf16) :
    (abM.view.loc (c : Thread nD τ) ↦[Finset.univ]{fullShare} f : sProp 𝕄) = bigSepL [0, 1, 2, 3] fun t => abH c t f := by
  rw [univ_Bt, ← bigSep_univ_eq_bigSepL [0, 1, 2, 3] (by decide) (by decide)]
  exact pointsTo_biUnion _ _ fun t _ t' _ h => setBt_disj t t' h

/-- The kernel's five scratch buffers, at whatever they hold. -/
def scratch (c : Dev nD) : sProp 𝕄 :=
  iprop((∃ f, ctxM.view.loc (c : Thread nD τ) ↦[Finset.univ]{fullShare} f) ∗ (∃ f, tsM.view.loc (c : Thread nD τ) ↦[Finset.univ]{fullShare} f)
    ∗ (∃ f, asM.view.loc (c : Thread nD τ) ↦[Finset.univ]{fullShare} f) ∗ (∃ f, rbM.view.loc (c : Thread nD τ) ↦[Finset.univ]{fullShare} f)
    ∗ (∃ f, abM.view.loc (c : Thread nD τ) ↦[Finset.univ]{fullShare} f))

/-- What the launch lends the kernel besides its staging is the scratch. -/
theorem scratch_eq (c : Dev nD) :
    (Pipeline.scopedRest (Ix := Unit) (Name := ℕ) (U := UU) (Lvl := ℕ) (Val := Elt F) spec0 c : sProp 𝕄) = scratch c := scopedRest0_eq c

variable (m : (ℓ : Loc nD τ sig) → Buf (Elt F) ℓ)

/-- What each device's body is given to read. -/
def ins (c : Dev nD) : Ins F := ⟨V1 m c main_v5, V1 m c main_arg1, V1 m c main_v12, V1 m c main_v19, V1 m c main_arg4⟩

/-- What the launch leaves a device for the barrier and the copies, its cells not open yet but for what opening adds. -/
def held0 (c : Dev nD) : sProp 𝕄 :=
  iprop((bigSepL [0, 1, 2, 3, 4, 5, 6] fun j : Fin 7 => dutyTok ER (barCell (rot c (j.val + 1))) 0 c)
    ∗ (cred (tallyAt (barCell c) () 7) ∗ atPos ER (barCell c) 0 ∅ 0)
    ∗ (bigSepL [0, 1, 2, 3] fun t => iprop(tokRs c t ∗ tokAg c t))
    ∗ (bigSepL [0, 1, 2, 3] fun t => iprop(creds (rowRs t) c all8 ∗ creds (rowRa t) c all8)))
/-- The same with its cells open. -/
def start (c : Dev nD) : sProp 𝕄 :=
  iprop((∃ κ, known (ins m) κ) ∗ held0 c ∗ (bigSepL [0, 1, 2, 3, 4, 5, 6, 7, 8, 9, 10, 11] fun R => poss R c 0 all8))
/-- What the body leaves of it: every counter at zero. -/
def stop (c : Dev nD) : sProp 𝕄 :=
  iprop(semVal (barCell c) 0 ∗ (bigSepL [0, 1, 2, 3, 4, 5, 6, 7, 8, 9, 10, 11] fun R => bigSepL all8 fun j => semVal (dcell c R j) 0))

/-- What the region holds at its start is what the body starts with. -/
theorem enter (c : Dev nD) :
    iprop(owing c (O₀ c) ∗ insP (ins m) c ∗ (∃ f, outM.view.loc (c : Thread nD τ) ↦[Finset.univ]{fullShare} f) ∗ scratch c ∗ held0 c
        ∗ (bigSepL [0, 1, 2, 3, 4, 5, 6, 7, 8, 9, 10, 11] fun R => poss R c 0 all8))
      ⊢ bodyPre (ins m) c := by
  unfold scratch held0
  iintro ⟨HO, Hin, ⟨%o, Ho⟩, ⟨⟨%f0, H0⟩, ⟨%f1, H1⟩, ⟨%f2, H2⟩, ⟨%f3, H3⟩, ⟨%f4, H4⟩⟩, ⟨Hbt, ⟨Hbc, Hba⟩, Htk, Hcr⟩, Hps⟩
  ihave Hps' := (bigSepL_mono (l := [0, 1, 2, 3, 4, 5, 6, 7, 8, 9, 10, 11]) (Φ := fun R => (poss R c 0 all8 : sProp 𝕄)) (Ψ := fun R => iprop(poss R c 0 all8 ∗ reach R c))
    fun R _ => poss_reach R c) $$ Hps
  ihave Hpr := (sepL_unsep (fun R => (poss R c 0 all8 : sProp 𝕄)) (fun R => reach R c) _) $$ Hps'
  icases Hpr with ⟨Hps, Hre⟩
  ihave HL := (lend_all c f3 f4) $$ [H3 H4 Hre]
  · isplitl [H3]; · iexact H3
    isplitl [H4]; · iexact H4
    iexact Hre
  icases HL with ⟨Hown, Hlend⟩
  ihave Hseed := (sepL_sep (fun j : Fin 7 => (dutyTok ER (barCell (rot c (j.val + 1))) 0 c : sProp 𝕄)) (fun j : Fin 7 => barPay c (rot c (j.val + 1))) [0, 1, 2, 3, 4, 5, 6]) $$ [Hbt Hlend]
  · isplitl [Hbt]; · iexact Hbt
    iexact Hlend
  ihave Ho' := (Entails.of_eq (out_cut c o)) $$ Ho
  ihave Ho2 := (bigSepL_mono (l := [0, 1, 2, 3]) (Φ := fun t => (outP c t o : sProp 𝕄)) (Ψ := fun t => iprop(∃ f, outP c t f)) fun t _ => by
    iintro H; iexists o; iexact H) $$ Ho'
  ihave H1' := (Entails.of_eq (ts_cut c f1)) $$ H1
  ihave H2' := (Entails.of_eq (as_cut c f2)) $$ H2
  icases H1' with ⟨H10, H11⟩
  icases H2' with ⟨H20, H21⟩
  unfold bodyPre bufsP
  isplitl [HO]; · iexact HO
  isplitl [Hin]; · iexact Hin
  isplitl [H0 H10 H11 H20 H21]
  · isplitl [H0]; · iexists f0; unfold ctxP; iexact H0
    isplitl [H10]; · iexists f1; iexact H10
    isplitl [H11]; · iexists f1; iexact H11
    isplitl [H20]; · iexists f2; iexact H20
    iexists f2; iexact H21
  isplitl [Ho2]; · iexact Ho2
  isplitl [Hseed Hown Hbc Hba]
  · isplitl [Hseed]
    · unfold seedBar; iexact Hseed
    isplitl [Hown]; · iexact Hown
    isplitl [Hbc]; · iexact Hbc
    iexact Hba
  isplitl [Htk]; · iexact Htk
  isplitl [Hcr]; · iexact Hcr
  iexact Hps

/-- What the body leaves is what the region holds at its end. -/
theorem leave (c : Dev nD) :
    bodyPost (ins m) c ⊢ iprop(owing c 0 ∗ insP (ins m) c ∗ (outM.view.loc (c : Thread nD τ) ↦[Finset.univ]{fullShare} OUT (ins m)) ∗ scratch c ∗ stop c) := by
  unfold bodyPost bufsP scratch stop
  rw [out_cut]
  iintro ⟨HO, Hin, ⟨⟨%f0, H0⟩, ⟨%f10, H10⟩, ⟨%f11, H11⟩, ⟨%f20, H20⟩, ⟨%f21, H21⟩⟩, Ho, Hrb, Hab, Hb, Hs⟩
  isplitl [HO]; · iexact HO
  isplitl [Hin]; · iexact Hin
  isplitl [Ho]; · iexact Ho
  isplitl [H0 H10 H11 H20 H21 Hrb Hab]
  · isplitl [H0]; · iexists f0; unfold ctxP; iexact H0
    isplitl [H10 H11]
    · iapply (ts_join c f10 f11)
      isplitl [H10]; · iexact H10
      iexact H11
    isplitl [H20 H21]
    · iapply (as_join c f20 f21)
      isplitl [H20]; · iexact H20
      iexact H21
    isplitl [Hrb]
    · iexists (RB (ins m) c); rw [rb_cut]; iexact Hrb
    iexists (AB (ins m)); rw [ab_cut]; iexact Hab
  isplitl [Hb]; · iexact Hb
  iexact Hs

/-! ## The region's data and its body -/

/-- The region: the argument windows as they were, the result's written whole; everything owed is paid in it. -/
def dat (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).k
    | ⟨3, _⟩ => (ins m c).v
    | ⟨4, _⟩ => (ins m c).wo
    | ⟨5, _⟩ => OUT (ins m)
  Φ t := if t.val = 0 then iprop(start m c ∗ scratch c ∗ ∃ r, prngReg c r) else iprop(stop c ∗ scratch c ∗ ∃ r, prngReg c r)
  q _ := fullShare
  owed t := if t.val = 0 then O₀ c else 0

/-- The invariant before the one grid point. -/
theorem dat_first (c : Dev nD) : (dat m c).Φ t0_0.castSucc = iprop(start m c ∗ scratch c ∗ ∃ r, prngReg c r) := by
  dsimp only [dat]
  exact if_pos rfl
/-- The invariant after it. -/
theorem dat_last (c : Dev nD) : (dat m c).Φ t0_0.succ = iprop(stop c ∗ scratch c ∗ ∃ r, prngReg c r) := by
  dsimp only [dat]
  exact if_neg (by decide)
/-- What is owed before it. -/
theorem owed_first (c : Dev nD) : (dat m c).owed t0_0.castSucc = O₀ c := by
  dsimp only [dat]
  exact if_pos rfl
/-- Nothing is owed after it. -/
theorem owed_last (c : Dev nD) : (dat m c).owed t0_0.succ = 0 := by
  dsimp only [dat]
  exact if_neg (by decide)

/-- A debt, as the launch states it, -/
theorem owesAt_of (c : Dev nD) (t : Fin (cfg0.N + 1)) (O : CellTallies nD τ sig Unit) (h : (dat m c).owed t = O) :
    (owing c O : sProp 𝕄) ⊢ (dat m c).owesAt () t := by
  unfold owing Dat.owesAt Pipeline.owesWithin Dat.bound
  rw [h]
  iintro ⟨%W, HO⟩
  iexists W
  isplitr
  · ipureintro; exact fun _ _ => Or.inl trivial
  iexact HO
/-- and back. -/
theorem owing_of (c : Dev nD) (t : Fin (cfg0.N + 1)) (O : CellTallies nD τ sig Unit) (h : (dat m c).owed t = O) :
    (dat m c).owesAt () t ⊢ (owing c O : sProp 𝕄) := by
  unfold owing Dat.owesAt Pipeline.owesWithin
  rw [h]
  iintro ⟨%W, -, HO⟩
  iexists W
  iexact HO

/-- A whole buffer owned at contents is its points-to. -/
theorem owns_pts (c : Dev nD) (b : Ref sig .tc) (X : b.ty.Contents (Elt F)) :
    (owns (Ix := Unit) (Name := ℕ) (U := UU) (Lvl := ℕ) (c : Thread nD τ) (Memref.whole b) fullShare X : sProp 𝕄)
      ⊢ ((c : Thread nD τ).loc b ↦{fullShare} X) := by
  unfold owns
  simp only [Memref.view_whole, View.read_whole, View.set_whole]
  iintro ⟨%f, %hf, H⟩
  rw [← hf]
  iexact H
/-- A whole buffer, as the staging states it. -/
theorem pts_owns (c : Dev nD) (b : Ref sig .tc) (X : b.ty.Contents (Elt F)) :
    ((c : Thread nD τ).loc b ↦{fullShare} X : sProp 𝕄)
      ⊢ owns (Ix := Unit) (Name := ℕ) (U := UU) (Lvl := ℕ) (c : Thread nD τ) (Memref.whole b) fullShare X := by
  unfold owns
  simp only [Memref.view_whole, View.read_whole, View.set_whole]
  iintro H
  iexists X
  isplitr
  · ipureintro; rfl
  iexact H

/-- Window 0 is fetched whole. -/
theorem fetch_x (X d : S2048x1024.Idx → F .bf16) :
    (cfg0.win (0 : Fin 6)).fill (cfg0.grid.coords t0_0) d (((cfg0.win (0 : Fin 6)).blk t0_0).view.read (Elt F) X) = X := by
  funext j
  unfold Window.fill
  rw [dif_pos (((cfg0.win (0 : Fin 6)).moved_iff _ j).mpr fun a => (j a).isLt)]
  refine congrArg X (funext fun a => Fin.ext ?_)
  refine (Window.rect_emb_val_off (cfg0.win (0 : Fin 6)) t0_0 _ a).trans ?_
  show 0 * _ + _ = _
  rw [Nat.zero_mul, Nat.zero_add]
/-- Window 1 is fetched whole. -/
theorem fetch_wq (X d : S1024x1024.Idx → F .bf16) :
    (cfg0.win (1 : Fin 6)).fill (cfg0.grid.coords t0_0) d (((cfg0.win (1 : Fin 6)).blk t0_0).view.read (Elt F) X) = X := by
  funext j
  unfold Window.fill
  rw [dif_pos (((cfg0.win (1 : Fin 6)).moved_iff _ j).mpr fun a => (j a).isLt)]
  refine congrArg X (funext fun a => Fin.ext ?_)
  refine (Window.rect_emb_val_off (cfg0.win (1 : Fin 6)) t0_0 _ a).trans ?_
  show 0 * _ + _ = _
  rw [Nat.zero_mul, Nat.zero_add]
/-- Window 2 is fetched whole. -/
theorem fetch_k (X d : S2048x1024.Idx → F .bf16) :
    (cfg0.win (2 : Fin 6)).fill (cfg0.grid.coords t0_0) d (((cfg0.win (2 : Fin 6)).blk t0_0).view.read (Elt F) X) = X := by
  funext j
  unfold Window.fill
  rw [dif_pos (((cfg0.win (2 : Fin 6)).moved_iff _ j).mpr fun a => (j a).isLt)]
  refine congrArg X (funext fun a => Fin.ext ?_)
  refine (Window.rect_emb_val_off (cfg0.win (2 : Fin 6)) t0_0 _ a).trans ?_
  show 0 * _ + _ = _
  rw [Nat.zero_mul, Nat.zero_add]
/-- Window 3 is fetched whole. -/
theorem fetch_v (X d : S2048x1024.Idx → F .bf16) :
    (cfg0.win (3 : Fin 6)).fill (cfg0.grid.coords t0_0) d (((cfg0.win (3 : Fin 6)).blk t0_0).view.read (Elt F) X) = X := by
  funext j
  unfold Window.fill
  rw [dif_pos (((cfg0.win (3 : Fin 6)).moved_iff _ j).mpr fun a => (j a).isLt)]
  refine congrArg X (funext fun a => Fin.ext ?_)
  refine (Window.rect_emb_val_off (cfg0.win (3 : Fin 6)) t0_0 _ a).trans ?_
  show 0 * _ + _ = _
  rw [Nat.zero_mul, Nat.zero_add]
/-- Window 4 is fetched whole. -/
theorem fetch_wo (X d : S1024x1024.Idx → F .bf16) :
    (cfg0.win (4 : Fin 6)).fill (cfg0.grid.coords t0_0) d (((cfg0.win (4 : Fin 6)).blk t0_0).view.read (Elt F) X) = X := by
  funext j
  unfold Window.fill
  rw [dif_pos (((cfg0.win (4 : Fin 6)).moved_iff _ j).mpr fun a => (j a).isLt)]
  refine congrArg X (funext fun a => Fin.ext ?_)
  refine (Window.rect_emb_val_off (cfg0.win (4 : Fin 6)) t0_0 _ a).trans ?_
  show 0 * _ + _ = _
  rw [Nat.zero_mul, Nat.zero_add]
/-- The result's window is written back whole. -/
theorem flush_out {c : Dev nD} (D : Dat τ (Elt F) Unit ℕ UU ℕ cfg0 c) (X : S2048x1024.Idx → F .f32) (h : D.after (5 : Fin 6) t0_0 = X) :
    D.arrAt (5 : Fin 6) cfg0.N = X := by
  refine D.arrAt_eq_of_after_last (5 : Fin 6) t0_0 (by decide +kernel) _ fun j => ?_
  rw [h]
  refine congrArg X (funext fun a => Fin.ext ?_)
  rfl

/-- The staged activations are the operand's, -/
theorem before_x (c : Dev nD) (d) : (dat m c).before (0 : Fin 6) t0_0 d = (ins m c).x := by
  unfold Dat.before; rw [if_pos (fetch0_0 t0_0)]
  exact fetch_x (V1 m c main_v5) d
/-- the staged query projection too, -/
theorem before_wq (c : Dev nD) (d) : (dat m c).before (1 : Fin 6) t0_0 d = (ins m c).wq := by
  unfold Dat.before; rw [if_pos (fetch0_1 t0_0)]
  exact fetch_wq (V1 m c main_arg1) d
/-- the staged keys too, -/
theorem before_k (c : Dev nD) (d) : (dat m c).before (2 : Fin 6) t0_0 d = (ins m c).k := by
  unfold Dat.before; rw [if_pos (fetch0_2 t0_0)]
  exact fetch_k (V1 m c main_v12) d
/-- the staged values too, -/
theorem before_v (c : Dev nD) (d) : (dat m c).before (3 : Fin 6) t0_0 d = (ins m c).v := by
  unfold Dat.before; rw [if_pos (fetch0_3 t0_0)]
  exact fetch_v (V1 m c main_v19) d
/-- and the staged output projection. -/
theorem before_wo (c : Dev nD) (d) : (dat m c).before (4 : Fin 6) t0_0 d = (ins m c).wo := by
  unfold Dat.before; rw [if_pos (fetch0_4 t0_0)]
  exact fetch_wo (V1 m c main_arg4) d

/-- One window's staging buffer, whole. -/
abbrev stage (c : Dev nD) (b : Ref sig .tc) (X : b.ty.Contents (Elt F)) : sProp 𝕄 :=
  owns (Ix := Unit) (Name := ℕ) (U := UU) (Lvl := ℕ) (c : Thread nD τ) (Memref.whole b) fullShare X

/-- The staged operands are what the body reads. -/
theorem stage_in (c : Dev nD) :
    iprop((∃ d, stage c cc0_stg0_0 ((dat m c).before (0 : Fin 6) t0_0 d)) ∗ (∃ d, stage c cc0_stg1_0 ((dat m c).before (1 : Fin 6) t0_0 d))
        ∗ (∃ d, stage c cc0_stg2_0 ((dat m c).before (2 : Fin 6) t0_0 d)) ∗ (∃ d, stage c cc0_stg3_0 ((dat m c).before (3 : Fin 6) t0_0 d))
        ∗ (∃ d, stage c cc0_stg4_0 ((dat m c).before (4 : Fin 6) t0_0 d)) ∗ (∃ d, stage c cc0_stg5_0 ((dat m c).before (5 : Fin 6) t0_0 d)))
      ⊢ iprop(insP (ins m) c ∗ ∃ f, outM.view.loc (c : Thread nD τ) ↦[Finset.univ]{fullShare} f) := by
  unfold insP
  iintro ⟨⟨%d0, H0⟩, ⟨%d1, H1⟩, ⟨%d2, H2⟩, ⟨%d3, H3⟩, ⟨%d4, H4⟩, ⟨%d5, H5⟩⟩
  rw [before_x, before_wq, before_k, before_v, before_wo]
  isplitl [H0 H1 H2 H3 H4]
  · isplitl [H0]; · iapply (owns_pts c cc0_stg0_0 (ins m c).x) $$ H0
    isplitl [H1]; · iapply (owns_pts c cc0_stg1_0 (ins m c).wq) $$ H1
    isplitl [H2]; · iapply (owns_pts c cc0_stg2_0 (ins m c).k) $$ H2
    isplitl [H3]; · iapply (owns_pts c cc0_stg3_0 (ins m c).v) $$ H3
    iapply (owns_pts c cc0_stg4_0 (ins m c).wo) $$ H4
  iexists _
  iapply (owns_pts c cc0_stg5_0 _) $$ H5
/-- The body's operands and its result are what is staged back. -/
theorem stage_out (c : Dev nD) :
    iprop(insP (ins m) c ∗ (outM.view.loc (c : Thread nD τ) ↦[Finset.univ]{fullShare} OUT (ins m)))
      ⊢ iprop(stage c cc0_stg0_0 (ins m c).x ∗ stage c cc0_stg1_0 (ins m c).wq ∗ stage c cc0_stg2_0 (ins m c).k
        ∗ stage c cc0_stg3_0 (ins m c).v ∗ stage c cc0_stg4_0 (ins m c).wo ∗ stage c cc0_stg5_0 (OUT (ins m))) := by
  unfold insP
  iintro ⟨⟨H0, H1, H2, H3, H4⟩, H5⟩
  isplitl [H0]; · iapply (pts_owns c cc0_stg0_0 (ins m c).x) $$ H0
  isplitl [H1]; · iapply (pts_owns c cc0_stg1_0 (ins m c).wq) $$ H1
  isplitl [H2]; · iapply (pts_owns c cc0_stg2_0 (ins m c).k) $$ H2
  isplitl [H3]; · iapply (pts_owns c cc0_stg3_0 (ins m c).v) $$ H3
  isplitl [H4]; · iapply (pts_owns c cc0_stg4_0 (ins m c).wo) $$ H4
  iapply (pts_owns c cc0_stg5_0 (OUT (ins m))) $$ H5

/-- The body does what the region asks of it. -/
theorem body_obligation (c : Dev nD) : BodyObligation (dat m c) (defs₀ (F := F)) 𝒱₀ () Set.univ := fun t => by
  obtain rfl := fin_N0 t
  rw [bigSep_W0, bigSep_W0, dat_first, dat_last]
  show iprop((start m c ∗ scratch c ∗ ∃ r, prngReg c r) ∗ (dat m c).owesAt () t0_0.castSucc
      ∗ (∃ d, stage c cc0_stg0_0 ((dat m c).before (0 : Fin 6) t0_0 d)) ∗ (∃ d, stage c cc0_stg1_0 ((dat m c).before (1 : Fin 6) t0_0 d))
      ∗ (∃ d, stage c cc0_stg2_0 ((dat m c).before (2 : Fin 6) t0_0 d)) ∗ (∃ d, stage c cc0_stg3_0 ((dat m c).before (3 : Fin 6) t0_0 d))
      ∗ (∃ d, stage c cc0_stg4_0 ((dat m c).before (4 : Fin 6) t0_0 d)) ∗ (∃ d, stage c cc0_stg5_0 ((dat m c).before (5 : Fin 6) t0_0 d)))
    ⊢ Run c (bodyAt0 (F := F) t0_0) fun _ => iprop((stop c ∗ scratch c ∗ ∃ r, prngReg c r) ∗ (dat m c).owesAt () t0_0.succ
      ∗ stage c cc0_stg0_0 (ins m c).x ∗ stage c cc0_stg1_0 (ins m c).wq ∗ stage c cc0_stg2_0 (ins m c).k
      ∗ stage c cc0_stg3_0 (ins m c).v ∗ stage c cc0_stg4_0 (ins m c).wo ∗ stage c cc0_stg5_0 (OUT (ins m)))
  rw [bodyAt_eq]
  unfold start
  iintro ⟨⟨⟨⟨%κ, #HK⟩, Hh, Hps⟩, Hsc, Hr⟩, HO, Hst⟩
  ihave HO' := (owing_of m c _ (O₀ c) (owed_first m c)) $$ HO
  ihave Hin := (stage_in m c) $$ Hst
  icases Hin with ⟨Hin, Hout⟩
  iapply (body_run (ins m) κ c)
  isplitr; · iexact HK
  isplitl [HO' Hin Hout Hsc Hh Hps]
  · iapply (enter m c)
    isplitl [HO']; · iexact HO'
    isplitl [Hin]; · iexact Hin
    isplitl [Hout]; · iexact Hout
    isplitl [Hsc]; · iexact Hsc
    isplitl [Hh]; · iexact Hh
    iexact Hps
  iintro Hpost
  ihave H := (leave m c) $$ Hpost
  icases H with ⟨HO, Hin, Hout, Hsc, Hstop⟩
  isplitl [Hstop Hsc Hr]
  · isplitl [Hstop]; · iexact Hstop
    isplitl [Hsc]; · iexact Hsc
    iexact Hr
  isplitl [HO]; · iapply (owesAt_of m c _ 0 (owed_last m c)) $$ HO
  iapply (stage_out m c)
  isplitl [Hin]; · iexact Hin
  iexact Hout

end Cert.KernelIdeal.Gen.Fused

end
-- ==== Proof.FundKernelIdeal.lean ====
module

public import proofs.«01_k».proof.Proof.BookKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

/-! # What the launch deals out -/

/-! ## The tokens -/

/-- A list of four, written out. -/
theorem sepL4' (Φ : Fin 4 → sProp 𝕄) : bigSepL [0, 1, 2, 3] Φ = iprop(Φ 0 ∗ Φ 1 ∗ Φ 2 ∗ Φ 3) := rfl

/-- Two families over the devices, as one of pairs. -/
theorem both {Φ Ψ : Dev nD → sProp 𝕄} : iprop(bigSep Finset.univ Φ ∗ bigSep Finset.univ Ψ) ⊢ bigSep Finset.univ fun c => iprop(Φ c ∗ Ψ c) :=
  Entails.of_eq (bigSep_sep' _ _ _).symm
/-- One family of pairs, as two. -/
theorem apart {Φ Ψ : Dev nD → sProp 𝕄} : (bigSep Finset.univ fun c => iprop(Φ c ∗ Ψ c)) ⊢ iprop(bigSep Finset.univ Φ ∗ bigSep Finset.univ Ψ) :=
  Entails.of_eq (bigSep_sep' _ _ _)

/-- Every copy cell's token in each of two rounds. -/
def copyEmb : (Dev nD × (Fin 12 × Fin 8)) × Fin 2 ↪ GSem nD τ sig × ℕ × Fin 8 :=
  ⟨fun x => (scEmb x.1, x.2.val, 0), fun _ _ h =>
    Prod.ext (scEmb.injective (congrArg (fun y : GSem nD τ sig × ℕ × Fin 8 => y.1) h))
      (Fin.ext (congrArg (fun y : GSem nD τ sig × ℕ × Fin 8 => y.2.1) h))⟩
/-- Every barrier cell's token from each device. -/
def signalEmb : Dev nD × Fin 8 ↪ GSem nD τ sig × ℕ × Fin 8 :=
  ⟨fun x => (barEmb x.1, 0, x.2), fun _ _ h =>
    Prod.ext (barEmb.injective (congrArg (fun y : GSem nD τ sig × ℕ × Fin 8 => y.1) h))
      (congrArg (fun y : GSem nD τ sig × ℕ × Fin 8 => y.2.2) h)⟩

/-- The tokens of all copies' duties. -/
abbrev copyToks : Finset (GSem nD τ sig × ℕ × Fin 8) := Finset.univ.map copyEmb
/-- The tokens of all signals' duties. -/
abbrev signalToks : Finset (GSem nD τ sig × ℕ × Fin 8) := Finset.univ.map signalEmb

/-- No token is of both kinds. -/
theorem disjoint_toks : Disjoint copyToks signalToks := by
  rw [Finset.disjoint_left]
  rintro x h₁ h₂
  obtain ⟨a, -, rfl⟩ := Finset.mem_map.mp h₁
  obtain ⟨b, -, h⟩ := Finset.mem_map.mp h₂
  have h' : (SemLoc.reg barS : SemLoc sig) = .dma (dsem a.1.2.1 a.1.2.2) := congrArg (fun y : GSem nD τ sig × ℕ × Fin 8 => y.1.2) h
  cases h'

/-- Every token. -/
abbrev toks : Finset (GSem nD τ sig × ℕ × Fin 8) := copyToks ∪ signalToks

/-- A row's tokens of a round, on a device's own cells. -/
def mine (R : Fin 12) (r : ℕ) (c : Dev nD) : sProp 𝕄 := bigSepL all8 fun j => dutyTok ER (dcell c R j) r 0
/-- A row's first tokens, on the cells a device writes to. -/
def theirs (R : Fin 12) (c : Dev nD) : sProp 𝕄 := bigSepL all8 fun j => dutyTok ER (dcell (rot c j.val) R c) 0 0

/-- All landings' tokens, dealt by receiver or by sender. -/
theorem mine_theirs (R : Fin 12) :
    (bigSep Finset.univ fun c : Dev nD => mine R 0 c) = (bigSep Finset.univ fun c : Dev nD => theirs R c : sProp 𝕄) := by
  have h1 : (fun c : Dev nD => mine (F := F) R 0 c) = fun c => bigSep Finset.univ fun s : Fin 8 => dutyTok ER (dcell c R s) 0 0 :=
    funext fun c => sepL_all8 _
  have h2 : (fun c : Dev nD => theirs (F := F) R c) = fun c => bigSep Finset.univ fun d : Dev nD => dutyTok ER (dcell d R c) 0 0 :=
    funext fun c => sepL_rot c fun d => dutyTok ER (dcell d R c) 0 0
  rw [h1, h2]
  exact BI.bigSep_univ_comm fun (c : Dev nD) (s : Fin 8) => (dutyTok ER (dcell c R s) 0 0 : sProp 𝕄)

/-- The copy cells' tokens, row by row. -/
theorem copyToks_rows :
    (bigSep copyToks fun x => (dutyTok ER x.1 x.2.1 x.2.2 : sProp 𝕄))
      = bigSepL [0, 1, 2, 3, 4, 5, 6, 7, 8, 9, 10, 11] fun R => bigSep Finset.univ fun c : Dev nD => iprop(mine R 0 c ∗ mine R 1 c) := by
  have h (R : Fin 12) (c : Dev nD) : (bigSep Finset.univ fun j : Fin 8 => bigSep Finset.univ fun r : Fin 2 => (dutyTok ER (dcell c R j) r.val 0 : sProp 𝕄))
      = iprop(mine R 0 c ∗ mine R 1 c) := by
    unfold mine
    rw [sepL_all8, sepL_all8, ← bigSep_sep']
    exact bigSep_congr fun j _ => BI.bigSep_fin_two fun r : Fin 2 => (dutyTok ER (dcell c R j) r.val 0 : sProp 𝕄)
  rw [BI.bigSep_map, BI.bigSep_univ_prod, BI.bigSep_univ_prod]
  refine (bigSep_congr fun c _ => BI.bigSep_univ_prod _).trans ?_
  refine (bigSep_congr fun c _ => bigSep_congr fun R _ => h R c).trans ?_
  refine (BI.bigSep_univ_comm fun (c : Dev nD) (R : Fin 12) => (iprop(mine R 0 c ∗ mine R 1 c) : sProp 𝕄)).trans ?_
  exact bigSep_univ_eq_bigSepL [0, 1, 2, 3, 4, 5, 6, 7, 8, 9, 10, 11] (by decide) (by decide) _

/-- Each device gets the tokens of its seven signals. -/
theorem signalToks_deal :
    (bigSep signalToks fun x => (dutyTok ER x.1 x.2.1 x.2.2 : sProp 𝕄))
      ⊢ bigSep Finset.univ fun c : Dev nD => bigSepL [0, 1, 2, 3, 4, 5, 6] fun j : Fin 7 => dutyTok ER (barCell (rot c (j.val + 1))) 0 c := by
  rw [BI.bigSep_map, bigSep_univ_prod, BI.bigSep_univ_comm]
  refine bigSep_mono fun c _ => ?_
  refine (Entails.of_eq (sepL_rot c fun d => (dutyTok ER (barCell d) 0 c : sProp 𝕄)).symm).trans ?_
  refine (show (bigSepL all8 fun j => (dutyTok ER (barCell (rot c j.val)) 0 c : sProp 𝕄))
    ⊢ iprop(dutyTok ER (barCell (rot c 0)) 0 c ∗ bigSepL [0, 1, 2, 3, 4, 5, 6] fun j : Fin 7 => dutyTok ER (barCell (rot c (j.val + 1))) 0 c) from .rfl).trans ?_
  iintro ⟨-, H⟩
  iexact H

/-- What a tile's sends of partial products need of tokens. -/
theorem tokRs_of (c : Dev nD) (t : Fin 4) : iprop(theirs (rowRs t) c ∗ mine (rowSs (half t)) (t.val / 2) c) ⊢ (tokRs c t : sProp 𝕄) :=
  sepL_sep _ _ all8
/-- What a tile's sends of reduced rows need of tokens. -/
theorem tokAg_of (c : Dev nD) (t : Fin 4) : iprop(theirs (rowRa t) c ∗ mine (rowSa (half t)) (t.val / 2) c) ⊢ (tokAg c t : sProp 𝕄) :=
  sepL_sep _ _ all8

/-- One device's copy tokens, row by row. -/
def rowsTok (c : Dev nD) : sProp 𝕄 :=
  iprop((mine 0 0 c ∗ mine 0 1 c) ∗ (mine 1 0 c ∗ mine 1 1 c) ∗ theirs 2 c ∗ theirs 3 c ∗ theirs 4 c ∗ theirs 5 c
    ∗ (mine 6 0 c ∗ mine 6 1 c) ∗ (mine 7 0 c ∗ mine 7 1 c) ∗ theirs 8 c ∗ theirs 9 c ∗ theirs 10 c ∗ theirs 11 c)

/-- A device's tokens by row are its tokens by tile. -/
theorem rowsTok_toks (c : Dev nD) : rowsTok c ⊢ (bigSepL [0, 1, 2, 3] fun t => iprop(tokRs c t ∗ tokAg c t) : sProp 𝕄) := by
  rw [sepL4']
  unfold rowsTok
  iintro ⟨⟨Ha0, Ha2⟩, ⟨Ha1, Ha3⟩, Hb0, Hb1, Hb2, Hb3, ⟨Hc0, Hc2⟩, ⟨Hc1, Hc3⟩, Hd0, Hd1, Hd2, Hd3⟩
  isplitl [Ha0 Hb0 Hc0 Hd0]
  · isplitl [Ha0 Hb0]
    · iapply (tokRs_of c 0); isplitl [Hb0]; · iexact Hb0
      iexact Ha0
    iapply (tokAg_of c 0); isplitl [Hd0]; · iexact Hd0
    iexact Hc0
  isplitl [Ha1 Hb1 Hc1 Hd1]
  · isplitl [Ha1 Hb1]
    · iapply (tokRs_of c 1); isplitl [Hb1]; · iexact Hb1
      iexact Ha1
    iapply (tokAg_of c 1); isplitl [Hd1]; · iexact Hd1
    iexact Hc1
  isplitl [Ha2 Hb2 Hc2 Hd2]
  · isplitl [Ha2 Hb2]
    · iapply (tokRs_of c 2); isplitl [Hb2]; · iexact Hb2
      iexact Ha2
    iapply (tokAg_of c 2); isplitl [Hd2]; · iexact Hd2
    iexact Hc2
  isplitl [Ha3 Hb3]
  · iapply (tokRs_of c 3); isplitl [Hb3]; · iexact Hb3
    iexact Ha3
  iapply (tokAg_of c 3); isplitl [Hd3]; · iexact Hd3
  iexact Hc3

/-- A list of twelve, written out. -/
theorem sepL12' (Φ : Fin 12 → sProp 𝕄) : bigSepL [0, 1, 2, 3, 4, 5, 6, 7, 8, 9, 10, 11] Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := rfl

/-- Rows whose copies land elsewhere: the token goes to the writer. -/
theorem cross (R : Fin 12) :
    (bigSep Finset.univ fun c : Dev nD => iprop(mine R 0 c ∗ mine R 1 c)) ⊢ (bigSep Finset.univ fun c : Dev nD => theirs R c : sProp 𝕄) := by
  rw [← mine_theirs]
  refine bigSep_mono fun c _ => ?_
  show iprop(mine R 0 c ∗ mine R 1 c) ⊢ (mine R 0 c : sProp 𝕄)
  iintro ⟨H, -⟩
  iexact H

/-- Each device gets the tokens of its copies. -/
theorem copyToks_deal :
    (bigSep copyToks fun x => (dutyTok ER x.1 x.2.1 x.2.2 : sProp 𝕄))
      ⊢ bigSep Finset.univ fun c : Dev nD => bigSepL [0, 1, 2, 3] fun t => iprop(tokRs c t ∗ tokAg c t) := by
  refine BIBase.Entails.trans ?_ (bigSep_mono fun c _ => rowsTok_toks c)
  rw [copyToks_rows, sepL12']
  unfold rowsTok
  iintro ⟨H0, H1, H2, H3, H4, H5, H6, H7, H8, H9, H10, H11⟩
  ihave H2 := (cross 2) $$ H2
  ihave H3 := (cross 3) $$ H3
  ihave H4 := (cross 4) $$ H4
  ihave H5 := (cross 5) $$ H5
  ihave H8 := (cross 8) $$ H8
  ihave H9 := (cross 9) $$ H9
  ihave H10 := (cross 10) $$ H10
  ihave H11 := (cross 11) $$ H11
  iapply both; isplitl [H0]; · iexact H0
  iapply both; isplitl [H1]; · iexact H1
  iapply both; isplitl [H2]; · iexact H2
  iapply both; isplitl [H3]; · iexact H3
  iapply both; isplitl [H4]; · iexact H4
  iapply both; isplitl [H5]; · iexact H5
  iapply both; isplitl [H6]; · iexact H6
  iapply both; isplitl [H7]; · iexact H7
  iapply both; isplitl [H8]; · iexact H8
  iapply both; isplitl [H9]; · iexact H9
  iapply both; isplitl [H10]; · iexact H10
  iexact H11

/-! ## The credit -/

/-- The device, the row and the place tell the copy semaphores apart. -/
theorem cell_eq {c c' : Dev nD} {R R' : Fin 12} {j j' : Fin 8} (h : dcell c R j = dcell c' R' j') : c = c' ∧ R = R' ∧ j = j' :=
  ⟨congrArg (fun g : GSem nD τ sig => g.1.1) h, dsem_inj (congrArg Prod.snd h)⟩
/-- No barrier is a copy semaphore. -/
theorem bar_ne_cell (c c' : Dev nD) (R : Fin 12) (j : Fin 8) : barCell c ≠ dcell c' R j := fun h => by
  have h' : (SemLoc.reg barS : SemLoc sig) = .dma (dsem R j) := congrArg Prod.snd h
  cases h'

/-- A debt to one copy semaphore, read at another. -/
theorem tally_d (c c' : Dev nD) (R R' : Fin 12) (j j' : Fin 8) (n : ℕ) :
    (tallyAt (dcell c' R' j') () n : CellTallies nD τ sig Unit) (dcell c R j) () = if c = c' ∧ R = R' ∧ j = j' then n else 0 := by
  rw [tallyAt_apply]
  by_cases h : c = c' ∧ R = R' ∧ j = j'
  · obtain ⟨rfl, rfl, rfl⟩ := h
    rw [if_pos ⟨rfl, rfl⟩, if_pos ⟨rfl, rfl, rfl⟩]
  · rw [if_neg fun e => h (cell_eq e.1), if_neg h]
/-- A debt to a barrier is none to a copy semaphore, -/
theorem tally_bar_d (c c' : Dev nD) (R : Fin 12) (j : Fin 8) (n : ℕ) :
    (tallyAt (barCell c') () n : CellTallies nD τ sig Unit) (dcell c R j) () = 0 := by
  rw [tallyAt_apply, if_neg fun e => bar_ne_cell c' c R j e.1.symm]
/-- nor the reverse. -/
theorem tally_d_bar (c c' : Dev nD) (R : Fin 12) (j : Fin 8) (n : ℕ) :
    (tallyAt (dcell c' R j) () n : CellTallies nD τ sig Unit) (barCell c) () = 0 := by
  rw [tallyAt_apply, if_neg fun e => bar_ne_cell c c' R j e.1]
/-- A debt to one barrier, read at another. -/
theorem tally_bar (c c' : Dev nD) (n : ℕ) :
    (tallyAt (barCell c') () n : CellTallies nD τ sig Unit) (barCell c) () = if c = c' then n else 0 := by
  rw [tallyAt_apply]
  by_cases h : c = c'
  · subst h; rw [if_pos ⟨rfl, rfl⟩, if_pos rfl]
  · rw [if_neg fun e => h (congrArg (fun g : GSem nD τ sig => g.1.1) e.1), if_neg h]

/-- How many places of a list turn to a device. -/
def hits (d c : Dev nD) (l : List (Fin 8)) : ℕ := l.countP fun j => decide (c = rot d j.val)
/-- Going round eight places meets a device once. -/
theorem hits_all (d c : Dev nD) : hits d c all8 = 1 := by revert d c; decide

/-- What a device owes a copy semaphore for a tile's partial products. -/
theorem dueRs_d (d c : Dev nD) (t : Fin 4) (R : Fin 12) (s : Fin 8) : ∀ l,
    dueRs d t l (dcell c R s) () = if R = rowRs t ∧ s = d then hits d c l * N else 0
  | [] => by
    show (0 : ℕ) = _
    unfold hits
    rw [List.countP_nil, Nat.zero_mul, ite_self]
  | j :: js => by
    show (dueRs d t js + tallyAt (dcell (rot d j.val) (rowRs t) d) () N : CellTallies nD τ sig Unit) (dcell c R s) () = _
    rw [Pi.add_apply, Finsupp.add_apply, dueRs_d d c t R s js, tally_d]
    unfold hits
    rw [List.countP_cons]
    by_cases h : R = rowRs t ∧ s = d
    · by_cases h' : c = rot d j.val
      · rw [if_pos h, if_pos ⟨h', h⟩, if_pos h, if_pos (decide_eq_true h'), Nat.add_mul, Nat.one_mul]
      · rw [if_pos h, if_neg fun e => h' e.1, if_pos h, if_neg (by rw [decide_eq_false h']; exact Bool.false_ne_true), Nat.add_zero, Nat.add_zero]
    · rw [if_neg h, if_neg fun e => h e.2, if_neg h]
/-- What it owes one for a tile's reduced rows. -/
theorem dueAg_d (d c : Dev nD) (t : Fin 4) (R : Fin 12) (s : Fin 8) : ∀ l,
    dueAg d t l (dcell c R s) () = if R = rowRa t ∧ s = d then hits d c l * N else 0
  | [] => by
    show (0 : ℕ) = _
    unfold hits
    rw [List.countP_nil, Nat.zero_mul, ite_self]
  | j :: js => by
    show (dueAg d t js + tallyAt (dcell (rot d j.val) (rowRa t) d) () N : CellTallies nD τ sig Unit) (dcell c R s) () = _
    rw [Pi.add_apply, Finsupp.add_apply, dueAg_d d c t R s js, tally_d]
    unfold hits
    rw [List.countP_cons]
    by_cases h : R = rowRa t ∧ s = d
    · by_cases h' : c = rot d j.val
      · rw [if_pos h, if_pos ⟨h', h⟩, if_pos h, if_pos (decide_eq_true h'), Nat.add_mul, Nat.one_mul]
      · rw [if_pos h, if_neg fun e => h' e.1, if_pos h, if_neg (by rw [decide_eq_false h']; exact Bool.false_ne_true), Nat.add_zero, Nat.add_zero]
    · rw [if_neg h, if_neg fun e => h e.2, if_neg h]
/-- Its signals owe a copy semaphore nothing. -/
theorem dueBar_d (d c : Dev nD) (R : Fin 12) (s : Fin 8) : ∀ l, dueBar d l (dcell c R s) () = 0
  | [] => rfl
  | j :: js => by
    show (dueBar d js + tallyAt (barCell (rot d (j.val + 1))) () 1 : CellTallies nD τ sig Unit) (dcell c R s) () = _
    rw [Pi.add_apply, Finsupp.add_apply, dueBar_d d c R s js, tally_bar_d]
/-- The partial products owe a barrier nothing, -/
theorem dueRs_bar (d c : Dev nD) (t : Fin 4) : ∀ l, dueRs d t l (barCell c) () = 0
  | [] => rfl
  | j :: js => by
    show (dueRs d t js + tallyAt (dcell (rot d j.val) (rowRs t) d) () N : CellTallies nD τ sig Unit) (barCell c) () = _
    rw [Pi.add_apply, Finsupp.add_apply, dueRs_bar d c t js, tally_d_bar]
/-- nor do the reduced rows. -/
theorem dueAg_bar (d c : Dev nD) (t : Fin 4) : ∀ l, dueAg d t l (barCell c) () = 0
  | [] => rfl
  | j :: js => by
    show (dueAg d t js + tallyAt (dcell (rot d j.val) (rowRa t) d) () N : CellTallies nD τ sig Unit) (barCell c) () = _
    rw [Pi.add_apply, Finsupp.add_apply, dueAg_bar d c t js, tally_d_bar]
/-- How many of the barrier's places turn to a device. -/
def turns (d c : Dev nD) (l : List (Fin 7)) : ℕ := l.countP fun j => decide (c = rot d (j.val + 1))
/-- What a device's signals owe a barrier. -/
theorem dueBar_bar (d c : Dev nD) : ∀ l, dueBar d l (barCell c) () = turns d c l
  | [] => rfl
  | j :: js => by
    show (dueBar d js + tallyAt (barCell (rot d (j.val + 1))) () 1 : CellTallies nD τ sig Unit) (barCell c) () = _
    rw [Pi.add_apply, Finsupp.add_apply, dueBar_bar d c js, tally_bar]
    unfold turns
    rw [List.countP_cons]
    by_cases h : c = rot d (j.val + 1)
    · rw [if_pos h, if_pos (decide_eq_true h)]
    · rw [if_neg h, if_neg (by rw [decide_eq_false h]; exact Bool.false_ne_true)]
/-- Together the devices owe a barrier seven. -/
theorem turns_all (c : Dev nD) : ∑ d : Dev nD, turns d c [0, 1, 2, 3, 4, 5, 6] = 7 := by revert c; decide

/-- What a device owes a barrier at the start. -/
theorem O₀_bar (d c : Dev nD) : O₀ d (barCell c) () = turns d c [0, 1, 2, 3, 4, 5, 6] := by
  unfold O₀ O1 O2 O3 O4 O5 O6 O7 O8
  simp only [Pi.add_apply, Finsupp.add_apply, dueRs_bar, dueAg_bar, dueBar_bar, Pi.zero_apply, Finsupp.zero_apply, Nat.zero_add]

/-- What a device owes a copy cell. -/
theorem O₀_d (d c : Dev nD) (R : Fin 12) (s : Fin 8) : O₀ d (dcell c R s) ()
    = (if R = rowRa 3 ∧ s = d then N else 0) + (if R = rowRa 2 ∧ s = d then N else 0) + (if R = rowRs 3 ∧ s = d then N else 0)
      + (if R = rowRa 1 ∧ s = d then N else 0) + (if R = rowRs 2 ∧ s = d then N else 0) + (if R = rowRa 0 ∧ s = d then N else 0)
      + (if R = rowRs 1 ∧ s = d then N else 0) + (if R = rowRs 0 ∧ s = d then N else 0) := by
  unfold O₀ O1 O2 O3 O4 O5 O6 O7 O8
  simp only [Pi.add_apply, Finsupp.add_apply, dueRs_d, dueAg_d, dueBar_d, Pi.zero_apply, Finsupp.zero_apply, Nat.zero_add, Nat.add_zero, hits_all, Nat.one_mul]

/-- What it owes a partial product's landing at the start. -/
theorem O₀_rs (d c : Dev nD) (t : Fin 4) (s : Fin 8) : O₀ d (dcell c (rowRs t) s) () = if d = s then N else 0 := by
  rw [O₀_d]
  generalize N = n
  by_cases h : d = s
  · subst h
    match t with
    | 0 => simp +decide
    | 1 => simp +decide
    | 2 => simp +decide
    | 3 => simp +decide
  · have h' : s ≠ d := fun e => h e.symm
    simp only [h', h, _root_.and_false, if_false, Nat.add_zero]
/-- What it owes a reduced row's landing at the start. -/
theorem O₀_ra (d c : Dev nD) (t : Fin 4) (s : Fin 8) : O₀ d (dcell c (rowRa t) s) () = if d = s then N else 0 := by
  rw [O₀_d]
  generalize N = n
  by_cases h : d = s
  · subst h
    match t with
    | 0 => simp +decide
    | 1 => simp +decide
    | 2 => simp +decide
    | 3 => simp +decide
  · have h' : s ≠ d := fun e => h e.symm
    simp only [h', h, _root_.and_false, if_false, Nat.add_zero]

/-- A barrier starts with seven credits, -/
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact (Finset.sum_congr rfl fun d _ => O₀_bar d c).trans (turns_all c)
/-- a partial product's landing with a block's, -/
theorem launch_rs (c : Dev nD) (t : Fin 4) (s : Fin 8) :
    tallyOn (dcell c (rowRs t) s) (launchCredit (Pipeline.owing O₀) 0 (dcell c (rowRs t) s)) = (tallyAt (dcell c (rowRs t) s) () N : CellTallies nD τ sig Unit) := by
  unfold tallyAt; refine congrArg _ (Finsupp.ext fun u => ?_); cases u
  rw [Pipeline.launchCredit_owing, Finsupp.single_eq_same, Finset.sum_congr rfl fun d _ => O₀_rs d c t s, Finset.sum_ite_eq' Finset.univ s fun _ => N,
    if_pos (Finset.mem_univ _)]
/-- and a reduced row's landing with a block's. -/
theorem launch_ra (c : Dev nD) (t : Fin 4) (s : Fin 8) :
    tallyOn (dcell c (rowRa t) s) (launchCredit (Pipeline.owing O₀) 0 (dcell c (rowRa t) s)) = (tallyAt (dcell c (rowRa t) s) () N : CellTallies nD τ sig Unit) := by
  unfold tallyAt; refine congrArg _ (Finsupp.ext fun u => ?_); cases u
  rw [Pipeline.launchCredit_owing, Finsupp.single_eq_same, Finset.sum_congr rfl fun d _ => O₀_ra d c t s, Finset.sum_ite_eq' Finset.univ s fun _ => N,
    if_pos (Finset.mem_univ _)]

/-- The kernel's copy semaphores among all of them. -/
def osemEmb : Fin 12 × Fin 8 ↪ SemLoc sig := ⟨osem, fun _ _ h => Prod.ext (dsem_inj h).1 (dsem_inj h).2⟩

/-- No copy semaphore of the kernel's is the barrier. -/
theorem osem_ne_bar (k : Fin 12 × Fin 8) : osemEmb k ≠ .reg barS := fun e => by
  have h : (SemLoc.reg barS : SemLoc sig) = .dma (dsem k.1 k.2) := e.symm
  cases h

/-- A device's credits at the start, sorted by row. -/
theorem creds_deal (c : Dev nD) :
    (Pipeline.launchCred O₀ c : sProp 𝕄) ⊢ iprop(cred (tallyAt (barCell c) () 7)
      ∗ bigSepL [0, 1, 2, 3] fun t => iprop(creds (rowRs t) c all8 ∗ creds (rowRa t) c all8)) := by
  unfold Pipeline.launchCred
  rw [bigSep_univ_at _ (SemLoc.reg barS), launch_bar]
  refine sep_mono_right ?_
  refine BIBase.Entails.trans (bigSep_subset (t := Finset.univ.map osemEmb) (fun sm h => by
    obtain ⟨k, -, rfl⟩ := Finset.mem_map.mp h
    exact Finset.mem_erase.mpr ⟨osem_ne_bar k, Finset.mem_univ _⟩)) ?_
  rw [BI.bigSep_map, bigSep_univ_prod, bigSep_univ_eq_bigSepL [0, 1, 2, 3, 4, 5, 6, 7, 8, 9, 10, 11] (by decide) (by decide), sepL12', sepL4']
  have hs (t : Fin 4) (R : Fin 12) (h : R = rowRs t) :
      (bigSep Finset.univ fun s : Fin 8 => (cred (tallyOn ((c : Thread nD τ), osemEmb (R, s)) (launchCredit (Pipeline.owing O₀) 0 ((c : Thread nD τ), osemEmb (R, s)))) : sProp 𝕄))
      ⊢ creds (rowRs t) c all8 := by
    subst h
    unfold creds
    rw [sepL_all8]
    exact Entails.of_eq (bigSep_congr fun s _ => congrArg cred (launch_rs c t s))
  have ha (t : Fin 4) (R : Fin 12) (h : R = rowRa t) :
      (bigSep Finset.univ fun s : Fin 8 => (cred (tallyOn ((c : Thread nD τ), osemEmb (R, s)) (launchCredit (Pipeline.owing O₀) 0 ((c : Thread nD τ), osemEmb (R, s)))) : sProp 𝕄))
      ⊢ creds (rowRa t) c all8 := by
    subst h
    unfold creds
    rw [sepL_all8]
    exact Entails.of_eq (bigSep_congr fun s _ => congrArg cred (launch_ra c t s))
  iintro ⟨-, -, Hs0, Hs1, Hs2, Hs3, -, -, Ha0, Ha1, Ha2, Ha3⟩
  isplitl [Hs0 Ha0]
  · isplitl [Hs0]; · iapply (hs 0 2 rfl) $$ Hs0
    iapply (ha 0 8 rfl) $$ Ha0
  isplitl [Hs1 Ha1]
  · isplitl [Hs1]; · iapply (hs 1 3 rfl) $$ Hs1
    iapply (ha 1 9 rfl) $$ Ha1
  isplitl [Hs2 Ha2]
  · isplitl [Hs2]; · iapply (hs 2 4 rfl) $$ Hs2
    iapply (ha 2 10 rfl) $$ Ha2
  isplitl [Hs3]; · iapply (hs 3 5 rfl) $$ Hs3
  iapply (ha 3 11 rfl) $$ Ha3

end Cert.KernelIdeal.Gen.Fused

end
-- ==== Proof.LaunchKernelIdeal.lean ====
module

public import proofs.«01_k».proof.Proof.RegionKernelIdeal
public import proofs.«01_k».proof.Proof.FundKernelIdeal

@[expose] public section

set_option maxRecDepth 65536

noncomputable section

namespace Cert.KernelIdeal.Gen.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] [Named F]

local notation "𝕄" => MT nD τ sig Unit (Elt F) ℕ UU ℕ

variable (m : (ℓ : Loc nD τ sig) → Buf (Elt F) ℓ) (ρ : Dev nD → PrngReg)

/-! # The whole program's run -/

/-- What the region leaves in the result's array. -/
def outs : Outs (F := F) := fun _ r c => Function.update (V1 m c) main_v20 (OUT (ins m)) r
/-- It leaves the output there. -/
theorem outs_eq (c : Dev nD) : outs m 2 main_v20 c = OUT (ins m) := Function.update_self _ _ _

/-- The buffers' contents after the region. -/
abbrev W2 (c : Dev nD) : Valuation τ sig (Elt F) := V2 m (outs m) c
/-- The output's array after the region. -/
theorem W2_out (c : Dev nD) : W2 m c main_v20 = OUT (ins m) := (Function.update_self _ _ _).trans (outs_eq m c)

/-- The one region's data. -/
def pdats : (p : Fin 1) → (c : Dev nD) → Dat τ (Elt F) Unit ℕ UU ℕ (cfgs p) c
  | 0 => dat m

/-! ## Opening and closing the copy cells -/

/-- A device's own copy counters, row by row. -/
theorem ownSems_rows (c : Dev nD) :
    (Pipeline.ownSems0 (Ix := Unit) (Val := Elt F) (Name := ℕ) (U := UU) (Lvl := ℕ) osem c : sProp 𝕄)
      = bigSepL [0, 1, 2, 3, 4, 5, 6, 7, 8, 9, 10, 11] fun R => bigSepL all8 fun j => semVal (dcell c R j) 0 := by
  unfold Pipeline.ownSems0
  rw [BI.bigSep_univ_prod, bigSep_univ_eq_bigSepL [0, 1, 2, 3, 4, 5, 6, 7, 8, 9, 10, 11] (by decide) (by decide)]
  exact congrArg (bigSepL _) (funext fun R => (sepL_all8 _).symm)

/-- A row of copy semaphores at zero starts its first round. -/
theorem open_d (I : Dev nD → Ins F) (κ : GSem nD τ sig → ℕ) (c : Dev nD) (R : Fin 12) : ∀ l,
    iprop(records I κ ∗ (bigSepL l fun j => openTok ER (dcell c R j)) ∗ bigSepL l fun j => semVal (dcell c R j) 0)
      ⊢ (|={Set.univ}=> poss R c 0 l : sProp 𝕄)
  | [] => by
    unfold poss
    rw [bigSepL_nil, bigSepL_nil, bigSepL_nil]
    iintro ⟨-, -, -⟩
    imodintro
    iempintro
  | j :: js => by
    unfold poss
    rw [bigSepL_cons', bigSepL_cons', bigSepL_cons']
    iintro ⟨#HK, ⟨Ho, Hos⟩, Hv, Hvs⟩
    imod (Rounds.cell_open ER (Rd I) (g := dcell c R j) (Set.mem_univ (κ (dcell c R j)))) $$ [Ho Hv] with ⟨Hat, #Hr⟩
    · isplitr; · iapply (inv_d I κ c R j); iexact HK
      isplitl [Ho]; · iexact Ho
      iexact Hv
    imod (open_d I κ c R js) $$ [Hos Hvs] with Hp
    · isplitr; · iexact HK
      isplitl [Hos]; · iexact Hos
      iexact Hvs
    imodintro
    isplitl [Hat]
    · isplitl [Hat]; · iexact Hat
      iexact Hr
    unfold poss; iexact Hp
/-- All rows do. -/
theorem open_all (I : Dev nD → Ins F) (κ : GSem nD τ sig → ℕ) (c : Dev nD) : ∀ l : List (Fin 12),
    iprop(records I κ ∗ (bigSepL l fun R => bigSepL all8 fun j => openTok ER (dcell c R j)) ∗ bigSepL l fun R => bigSepL all8 fun j => semVal (dcell c R j) 0)
      ⊢ (|={Set.univ}=> bigSepL l fun R => poss R c 0 all8 : sProp 𝕄)
  | [] => by
    rw [bigSepL_nil, bigSepL_nil, bigSepL_nil]
    iintro ⟨-, -, -⟩
    imodintro
    iempintro
  | R :: Rs => by
    rw [bigSepL_cons' R Rs fun R => bigSepL all8 fun j => (openTok ER (dcell c R j) : sProp 𝕄),
      bigSepL_cons' R Rs fun R => bigSepL all8 fun j => (semVal (dcell c R j) 0 : sProp 𝕄), bigSepL_cons' R Rs fun R => (poss R c 0 all8 : sProp 𝕄)]
    iintro ⟨#HK, ⟨Ho, Hos⟩, Hv, Hvs⟩
    imod (open_d I κ c R all8) $$ [Ho Hv] with Hp
    · isplitr; · iexact HK
      isplitl [Ho]; · iexact Ho
      iexact Hv
    imod (open_all I κ c Rs) $$ [Hos Hvs] with Hps
    · isplitr; · iexact HK
      isplitl [Hos]; · iexact Hos
      iexact Hvs
    imodintro
    isplitl [Hp]; · iexact Hp
    iexact Hps

/-- The rights to open a device's copy cells. -/
def opens (c : Dev nD) : sProp 𝕄 := bigSepL [0, 1, 2, 3, 4, 5, 6, 7, 8, 9, 10, 11] fun R => bigSepL all8 fun j => openTok ER (dcell c R j)
/-- What the launch keeps for the region on a device. -/
def kept (c : Dev nD) : sProp 𝕄 := iprop((∃ κ, records (ins m) κ) ∗ held0 c ∗ opens c)
/-- What the region leaves beside its buffers. -/
def done (c : Dev nD) : sProp 𝕄 := semVal (barCell c) 0

/-- From what is kept of the launch to what the region starts with. -/
theorem region_open (c : Dev nD) :
    iprop(kept m c ∗ Pipeline.ownSems0 osem c ∗ levAts L lv) ⊢ (|={Set.univ}=> start m c : sProp 𝕄) := by
  rw [ownSems_rows]
  unfold kept start opens known
  iintro ⟨⟨⟨%κ, #HK⟩, Hh, Ho⟩, Hv, #HL⟩
  imod (open_all (ins m) κ c [0, 1, 2, 3, 4, 5, 6, 7, 8, 9, 10, 11]) $$ [Ho Hv] with Hp
  · isplitr; · iexact HK
    isplitl [Ho]; · iexact Ho
    iexact Hv
  imodintro
  isplitr
  · iexists κ
    isplitr; · iexact HK
    iexact HL
  isplitl [Hh]; · iexact Hh
  iexact Hp

/-! ## The region -/

/-- The unscoped buffers no window stages. -/
abbrev others : Finset (DevRef τ sig) := Pipeline.ucRefs τ sig \ Pipeline.arrRefs (τ := τ) spec0

/-- The region's arrays are unscoped buffers. -/
theorem arr_sub : Pipeline.arrRefs (τ := τ) spec0 ⊆ Pipeline.ucRefs τ sig := Pipeline.arrRefs_sub_ucRefs spec0 (by decide)

/-- The unscoped buffers are the region's arrays and the others. -/
theorem held_parts (c : Dev nD) (W : Valuation τ sig (Elt F)) :
    (StableHlo.held (c : Thread nD τ) (Pipeline.ucRefs τ sig) W : sProp 𝕄)
      = iprop(StableHlo.held (c : Thread nD τ) (Pipeline.arrRefs (τ := τ) spec0) W ∗ StableHlo.held (c : Thread nD τ) others W) :=
  StableHlo.held_sub_split (c : Thread nD τ) arr_sub W

/-- Holding no buffer is holding nothing. -/
theorem held_none (c : Dev nD) (W : Valuation τ sig (Elt F)) :
    (StableHlo.held (c : Thread nD τ) (∅ : Finset (DevRef τ sig)) W : sProp 𝕄) = BI.emp := by
  unfold StableHlo.held
  exact BI.bigSep_empty

/-- The region changes no other buffer. -/
theorem off_out (c : Dev nD) (b : DevRef τ sig) (hb : b ∈ others \ (∅ : Finset (DevRef τ sig))) : W2 m c b = V1 m c b := by
  refine Function.update_of_ne (fun e => ?_) _ _
  rw [Finset.sdiff_empty] at hb
  refine (Finset.mem_sdiff.mp hb).2 ?_
  rw [e]
  unfold Pipeline.arrRefs
  exact Finset.mem_map.mpr ⟨main_v20, Finset.mem_image.mpr ⟨5, Finset.mem_univ _, rfl⟩, rfl⟩

/-- Everything owed at the start is above level zero. -/
theorem above_O₀ (c : Dev nD) : Above 0 (O₀ c) := above_add (above_mono (Nat.zero_le 1) (above1 c)) (above_dueBar c Nat.one_pos _)

/-- So is everything owed around the one grid point. -/
theorem owed_above (c : Dev nD) (t : Fin (cfg0.N + 1)) : Above 0 ((dat m c).owed t) := by
  dsimp only [dat]
  by_cases h : t.val = 0
  · rw [if_pos h]; exact above_O₀ c
  · rw [if_neg h]; exact above_zero 0

/-- The staging copies' semaphores are none of the kernel's. -/
theorem stage_dec : ∀ (w : Fin 6) (s : Fin (spec0 w).nbuf), dec (.dma ((spec0 w).sem s)) = none := by decide
/-- They are at the lowest level. -/
theorem stage_lv (c : Dev nD) (w : Fin 6) (s : Fin (spec0 w).nbuf) : lv ((c : Thread nD τ), .dma ((spec0 w).sem s)) () ≤ 0 := by
  show (match dec (.dma ((spec0 w).sem s)) with
    | some (R, _) => rowLv R
    | none => if (SemLoc.dma ((spec0 w).sem s) : SemLoc sig) = .reg barS then 1 else 0) ≤ 0
  rw [stage_dec]
  exact Nat.le_of_eq (if_neg fun e => by cases e)

/-- Every array is held whole. -/
theorem share_all (c : Dev nD) (w : Fin 6) : (dat m c).share w = fullShare := by
  unfold Dat.share
  exact ite_self _

/-- The arrays before the region. -/
theorem arr_in (c : Dev nD) (w : Fin 6) : (dat m c).arrAt w 0 = V1 m c (Proc.devRef .tc (Pipeline.arrRef spec0 w)) := rfl

/-- The arrays after it. -/
theorem arr_out (c : Dev nD) (w : Fin 6) : (dat m c).arrAt w cfg0.N = W2 m c (Proc.devRef .tc (Pipeline.arrRef spec0 w)) := by
  match w with
  | ⟨0, _⟩ => exact (Dat.arrAt_in (dat m c) 0 rfl cfg0.N).trans (V2_of m (outs m) c main_v5 (by decide)).symm
  | ⟨1, _⟩ => exact (Dat.arrAt_in (dat m c) 1 rfl cfg0.N).trans (V2_of m (outs m) c main_arg1 (by decide)).symm
  | ⟨2, _⟩ => exact (Dat.arrAt_in (dat m c) 2 rfl cfg0.N).trans (V2_of m (outs m) c main_v12 (by decide)).symm
  | ⟨3, _⟩ => exact (Dat.arrAt_in (dat m c) 3 rfl cfg0.N).trans (V2_of m (outs m) c main_v19 (by decide)).symm
  | ⟨4, _⟩ => exact (Dat.arrAt_in (dat m c) 4 rfl cfg0.N).trans (V2_of m (outs m) c main_arg4 (by decide)).symm
  | ⟨5, _⟩ => exact (flush_out (dat m c) (OUT (ins m)) rfl).trans (W2_out m c).symm

/-- What the region takes in. -/
theorem region_in (c : Dev nD) :
    iprop(Pipeline.scopedRest spec0 c ∗ (∃ r, prngReg c r) ∗ StableHlo.held (c : Thread nD τ) (∅ : Finset (DevRef τ sig)) (V1 m c) ∗ start m c)
      ⊢ (dat m c).Φ 0 := by
  refine BIBase.Entails.trans ?_ (Entails.of_eq (dat_first m c).symm)
  rw [scratch_eq]
  iintro ⟨Hs, Hp, -, Hst⟩
  isplitl [Hst]; · iexact Hst
  isplitl [Hs]; · iexact Hs
  iexact Hp

/-- What it gives back. -/
theorem region_out (c : Dev nD) :
    (dat m c).Φ (Fin.last cfg0.N)
      ⊢ iprop(Pipeline.scopedRest spec0 c ∗ (∃ r, prngReg c r) ∗ StableHlo.held (c : Thread nD τ) (∅ : Finset (DevRef τ sig)) (W2 m c) ∗ Pipeline.ownSems0 osem c ∗ done c) := by
  refine BIBase.Entails.trans (Entails.of_eq (dat_last m c)) ?_
  rw [scratch_eq, held_none, ownSems_rows]
  unfold stop done
  iintro ⟨⟨Hb, Hv⟩, Hs, Hp⟩
  isplitl [Hs]; · iexact Hs
  isplitl [Hp]; · iexact Hp
  isplitr; · iempintro
  isplitl [Hv]; · iexact Hv
  iexact Hb

/-- The facts about the launch that the generated ones make. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

set_option backward.isDefEq.respectTransparency.types false in
/-- The region's record: entered owing everything, left owing nothing. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_obligation m c).loose)
    (fun _ => 0) O₀ (fun c => (owed_first m c).trans (zero_add _).symm) (fun c => owed_last m c) (fun _ => rfl) (share_all m)
    (V1 m) (W2 m) (off_out m)
    (kept m) done (start m) done (region_open m) (region_in m) (region_out m)
    (fun c => by iintro H; imodintro; iexact H)
    (fun _ => 0)
    ⟨fun c w s => by rw [L_tc]; exact Finset.mem_singleton_self _, fun c w s => stage_lv c w s,
      fun c t g i h => ⟨by rw [show L g = {()} from if_pos (owed_above m c t g i h).1]; exact Finset.mem_singleton_self _, (owed_above m c t g i h).2⟩⟩
    (fun _ => iprop(emp))
    (arr_in m) (arr_out m)

/-- What rides beside the buffers: before the region what it needs, after it what it left. -/
def rides : Fin 2 → Dev nD → sProp 𝕄
  | 0 => fun c => iprop(kept m c ∗ (∃ r, prngReg c r) ∗ ∃ W, owes (c : Thread nD τ) (O₀ c) W)
  | 1 => fun c => iprop(done c ∗ ∃ W, owes (c : Thread nD τ) (0 : CellTallies nD τ sig Unit) W)

set_option backward.isDefEq.respectTransparency.types false in
/-- From the buffers before the region to its precondition, -/
theorem region_pre (c : Dev nD) : iprop(StableHlo.held (c : Thread nD τ) (Pipeline.ucRefs τ sig) (V1 m c) ∗ rides m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ kept m c ∗ ∃ Wd, owes (c : Thread nD τ) (0 + O₀ c) Wd)
  rw [held_parts, zero_add]
  show iprop((StableHlo.held (c.tc : Thread nD τ) (Pipeline.arrRefs (τ := τ) spec0) (V1 m c) ∗ StableHlo.held (c.tc : Thread nD τ) others (V1 m c))
    ∗ kept m c ∗ (∃ r, prngReg c r) ∗ ∃ W, owes (c : Thread nD τ) (O₀ c) W) ⊢ _
  iintro ⟨⟨Ha, Ho⟩, HK, Hp, HO⟩
  isplitl [Ha]; · iexact Ha
  isplitl [Hp]; · iexact Hp
  isplitl [Ho]
  · isplitl [Ho]; · iexact Ho
    iempintro
  isplitl [HK]; · iexact HK
  iexact HO

set_option backward.isDefEq.respectTransparency.types false in
/-- and from its postcondition to the buffers after it. -/
theorem region_post (c : Dev nD) : (region m).post c ⊢ iprop(StableHlo.held (c : Thread nD τ) (Pipeline.ucRefs τ sig) (W2 m c) ∗ rides m 1 c) := by
  show iprop(StableHlo.held (c.tc : Thread nD τ) (Pipeline.arrRefs (τ := τ) spec0) (W2 m c) ∗ (∃ r, prngReg c r)
    ∗ (StableHlo.held (c.tc : Thread nD τ) others (W2 m c) ∗ emp) ∗ done c ∗ ∃ Wd, owes (c : Thread nD τ) (0 : CellTallies nD τ sig Unit) Wd) ⊢ _
  rw [held_parts]
  show _ ⊢ iprop((StableHlo.held (c.tc : Thread nD τ) (Pipeline.arrRefs (τ := τ) spec0) (W2 m c) ∗ StableHlo.held (c.tc : Thread nD τ) others (W2 m c))
    ∗ done c ∗ ∃ W, owes (c : Thread nD τ) (0 : CellTallies nD τ sig Unit) W)
  iintro ⟨Ha, -, ⟨Ho, -⟩, Hd, HO⟩
  isplitl [Ha Ho]
  · isplitl [Ha]; · iexact Ha
    iexact Ho
  isplitl [Hd]; · iexact Hd
  iexact HO

/-! ## The launch -/

/-- The launch element: the staging cells' part and the protocol's. -/
def u₀ : UU :=
  (initOf (Pipeline.cells (Pipeline.pin (pcfgs (F := F)) adm) cellOf_inj) (Pipeline.launchToks (Pipeline.pin (pcfgs (F := F)) adm) cellOf_inj),
    launchOf barCells scCells toks)

/-- A resource kept whole on the first device. -/
def onFirst (X : sProp 𝕄) (c : Dev nD) : sProp 𝕄 := if c = 0 then X else iprop(emp)
/-- What only the first device holds, over all devices. -/
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst
  rw [if_pos rfl]
  exact BI.equiv_iff.mp sep_emp

/-- The protocol's launch element, dealt out only once every device has started. -/
def ghost : Dev nD → sProp 𝕄 := onFirst (BI.own (ER (launchOf barCells scCells toks)))

/-- The one unscoped semaphore is the barrier. -/
theorem unscoped_bar (c : Dev nD) :
    (unscopedSems0 (Ix := Unit) (Val := Elt F) (Name := ℕ) (U := UU) (Lvl := ℕ) c : sProp 𝕄) = semVal (barCell c) 0 := by
  unfold unscopedSems0
  rw [show (Finset.univ.filter fun sm : SemLoc sig => ¬ sm.isScoped .tc) = {SemLoc.reg barS} from by decide, BI.bigSep_singleton]

/-- What a device holds before the region but the protocol's ghost state. -/
def bundle (c : Dev nD) : sProp 𝕄 :=
  iprop(StableHlo.held (c : Thread nD τ) (Pipeline.ucRefs τ sig) (V0 m c)
    ∗ (cred (tallyAt (barCell c) () 7) ∗ bigSepL [0, 1, 2, 3] fun t => iprop(creds (rowRs t) c all8 ∗ creds (rowRa t) c all8))
    ∗ owes (c : Thread nD τ) (O₀ c) ∅ ∗ ∃ r, prngReg c r)
/-- The ghost state a device alone keeps. -/
def linear (c : Dev nD) : sProp 𝕄 :=
  iprop(atPos ER (barCell c) 0 ∅ 0 ∗ opens c ∗ (bigSepL [0, 1, 2, 3, 4, 5, 6] fun j : Fin 7 => dutyTok ER (barCell (rot c (j.val + 1))) 0 c)
    ∗ bigSepL [0, 1, 2, 3] fun t => iprop(tokRs c t ∗ tokAg c t))

/-- What each device starts its program with. -/
theorem first_intro (κ : GSem nD τ sig → ℕ) (c : Dev nD) :
    iprop(records (ins m) κ ∗ (linear c ∗ bundle m c)) ⊢ (iprop(StableHlo.held (c : Thread nD τ) (Pipeline.ucRefs τ sig) (V0 m c) ∗ rides m 0 c) : sProp 𝕄) := by
  show _ ⊢ iprop(StableHlo.held (c : Thread nD τ) (Pipeline.ucRefs τ sig) (V0 m c) ∗ kept m c ∗ (∃ r, prngReg c r) ∗ ∃ W, owes (c : Thread nD τ) (O₀ c) W)
  unfold linear bundle kept held0
  iintro ⟨#HR, ⟨Ha, Ho, Hb, Ht⟩, Hh, ⟨Hcb, Hcr⟩, HO, Hp⟩
  isplitl [Hh]; · iexact Hh
  isplitl [Ha Ho Hb Ht Hcb Hcr]
  · isplitr; · iexists κ; iexact HR
    isplitl [Ha Hb Ht Hcb Hcr]
    · isplitl [Hb]; · iexact Hb
      isplitl [Ha Hcb]
      · isplitl [Hcb]; · iexact Hcb
        iexact Ha
      isplitl [Ht]; · iexact Ht
      iexact Hcr
    iexact Ho
  isplitl [Hp]; · iexact Hp
  iexists ∅; iexact HO

/-- Everything dealt out, every device at its first thread state. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost c)) ∗ levAts L lv)
      ⊢ (|={Set.univ}=> bigSep Finset.univ fun c : Dev nD => iprop(StableHlo.held (c : Thread nD τ) (Pipeline.ucRefs τ sig) (V0 m c) ∗ rides m 0 c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ ghost c)
      ⊢ (iprop(bundle m c ∗ (semVal (barCell c) 0 ∗ ghost c)) : sProp 𝕄) := by
    rw [show unscopedBufs c (fun b => m ((c : Thread nD τ).loc b)) = StableHlo.held (c : Thread nD τ) (Pipeline.ucRefs τ sig) (V0 m c) from Pipeline.unscopedBufs_held c (V0 m c),
      unscoped_bar]
    unfold bundle
    iintro ⟨Hh, Hus, HO, Hcr, Hp, HG⟩
    ihave Hc := (creds_deal (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄)) ⊢ bigSep Finset.univ (fun c : Dev nD => opens c) := by
    rw [BI.bigSep_map, BI.bigSep_univ_prod]
    refine bigSep_mono fun c _ => (show (bigSep Finset.univ fun k : Fin 12 × Fin 8 => openTok ER (scEmb (c, k)) : sProp 𝕄) ⊢ opens c from Entails.of_eq ?_)
    unfold opens
    rw [BI.bigSep_univ_prod, bigSep_univ_eq_bigSepL [0, 1, 2, 3, 4, 5, 6, 7, 8, 9, 10, 11] (by decide) (by decide)]
    exact congrArg (bigSepL _) (funext fun R => (sepL_all8 _).symm)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ ghost c))
      ⊢ (bigSep Finset.univ fun c : Dev nD => iprop(bundle m c ∗ (semVal (barCell c) 0 ∗ ghost c)) : sProp 𝕄) from bigSep_mono fun c _ => hcore c) $$ H
  ihave H2 := apart $$ H'; icases H2 with ⟨HB, H3⟩
  ihave H4 := apart $$ H3; icases H4 with ⟨Hv, HG⟩
  ihave Hu := (show bigSep Finset.univ (ghost (F := F)) ⊢ BI.own (ER (launchOf barCells scCells toks)) from
    Entails.of_eq (bigSep_onFirst (F := F) (BI.own (ER (launchOf barCells scCells toks))))) $$ HG
  imod (Rounds.fund_launch ER (Rd (ins m)) disjoint_cells (fun g _ h => h) toks) $$ [Hv Hu] with ⟨%κ, -, #Hinv, #Hr, Hat, Hopen, Htok⟩
  · isplitl [Hv]
    · iapply hv $$ Hv
    · iexact Hu
  ihave Htok' := (show (bigSep toks fun x => (dutyTok ER x.1 x.2.1 x.2.2 : sProp 𝕄)) ⊢ iprop((bigSep copyToks fun x => (dutyTok ER x.1 x.2.1 x.2.2 : sProp 𝕄)) ∗ bigSep signalToks fun x => (dutyTok ER x.1 x.2.1 x.2.2 : sProp 𝕄)) from
    Entails.of_eq (BI.bigSep_union disjoint_toks)) $$ Htok
  icases Htok' with ⟨Hct, Hst⟩
  imodintro
  iapply (bigSep_with_persistent (R := records (ins m) κ) (Φ := fun c => iprop(linear c ∗ bundle m c)) fun c _ => first_intro m κ c)
  isplitr
  · unfold records
    isplitr; · iexact Hinv
    iexact Hr
  iapply both
  isplitr [HB]
  · unfold linear
    iapply both; isplitl [Hat]; · iapply hat $$ Hat
    iapply both; isplitl [Hopen]; · iapply hopen $$ Hopen
    iapply both; isplitl [Hst]; · iapply (signalToks_deal (F := F)) $$ Hst
    iapply (copyToks_deal (F := F)) $$ Hct
  · iexact HB

/-- No other semaphore is unscoped. -/
theorem unscoped_eq : ∀ sm : SemLoc sig, sm.isScoped .tc = false → sm = .reg barS := by decide

/-- What a device's memory holds at the end. -/
def Ends (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v21) = V3 m (outs m) c main_v21

set_option backward.isDefEq.respectTransparency.types false in
/-- The run: every execution ends, with the arguments as launched, the result as the last host stretch leaves it and every counter at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_dev_sems (pcfgs (F := F)) adm (pdats m) () cellOf_inj EP defs₀ 𝒱₀ L lv m ρ main
    (segs m (outs m) 𝒱₀ L lv (rides m) () (pdats m) (region m))
    (fun c Q => by
      rewrite [main_chain c, Seg.run_eq_chain,
        show (segs m (outs m) 𝒱₀ L lv (rides m) () (pdats m) (region m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    (O₀ := O₀) (hL := L_of_ne) (G := ghost) (u₀ := u₀ (F := F))
    (hu₀ := by
      unfold u₀ ghost
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ rides m 0 c))
    (Tₙ := fun c => iprop(StableHlo.held (c : Thread nD τ) (Pipeline.ucRefs τ sig) (V3 m (outs m) c) ∗ done c))
    (hch := fun c => ⟨.rfl, region_pre m c, region_post m c, by
      show iprop(StableHlo.held (c : Thread nD τ) (Pipeline.ucRefs τ sig) (V3 m (outs m) c) ∗ done c ∗ ∃ W, owes (c : Thread nD τ) (0 : CellTallies nD τ sig Unit) W) ⊢ _
      iintro ⟨Hh, Hd, HO⟩
      isplitr [HO]
      · isplitl [Hh] <;> iassumption
      · iexact HO⟩)
    (hinit := init m ρ)
    (QY := fun c s => Ends m c s ∧ s.sem (barCell c) = 0)
    (hfin := fun c s' => by
      unfold StableHlo.held done
      iintro ⟨⟨Hh, Hb0⟩, HSI⟩
      icombine HSI Hb0 gives %hb
      ihave Hr := (pointsTo_read_all (Pipeline.ucRefs τ sig) (fun b => ((c : Thread nD τ).1, b)) (V3 m (outs m) c) s') $$ [Hh HSI]
      · isplitl [Hh] <;> iassumption
      icases Hr with ⟨%h, HSI⟩
      imodintro
      isplitr
      · ipureintro
        exact ⟨⟨(h (Proc.devRef .tc main_arg0) (Finset.mem_filter.mpr ⟨StableHlo.devRef_mem_tcRefs main_arg0, by decide⟩)).trans (V3_main_arg0 m (outs m) c),
          (h (Proc.devRef .tc main_arg1) (Finset.mem_filter.mpr ⟨StableHlo.devRef_mem_tcRefs main_arg1, by decide⟩)).trans (V3_main_arg1 m (outs m) c),
          (h (Proc.devRef .tc main_arg2) (Finset.mem_filter.mpr ⟨StableHlo.devRef_mem_tcRefs main_arg2, by decide⟩)).trans (V3_main_arg2 m (outs m) c),
          (h (Proc.devRef .tc main_arg3) (Finset.mem_filter.mpr ⟨StableHlo.devRef_mem_tcRefs main_arg3, by decide⟩)).trans (V3_main_arg3 m (outs m) c),
          (h (Proc.devRef .tc main_arg4) (Finset.mem_filter.mpr ⟨StableHlo.devRef_mem_tcRefs main_arg4, by decide⟩)).trans (V3_main_arg4 m (outs m) c),
          h (Proc.devRef .tc main_v21) (Finset.mem_filter.mpr ⟨StableHlo.devRef_mem_tcRefs main_v21, by decide⟩)⟩, by simpa using hb⟩
      · iexact HSI)
    (hQ := fun s h hs => ⟨fun c => (h c).1, sem_eq_zero hs fun c sm hsm => by
      rw [unscoped_eq sm hsm]
      exact (h c).2⟩)

end Cert.KernelIdeal.Gen.Fused

end
-- ==== Proof.ValueMath.lean ====
/-
  The arithmetic on extended reals that the value argument rests on, away from both programs: values that are real
  numbers, sums and products of them, and one row of a softmax-weighted average whose masked scores are −∞.
-/
module

public import Idealize.ShloMosaic.PureOps.Ideal.Laws
public import Idealize.ShloMosaic.Lib.IdealHost

@[expose] public section

noncomputable section

namespace Cert.Attend

open Idealize.ShloMosaic
open scoped BigOperators

/-- The value is a real number, not an infinity. -/
def Fine (x : EReal) : Prop := ∃ r : ℝ, x = (r : EReal)

/-- A real number is one. -/
theorem fine_coe (r : ℝ) : Fine (r : EReal) := ⟨r, rfl⟩

/-- What is neither infinity is a real number. -/
theorem fine_of_ne {x : EReal} (ht : x ≠ ⊤) (hb : x ≠ ⊥) : Fine x := ⟨x.toReal, (EReal.coe_toReal ht hb).symm⟩

/-- A real number is not −∞. -/
theorem Fine.ne_bot {x : EReal} (h : Fine x) : x ≠ ⊥ := by
  obtain ⟨r, rfl⟩ := h; exact EReal.coe_ne_bot r

/-- Products of real numbers are real numbers. -/
theorem Fine.mul {x y : EReal} (hx : Fine x) (hy : Fine y) : Fine (x * y) := by
  obtain ⟨a, rfl⟩ := hx; obtain ⟨b, rfl⟩ := hy
  exact ⟨a * b, (EReal.coe_mul a b).symm⟩

/-- Sums of two real numbers are real numbers. -/
theorem Fine.add {x y : EReal} (hx : Fine x) (hy : Fine y) : Fine (x + y) := by
  obtain ⟨a, rfl⟩ := hx; obtain ⟨b, rfl⟩ := hy
  exact ⟨a + b, (EReal.coe_add a b).symm⟩

/-- Finite sums of real numbers are real numbers. -/
theorem Fine.sum {ι : Type} (s : Finset ι) (f : ι → EReal) (h : ∀ i, Fine (f i)) : Fine (∑ i ∈ s, f i) := by
  classical
  induction s using Finset.induction_on with
  | empty => exact ⟨0, by simp⟩
  | insert a s ha ih => rw [Finset.sum_insert ha]; exact (h a).add ih

/-- A factor moves inside a sum of real numbers. -/
theorem sum_scale {ι : Type} (s : Finset ι) (f : ι → EReal) (h : ∀ i, Fine (f i)) {c : EReal} (hc : Fine c) :
    (∑ i ∈ s, f i) * c = ∑ i ∈ s, f i * c := by
  classical
  induction s using Finset.induction_on with
  | empty => simp
  | insert a s ha ih =>
    rw [Finset.sum_insert ha, Finset.sum_insert ha, ← ih]
    obtain ⟨x, hx⟩ := h a
    obtain ⟨y, hy⟩ := Fine.sum s f h
    obtain ⟨z, rfl⟩ := hc
    rw [hx, hy, ← EReal.coe_add, ← EReal.coe_mul, ← EReal.coe_mul, ← EReal.coe_mul, ← EReal.coe_add, add_mul]

/-- Scaling the queries before their products with the keys, or the scores after, comes to the same. -/
theorem scale_scores {n : ℕ} (q k : Fin n → EReal) (hq : ∀ d, Fine (q d)) (hk : ∀ d, Fine (k d)) {c : EReal}
    (hc : Fine c) : ∑ d, q d * c * k d = (∑ d, q d * k d) * c := by
  rw [sum_scale _ _ (fun d => (hq d).mul (hk d)) hc]
  refine Finset.sum_congr rfl fun d _ => ?_
  rw [mul_assoc, mul_comm c, ← mul_assoc]

/-- A sum whose terms vanish from the `n`-th on is the sum of the first `n`. -/
theorem sum_prefix {n N : ℕ} (hn : n ≤ N) (f : Fin N → EReal) (h : ∀ j : Fin N, n ≤ j.val → f j = 0) :
    ∑ j, f j = ∑ j : Fin n, f (Fin.castLE hn j) := by
  obtain ⟨k, rfl⟩ := Nat.exists_eq_add_of_le hn
  rw [Fin.sum_univ_add, Finset.sum_eq_zero (fun i _ => h (Fin.natAdd n i) (by simp)), add_zero]
  rfl

/-- The exponential is never negative. -/
theorem exp_nonneg (x : EReal) : 0 ≤ Ideal.exp x := by
  induction x with
  | bot => simp
  | top => simp
  | coe r => rw [Ideal.exp_coe]; exact EReal.coe_nonneg.mpr (Real.exp_pos r).le

/-- The largest of a row's scores. -/
def top {n : ℕ} (f : Fin n → EReal) : EReal := (Finset.univ : Finset (Fin n)).fold max ⊥ f

/-- The largest score as a supremum. -/
theorem top_eq_sup {n : ℕ} (f : Fin n → EReal) : top f = Finset.univ.sup f := rfl

/-- Scores that are −∞ from the `n`-th on do not count towards the largest. -/
theorem top_prefix {n N : ℕ} (hn : n ≤ N) (f : Fin N → EReal) (h : ∀ j : Fin N, n ≤ j.val → f j = ⊥) :
    top (fun j : Fin n => f (Fin.castLE hn j)) = top f := by
  rw [top_eq_sup, top_eq_sup]
  apply le_antisymm
  · exact Finset.sup_le fun j _ => Finset.le_sup (f := f) (Finset.mem_univ (Fin.castLE hn j))
  · refine Finset.sup_le fun j _ => ?_
    by_cases hj : n ≤ j.val
    · rw [h j hj]; exact bot_le
    · exact Finset.le_sup (f := fun j : Fin n => f (Fin.castLE hn j)) (Finset.mem_univ (⟨j.val, by omega⟩ : Fin n))

/-- A row of scores, each −∞ or a real number and one of them real, attains its largest at a real number. -/
theorem top_attained {n : ℕ} (f : Fin n → EReal) (hf : ∀ j, f j = ⊥ ∨ Fine (f j)) (h0 : ∃ j, Fine (f j)) :
    ∃ j, f j = top f ∧ Fine (top f) := by
  obtain ⟨j0, h0⟩ := h0
  obtain ⟨j, -, hj⟩ := Finset.exists_mem_eq_sup Finset.univ ⟨j0, Finset.mem_univ j0⟩ f
  have hj' : top f = f j := hj
  refine ⟨j, hj'.symm, ?_⟩
  rcases hf j with e | e
  · have hle : f j0 ≤ top f := Finset.le_sup (f := f) (Finset.mem_univ j0)
    rw [hj', e] at hle
    exact absurd (le_bot_iff.mp hle) h0.ne_bot
  · rw [hj']; exact e

/-- One row's unnormalized weight at a column: the exponential of the score's distance from the largest. -/
def lift {n : ℕ} (f : Fin n → EReal) (j : Fin n) : EReal := Ideal.exp (f j - top f)

/-- The weights' sum. -/
def mass {n : ℕ} (f : Fin n → EReal) : EReal := ∑ j, lift f j

/-- A masked column has no weight. -/
theorem lift_masked {n : ℕ} (f : Fin n → EReal) (j : Fin n) (hj : f j = ⊥) : lift f j = 0 := by
  unfold lift; rw [hj, EReal.bot_sub, Ideal.exp_bot]

/-- The weights of a row with a real score do not sum to zero: the largest score's weight is one. -/
theorem mass_ne_zero {n : ℕ} (f : Fin n → EReal) (hf : ∀ j, f j = ⊥ ∨ Fine (f j)) (h0 : ∃ j, Fine (f j)) : mass f ≠ 0 := by
  obtain ⟨j, hj, r, hr⟩ := top_attained f hf h0
  have h1 : lift f j = 1 := by
    unfold lift
    rw [hj, hr, ← EReal.coe_sub, sub_self, Ideal.exp_coe, Real.exp_zero, EReal.coe_one]
  have hle : lift f j ≤ mass f := Finset.single_le_sum (f := lift f) (fun i _ => exp_nonneg _) (Finset.mem_univ j)
  rw [h1] at hle
  intro e
  rw [e] at hle
  exact absurd hle (by simp)

/-- **One row of attention.** Over scores that are −∞ from the `n`-th column on, the softmax-weighted average taken over the
    first `n` columns is the one taken over all of them. -/
theorem average_prefix {n N : ℕ} (hn : n ≤ N) (f v : Fin N → EReal) (hf : ∀ j, f j = ⊥ ∨ Fine (f j))
    (h0 : ∃ j, Fine (f j)) (h : ∀ j : Fin N, n ≤ j.val → f j = ⊥) :
    ∑ j : Fin n, Ideal.div (lift (fun j : Fin n => f (Fin.castLE hn j)) j) (mass (fun j : Fin n => f (Fin.castLE hn j)))
        * v (Fin.castLE hn j)
      = ∑ j, v j * Ideal.div (lift f j) (mass f) := by
  have hl : ∀ j : Fin n, lift (fun j : Fin n => f (Fin.castLE hn j)) j = lift f (Fin.castLE hn j) := fun j => by
    unfold lift; rw [top_prefix hn f h]
  have hm : mass (fun j : Fin n => f (Fin.castLE hn j)) = mass f := by
    unfold mass
    rw [sum_prefix hn (lift f) fun j hj => lift_masked f j (h j hj)]
    exact Finset.sum_congr rfl fun j _ => hl j
  rw [sum_prefix hn _ fun j hj => by
    rw [lift_masked f j (h j hj), Ideal.zero_div (mass_ne_zero f hf h0), mul_zero]]
  refine Finset.sum_congr rfl fun j _ => ?_
  rw [hl, hm, mul_comm]

end Cert.Attend
-- ==== Proof.ValueSpec.lean ====
/-
  What both programs compute, as a function of the whole arrays' elements on extended reals: projected queries, scaled
  and block-causally masked scores, softmax-weighted averages of the values, and the output projection. Then the
  word arithmetic both use to find a position's block.
-/
module

public import proofs.«01_k».proof.Proof.ValueMath
public import Idealize.ShloMosaic.Lib.ValueIdx

@[expose] public section

set_option maxRecDepth 65536

noncomputable section

namespace Cert.Attend

open Idealize.ShloMosaic
open scoped BigOperators

/-- The whole arrays' elements: activations, query projection, keys, values, output projection. -/
structure Data where
  x : Fin 2048 → Fin 1024 → EReal
  wq : Fin 1024 → Fin 8192 → EReal
  k : Fin 2048 → Fin 64 → Fin 128 → EReal
  v : Fin 2048 → Fin 64 → Fin 128 → EReal
  wo : Fin 8192 → Fin 1024 → EReal

/-- Which activations, query projection and keys are real numbers. -/
structure Data.Finite (D : Data) : Prop where
  x : ∀ i p, Fine (D.x i p)
  wq : ∀ p n, Fine (D.wq p n)
  k : ∀ j h d, Fine (D.k j h d)

/-- The scores' scale, one over the square root of the head width as rounded to single precision. -/
def scale : EReal := Ideal.ofBits .f32 0x3DB504F3#32

/-- The scale is a real number. -/
theorem fine_scale : Fine scale := by
  unfold scale
  simp only [Ideal.ofBits, Ideal.ieee]
  rw [if_neg (by decide), if_neg (by decide)]
  exact fine_coe _

/-- Column `d` of head `h` among the 8192 columns of the projections. -/
def col (h : Fin 64) (d : Fin 128) : Fin 8192 := ⟨128 * h.val + d.val, by omega⟩

/-- A projected query. -/
def query (D : Data) (i : Fin 2048) (h : Fin 64) (d : Fin 128) : EReal := ∑ p, D.x i p * D.wq p (col h d)

/-- The masked score of position `i` against position `j`: −∞ when `j`'s block of 64 comes after `i`'s. -/
def score (D : Data) (i : Fin 2048) (h : Fin 64) (j : Fin 2048) : EReal :=
  if j.val / 64 ≤ i.val / 64 then (∑ d, query D i h d * D.k j h d) * scale else ⊥

/-- The softmax-weighted average of the values. -/
def average (D : Data) (i : Fin 2048) (h : Fin 64) (d : Fin 128) : EReal :=
  ∑ j, D.v j h d * Ideal.div (lift (score D i h) j) (mass (score D i h))

/-- The output: every head's average through the output projection. -/
def output (D : Data) (i : Fin 2048) (e : Fin 1024) : EReal :=
  ∑ n : Fin 8192, average D i ⟨n.val / 128, by omega⟩ ⟨n.val % 128, by omega⟩ * D.wo n e

/-- Queries of finite arrays are real numbers. -/
theorem fine_query {D : Data} (hD : D.Finite) (i : Fin 2048) (h : Fin 64) (d : Fin 128) : Fine (query D i h d) :=
  Fine.sum _ _ fun p => (hD.x i p).mul (hD.wq p _)

/-- Scores of finite arrays are −∞ or real numbers. -/
theorem score_cases {D : Data} (hD : D.Finite) (i : Fin 2048) (h : Fin 64) (j : Fin 2048) :
    score D i h j = ⊥ ∨ Fine (score D i h j) := by
  unfold score
  split
  · exact .inr ((Fine.sum _ _ fun d => (fine_query hD i h d).mul (hD.k j h d)).mul fine_scale)
  · exact .inl rfl

/-- The first position is never masked: its score is a real number. -/
theorem score_first {D : Data} (hD : D.Finite) (i : Fin 2048) (h : Fin 64) : ∃ j, Fine (score D i h j) := by
  refine ⟨⟨0, by omega⟩, ?_⟩
  unfold score
  rw [if_pos (by simp)]
  exact (Fine.sum _ _ fun d => (fine_query hD i h d).mul (hD.k _ h d)).mul fine_scale

/-- Positions past a row tile's end are masked for every row of the tile. -/
theorem score_past (D : Data) (t : ℕ) (i : Fin 2048) (h : Fin 64) (j : Fin 2048) (hi : i.val < 512 * (t + 1))
    (hj : 512 * (t + 1) ≤ j.val) : score D i h j = ⊥ := by
  unfold score
  rw [if_neg (by omega)]

/-! ## Blocks as words -/

/-- The number of the block a position lies in, as the programs spell the floor division by 64. -/
def blockWord (u : ArithUnit) (s s' : BitVec 32) (a : BitVec 32) : BitVec 32 :=
  Scalar.select (IntOp.andi (IntOp.cmpi .ne s s') (IntOp.cmpi .ne (IntOp.remsi u a 64#32) 0#32))
    (IntOp.subi (IntOp.divsi u a 64#32) 1#32) (IntOp.divsi u a 64#32)

/-- Comparing two positions' block numbers as words is comparing them as numbers. -/
theorem cmpi_blocks (a b : ℕ) (ha : a < 2048) (hb : b < 2048) :
    IntOp.cmpi .sle (BitVec.ofNat 32 (a / 64)) (BitVec.ofNat 32 (b / 64)) = if a / 64 ≤ b / 64 then 1#1 else 0#1 := by
  have key : ∀ x y : Fin 32, IntOp.cmpi .sle (BitVec.ofNat 32 x.val) (BitVec.ofNat 32 y.val)
      = if x.val ≤ y.val then 1#1 else 0#1 := by decide +kernel
  exact key ⟨a / 64, by omega⟩ ⟨b / 64, by omega⟩

end Cert.Attend
-- ==== Proof.ValueBlocks.lean ====
/-
  The kernel's blocks read at an index: what one tile's queries, scores, weights, contexts and partial products are as
  sums over extended reals.
-/
module

public import proofs.«01_k».proof.Proof.ValueSpec
public import proofs.«01_k».proof.Proof.BodyKernelIdeal
public import Idealize.ShloMosaic.Lib.ValueLayout
public import Idealize.ShloMosaic.Lib.ValueLayoutCasts
public import Idealize.ShloMosaic.Lib.MatmulPlain
public import Idealize.ShloMosaic.Lib.Pipeline.Value

@[expose] public section

set_option maxRecDepth 65536

noncomputable section

namespace Cert.KernelIdeal.Gen.Fused

open Idealize.ShloMosaic Idealize.ShloMosaic.TcCoe
open Idealize.ShloMosaic.ValueIdx
open Cert.Attend
open scoped BigOperators

/-- An index's block number, as the kernel spells it. -/
theorem floorDiv64_apply (t : Fin 4) (a : IVec (SQ t) 32) (i : (SQ t).Idx) (n : Fin 2048) (h : a i = BitVec.ofNat 32 n.val) :
    floorDiv64 t a i = BitVec.ofNat 32 (n.val / 64) := by
  have key : ∀ n : Fin 2048, blockWord .vector
      (IntOp.subi ((IntOp.cmpi .sgt (BitVec.ofNat 32 n.val) 0#32).setWidth 32) ((IntOp.cmpi .slt (BitVec.ofNat 32 n.val) 0#32).setWidth 32))
      (Scalar.subi (Scalar.extui (Scalar.cmpi .sgt 64#32 0#32)) (Scalar.extui (Scalar.cmpi .slt 64#32 0#32)))
      (BitVec.ofNat 32 n.val) = BitVec.ofNat 32 (n.val / 64) := by
    decide +kernel
  rw [← key n, ← h]
  rfl

/-- A tile's mask keeps the columns of no later block than the row's. -/
theorem keepT_apply (t : Fin 4) (r : Fin 512) (j : Fin (512 * (t.val + 1))) :
    keepT t (ix2 r j) = if j.val / 64 ≤ (512 * t.val + r.val) / 64 then 1#1 else 0#1 := by
  have ht := t.isLt
  have hj := j.isLt
  have hr := r.isLt
  have h1 : iota .tc (SQ t) 32 [1] (iota1_SQ t) (ix2 r j) = BitVec.ofNat 32 j.val := by
    show BitVec.ofNat 32 (0 * _ + j.val) = _
    rw [Nat.zero_mul, Nat.zero_add]
  have h0 : addi (broadcast (SQ t) (BitVec.ofNat 32 (512 * t.val))) (iota .tc (SQ t) 32 [0] (iota0_SQ t)) (ix2 r j)
      = BitVec.ofNat 32 (512 * t.val + r.val) := by
    show BitVec.ofNat 32 (512 * t.val) + BitVec.ofNat 32 (0 * _ + r.val) = _
    rw [Nat.zero_mul, Nat.zero_add, BitVec.ofNat_add]
  show IntOp.cmpi .sle (floorDiv64 t _ (ix2 r j)) (floorDiv64 t _ (ix2 r j)) = _
  rw [floorDiv64_apply t _ _ ⟨j.val, by omega⟩ h1, floorDiv64_apply t _ _ ⟨512 * t.val + r.val, by omega⟩ h0]
  exact cmpi_blocks _ _ (by omega) (by omega)

/-- The zero an accumulator starts at. -/
theorem zero_apply {s : Shape} (i : s.Idx) : constant (F := Ideal) s .f32 0x00000000#32 i = (0 : EReal) := Ideal.ofBits_zero_f32

/-- A scaled query. -/
theorem queriesT_apply (x : FVec Ideal S512x1024 .bf16) (wq : FVec Ideal S1024x128 .bf16) (r : Fin 512) (d : Fin 128) :
    queriesT (F := Ideal) x wq (ix2 r d) = (∑ p : Fin 1024, x (ix2 r p) * wq (ix2 p d)) * scale := by
  unfold queriesT
  rw [truncf_apply, mulf_apply, broadcast_apply, shapeCast_self, shapeCast_self]
  simp only [matmul]
  have e : dot_S512x1024_S1024x128_S512x128_1_0_0_1_n_n = DotDims.plain 512 1024 128 := rfl
  rw [e, Ideal.matmul_plain_apply, zero_apply, zero_add]
  rfl

/-- A masked score. -/
theorem scoresT_apply (t : Fin 4) (q : FVec Ideal S512x128 .bf16) (k : FVec Ideal (SK t) .bf16) (r : Fin 512)
    (j : Fin (512 * (t.val + 1))) :
    scoresT (F := Ideal) t q k (ix2 r j)
      = if j.val / 64 ≤ (512 * t.val + r.val) / 64 then ∑ d : Fin 128, q (ix2 r d) * k (ix2 j d) else ⊥ := by
  unfold scoresT
  rw [select_apply, keepT_apply, shapeCast_self]
  split
  · rw [select_one]
    simp only [matmul]
    have e : dotQK t = DotDims.transposedRhs 512 128 (512 * (t.val + 1)) := rfl
    rw [e, Ideal.matmul_transposedRhs_apply, zero_apply, zero_add]
  · rw [select_zero]
    rfl

/-- The reduced axis's coordinate inserted last. -/
theorem lift_SQ (t : Fin 4) (r : Fin 512) (k : Fin (512 * (t.val + 1))) : (reduces_SQ t).lift (ix1 r) k = ix2 r k := by
  funext a; match a with | ⟨0, _⟩ => rfl | ⟨1, _⟩ => rfl

/-- A row statistic spread over the row's columns. -/
theorem spread_SQ {α : Type} (t : Fin 4) (v : S512.Idx → α) (r : Fin 512) (j : Fin (512 * (t.val + 1))) :
    broadcastTo (SQ t) (shapeCast S512x1 v shapeCasts_S512_S512x1) (broadcasts_SQ t) (ix2 r j) = v (ix1 r) := by
  refine (broadcastTo_apply _ (broadcasts_SQ t) (ix2 r j) (ix2 r (0 : Fin 1)) fun ax => ?_).trans
    (shapeCast_a_a1_apply v shapeCasts_S512_S512x1 r 0)
  match ax with
  | ⟨0, _⟩ => rfl
  | ⟨1, _⟩ => rfl

/-- An exponential of a score's distance from its row's largest. -/
theorem expsT_apply (t : Fin 4) (s : FVec Ideal (SQ t) .f32) (r : Fin 512) (j : Fin (512 * (t.val + 1))) :
    expsT (F := Ideal) t s (ix2 r j) = lift (fun j => s (ix2 r j)) j := by
  have hm : multiReduction .maximumf [1] S512 s 0xFF800000#32 (reduces_SQ t) (.inl rfl) rfl (ix1 r)
      = top (fun j => s (ix2 r j)) := by
    refine (Ideal.multiReduction_maximumf_single s 0xFF800000#32 (reduces_SQ t) (.inl rfl) rfl (ix1 r)).trans ?_
    have hb : FloatOps.ofBits (F := Ideal) .f32 0xFF800000#32 = (⊥ : EReal) := by
      show Ideal.ofBits .f32 0xFF800000#32 = ⊥
      simp [Ideal.ofBits, Ideal.ieee]
    rw [hb]
    exact congrArg (fun g => (Finset.univ : Finset (Fin (512 * (t.val + 1)))).fold max ⊥ g) (funext fun k => congrArg s (lift_SQ t r k))
  have e : expsT (F := Ideal) t s (ix2 r j) = Ideal.exp (s (ix2 r j) - broadcastTo (SQ t) (shapeCast S512x1
      (multiReduction .maximumf [1] S512 s 0xFF800000#32 (reduces_SQ t) (.inl rfl) rfl) shapeCasts_S512_S512x1) (broadcasts_SQ t) (ix2 r j)) := rfl
  rw [e, spread_SQ, hm]
  rfl

/-- A weight. -/
theorem weightsT_apply (t : Fin 4) (e : FVec Ideal (SQ t) .f32) (r : Fin 512) (j : Fin (512 * (t.val + 1))) :
    weightsT (F := Ideal) t e (ix2 r j) = Ideal.div (e (ix2 r j)) (∑ k : Fin (512 * (t.val + 1)), e (ix2 r k)) := by
  have hs : multiReduction .add [1] S512 e 0x00000000#32 (reduces_SQ t) (.inl rfl) rfl (ix1 r)
      = ∑ k : Fin (512 * (t.val + 1)), e (ix2 r k) := by
    refine (Ideal.multiReduction_add_single e 0x00000000#32 (reduces_SQ t) (.inl rfl) rfl (ix1 r)).trans ?_
    exact Finset.sum_congr rfl fun k _ => congrArg e (lift_SQ t r k)
  unfold weightsT
  rw [truncf_apply, divf_apply, spread_SQ, hs]

/-- A context of one head. -/
theorem headT_apply (t : Fin 4) (x : FVec Ideal S512x1024 .bf16) (wq : FVec Ideal S1024x128 .bf16) (k v : FVec Ideal (SK t) .bf16)
    (r : Fin 512) (d : Fin 128) (f : Fin (512 * (t.val + 1)) → EReal)
    (hf : ∀ j, scoresT (F := Ideal) t (queriesT x wq) k (ix2 r j) = f j) :
    headT (F := Ideal) t x wq k v (ix2 r d) = ∑ j : Fin (512 * (t.val + 1)), Ideal.div (lift f j) (mass f) * v (ix2 j d) := by
  have hf' : (fun j => scoresT (F := Ideal) t (queriesT x wq) k (ix2 r j)) = f := funext hf
  unfold headT
  rw [shapeCast_self, truncf_apply, shapeCast_self]
  simp only [matmul]
  have e : dotWV t = DotDims.plain 512 (512 * (t.val + 1)) 128 := rfl
  rw [e, Ideal.matmul_plain_apply, zero_apply, zero_add]
  refine Finset.sum_congr rfl fun j _ => congrArg₂ (fun a b : EReal => a * b) ?_ rfl
  rw [weightsT_apply]
  simp only [expsT_apply, hf']
  rfl

/-- A partial product. -/
theorem projT_apply (ctx : FVec Ideal S512x1024 .bf16) (wo : FVec Ideal S1024x1024 .bf16) (r : Fin 512) (e : Fin 1024) :
    projT (F := Ideal) ctx wo (ix3 (0 : Fin 1) r e) = ∑ n : Fin 1024, ctx (ix2 r n) * wo (ix2 n e) := by
  unfold projT
  rw [shapeCast_ab_1ab_apply, truncf_apply, shapeCast_self]
  simp only [matmul]
  have e' : dot_S512x1024_S1024x1024_S512x1024_1_0_0_1_n_n = DotDims.plain 512 1024 1024 := rfl
  rw [e', Ideal.matmul_plain_apply, zero_apply, zero_add]

/-- One more partial product added. -/
theorem accT_apply (a : FVec Ideal S64x1024 .f32) (v : FVec Ideal S1x64x1024 .bf16) (r : Fin 64) (e : Fin 1024) :
    accT (F := Ideal) a v (ix2 r e) = a (ix2 r e) + v (ix3 (0 : Fin 1) r e) := by
  unfold accT
  rw [addf_apply, extf_apply, shapeCast_1ab_ab_apply]

/-- The empty sum. -/
theorem acc0_apply (i : S64x1024.Idx) : acc0 (F := Ideal) i = (0 : EReal) := Ideal.ofBits_zero_f32

/-- The sum, narrowed: the same numbers. -/
theorem redT_apply (a : FVec Ideal S64x1024 .f32) (r : Fin 64) (e : Fin 1024) :
    redT (F := Ideal) a (ix3 (0 : Fin 1) r e) = a (ix2 r e) := by
  unfold redT
  rw [shapeCast_ab_1ab_apply, truncf_apply]

/-- A tile of the result, widened: the same numbers. -/
theorem outT_apply (v : FVec Ideal S1x512x1024 .bf16) (r : Fin 512) (e : Fin 1024) :
    outT (F := Ideal) v (ix2 r e) = v (ix3 (0 : Fin 1) r e) := by
  unfold outT
  rw [extf_apply, shapeCast_1ab_ab_apply]

end Cert.KernelIdeal.Gen.Fused
-- ==== Proof.ValueResult.lean ====
/-
  The kernel's result read at an index: when the devices' windows hold their shares of the whole arrays, the buffer every
  device ends with is `Cert.Attend.output` of the whole arrays' elements.
-/
module

public import proofs.«01_k».proof.Proof.ValueBlocks
public import proofs.«01_k».proof.Proof.ContentsKernelIdeal

@[expose] public section

set_option maxRecDepth 65536

noncomputable section

namespace Cert.KernelIdeal.Gen.Fused

open Idealize.ShloMosaic Idealize.ShloMosaic.TcCoe
open Idealize.ShloMosaic.ValueIdx
open Cert.Attend
open scoped BigOperators

/-- A device's own number is below eight. -/
theorem dev_lt (c : Dev nD) : c.val < 8 := c.isLt

/-- Head `h` of device `c` among all heads. -/
def headAt (c : Dev nD) (h : Fin 8) : Fin 64 := ⟨8 * c.val + h.val, by have := dev_lt c; omega⟩
/-- Column `n` of device `c` among all columns. -/
def colAt (c : Dev nD) (n : Fin 1024) : Fin 8192 := ⟨1024 * c.val + n.val, by have := dev_lt c; omega⟩
/-- Row `r` of tile `t` among all rows. -/
def rowAt (t : Fin 4) (r : Fin 512) : Fin 2048 := ⟨512 * t.val + r.val, by omega⟩
/-- The head a device's column lies in. -/
def headIn (n : Fin 1024) : Fin 8 := ⟨n.val / 128, by omega⟩
/-- Where in its head a device's column lies. -/
def offIn (n : Fin 1024) : Fin 128 := ⟨n.val % 128, by omega⟩

/-- The devices' windows hold their shares of the whole arrays. -/
structure Shares (I : Dev nD → Ins Ideal) (D : Data) : Prop where
  x : ∀ c i p, (I c).x (ix2 i p) = D.x i p
  wq : ∀ c p n, (I c).wq (ix2 p n) = D.wq p (colAt c n)
  k : ∀ c j n, (I c).k (ix2 j n) = D.k j (headAt c (headIn n)) (offIn n)
  v : ∀ c j n, (I c).v (ix2 j n) = D.v j (headAt c (headIn n)) (offIn n)
  wo : ∀ c n e, (I c).wo (ix2 n e) = D.wo (colAt c n) e

variable {I : Dev nD → Ins Ideal} {D : Data}

/-- Column `d` of a device's head `h` among the device's columns. -/
def colOf (h : Fin 8) (d : Fin 128) : Fin 1024 := ⟨128 * h.val + d.val, by omega⟩

/-- Its head. -/
theorem headIn_colOf (h : Fin 8) (d : Fin 128) : headIn (colOf h d) = h := Fin.ext (by show (128 * h.val + d.val) / 128 = h.val; omega)
/-- Its place in the head. -/
theorem offIn_colOf (h : Fin 8) (d : Fin 128) : offIn (colOf h d) = d := Fin.ext (by show (128 * h.val + d.val) % 128 = d.val; omega)
/-- Its place among all columns. -/
theorem colAt_colOf (c : Dev nD) (h : Fin 8) (d : Fin 128) : colAt c (colOf h d) = col (headAt c h) d :=
  Fin.ext (by show 1024 * c.val + (128 * h.val + d.val) = 128 * (8 * c.val + h.val) + d.val; omega)

/-- The columns a tile's rows see are columns of the whole. -/
theorem seen_le (t : Fin 4) : 512 * (t.val + 1) ≤ 2048 := by omega

/-- A tile's rows read out of the activations. -/
theorem read_x (X : S2048x1024.Idx → EReal) (t : Fin 4) (r : Fin 512) (p : Fin 1024) :
    (xM.access (rRows t)).read (Elt Ideal) X (ix2 r p) = X (ix2 (rowAt t r) p) :=
  congrArg X (funext fun a => Fin.ext (match a with
    | ⟨0, _⟩ => by show 512 * t.val + 1 * r.val = 512 * t.val + r.val; omega
    | ⟨1, _⟩ => by show 0 + 1 * p.val = p.val; omega))
/-- A head's columns read out of the query projection. -/
theorem read_wq (X : S1024x1024.Idx → EReal) (h : Fin 8) (p : Fin 1024) (d : Fin 128) :
    (wqM.access (rWq h)).read (Elt Ideal) X (ix2 p d) = X (ix2 p (colOf h d)) :=
  congrArg X (funext fun a => Fin.ext (match a with
    | ⟨0, _⟩ => by show 0 + 1 * p.val = p.val; omega
    | ⟨1, _⟩ => by show 128 * h.val + 1 * d.val = 128 * h.val + d.val; omega))
/-- A head's columns read out of the keys. -/
theorem read_k (X : S2048x1024.Idx → EReal) (t : Fin 4) (h : Fin 8) (j : Fin (512 * (t.val + 1))) (d : Fin 128) :
    (kM.access (rKv t h)).read (Elt Ideal) X (ix2 j d) = X (ix2 (Fin.castLE (seen_le t) j) (colOf h d)) :=
  congrArg X (funext fun a => Fin.ext (match a with
    | ⟨0, _⟩ => by show 0 + 1 * j.val = j.val; omega
    | ⟨1, _⟩ => by show 128 * h.val + 1 * d.val = 128 * h.val + d.val; omega))
/-- A head's columns read out of the values. -/
theorem read_v (X : S2048x1024.Idx → EReal) (t : Fin 4) (h : Fin 8) (j : Fin (512 * (t.val + 1))) (d : Fin 128) :
    (vM.access (rKv t h)).read (Elt Ideal) X (ix2 j d) = X (ix2 (Fin.castLE (seen_le t) j) (colOf h d)) :=
  congrArg X (funext fun a => Fin.ext (match a with
    | ⟨0, _⟩ => by show 0 + 1 * j.val = j.val; omega
    | ⟨1, _⟩ => by show 128 * h.val + 1 * d.val = 128 * h.val + d.val; omega))
/-- The contexts read whole. -/
theorem read_ctx (X : S512x1024.Idx → EReal) (r : Fin 512) (n : Fin 1024) :
    (ctxM.access rCtxAll).read (Elt Ideal) X (ix2 r n) = X (ix2 r n) :=
  congrArg X (funext fun a => Fin.ext (match a with
    | ⟨0, _⟩ => by show 0 + 1 * r.val = r.val; omega
    | ⟨1, _⟩ => by show 0 + 1 * n.val = n.val; omega))
/-- The output projection read whole. -/
theorem read_wo (X : S1024x1024.Idx → EReal) (n e : Fin 1024) :
    (woM.access rWo).read (Elt Ideal) X (ix2 n e) = X (ix2 n e) :=
  congrArg X (funext fun a => Fin.ext (match a with
    | ⟨0, _⟩ => by show 0 + 1 * n.val = n.val; omega
    | ⟨1, _⟩ => by show 0 + 1 * e.val = e.val; omega))
/-- A device's block read out of the received partial products. -/
theorem read_rb (X : S4x512x1024.Idx → EReal) (t : Fin 4) (s : Fin 8) (r : Fin 64) (e : Fin 1024) :
    (rbM.access (rRb t s)).read (Elt Ideal) X (ix3 (0 : Fin 1) r e) = X (ix3 t (⟨64 * s.val + r.val, by omega⟩ : Fin 512) e) :=
  congrArg X (funext fun a => Fin.ext (match a with
    | ⟨0, _⟩ => by show t.val + 1 * 0 = t.val; omega
    | ⟨1, _⟩ => by show 64 * s.val + 1 * r.val = 64 * s.val + r.val; omega
    | ⟨2, _⟩ => by show 0 + 1 * e.val = e.val; omega))
/-- A tile read out of the received reduced rows. -/
theorem read_ab (X : S4x512x1024.Idx → EReal) (t : Fin 4) (r : Fin 512) (e : Fin 1024) :
    (abM.access (rAb t)).read (Elt Ideal) X (ix3 (0 : Fin 1) r e) = X (ix3 t r e) :=
  congrArg X (funext fun a => Fin.ext (match a with
    | ⟨0, _⟩ => by show t.val + 1 * 0 = t.val; omega
    | ⟨1, _⟩ => by show 0 + 1 * r.val = r.val; omega
    | ⟨2, _⟩ => by show 0 + 1 * e.val = e.val; omega))

/-- A device's masked scores are the whole's. -/
theorem scores_eq (hI : Shares I D) (hD : D.Finite) (c : Dev nD) (t : Fin 4) (h : Fin 8) (r : Fin 512) (j : Fin (512 * (t.val + 1))) :
    scoresT (F := Ideal) t (queriesT ((xM.access (rRows t)).read (Elt Ideal) (I c).x) ((wqM.access (rWq h)).read (Elt Ideal) (I c).wq))
      ((kM.access (rKv t h)).read (Elt Ideal) (I c).k) (ix2 r j)
      = score D (rowAt t r) (headAt c h) (Fin.castLE (seen_le t) j) := by
  have hq : ∀ d : Fin 128, queriesT (F := Ideal) ((xM.access (rRows t)).read (Elt Ideal) (I c).x)
      ((wqM.access (rWq h)).read (Elt Ideal) (I c).wq) (ix2 r d) = query D (rowAt t r) (headAt c h) d * scale := fun d => by
    refine (queriesT_apply _ _ r d).trans (congrArg (fun z : EReal => z * scale) (Finset.sum_congr rfl fun p _ => ?_))
    refine congrArg₂ (fun a b : EReal => a * b) ((read_x _ t r p).trans (hI.x c _ p)) ?_
    exact (read_wq _ h p d).trans ((hI.wq c p _).trans (congrArg (D.wq p) (colAt_colOf c h d)))
  have hk : ∀ d : Fin 128, (kM.access (rKv t h)).read (Elt Ideal) (I c).k (ix2 j d)
      = D.k (Fin.castLE (seen_le t) j) (headAt c h) d := fun d => by
    refine (read_k _ t h j d).trans ((hI.k c _ _).trans ?_)
    rw [headIn_colOf, offIn_colOf]
  refine (scoresT_apply t _ _ r j).trans ?_
  unfold score
  refine if_congr Iff.rfl ?_ rfl
  refine (Finset.sum_congr rfl fun d _ => congrArg₂ (fun a b : EReal => a * b) (hq d) (hk d)).trans ?_
  exact scale_scores _ _ (fine_query hD _ _) (hD.k _ _) fine_scale

/-- A device's contexts are the whole's averages. -/
theorem HD_apply (hI : Shares I D) (hD : D.Finite) (c : Dev nD) (t : Fin 4) (h : Fin 8) (r : Fin 512) (d : Fin 128) :
    HD I c t h (ix2 r d) = average D (rowAt t r) (headAt c h) d := by
  refine (headT_apply t _ _ _ _ r d _ (scores_eq hI hD c t h r)).trans ?_
  have hv : ∀ j : Fin (512 * (t.val + 1)), (vM.access (rKv t h)).read (Elt Ideal) (I c).v (ix2 j d)
      = D.v (Fin.castLE (seen_le t) j) (headAt c h) d := fun j => by
    refine (read_v _ t h j d).trans ((hI.v c _ _).trans ?_)
    rw [headIn_colOf, offIn_colOf]
  refine (Finset.sum_congr rfl fun j _ => congrArg (fun z : EReal => Ideal.div _ _ * z) (hv j)).trans ?_
  exact average_prefix (seen_le t) (score D (rowAt t r) (headAt c h)) (fun j => D.v j (headAt c h) d)
    (score_cases hD _ _) (score_first hD _ _)
    (fun j hj => score_past D t.val _ _ j (by show 512 * t.val + r.val < _; omega) hj)

/-- All of a device's contexts. -/
theorem CX_apply (hI : Shares I D) (hD : D.Finite) (c : Dev nD) (t : Fin 4) (r : Fin 512) (n : Fin 1024) :
    CX I c t (ix2 r n) = average D (rowAt t r) (headAt c (headIn n)) (offIn n) := by
  have hn : headOf n.val = headIn n := Fin.ext (by show n.val / 128 % 8 = n.val / 128; omega)
  refine Eq.trans ?_ (HD_apply hI hD c t (headIn n) r (offIn n))
  show HD I c t (headOf n.val) _ = _
  rw [hn]
  rfl

/-- A device's partial product: its columns' part of the output sum. -/
theorem PJ_apply (hI : Shares I D) (hD : D.Finite) (c : Dev nD) (t : Fin 4) (r : Fin 512) (e : Fin 1024) :
    PJ I c t (ix3 (0 : Fin 1) r e)
      = ∑ n : Fin 1024, average D (rowAt t r) (headAt c (headIn n)) (offIn n) * D.wo (colAt c n) e := by
  refine (projT_apply _ _ r e).trans (Finset.sum_congr rfl fun n _ => ?_)
  exact congrArg₂ (fun a b : EReal => a * b) ((read_ctx _ r n).trans (CX_apply hI hD c t r n))
    ((read_wo _ n e).trans (hI.wo c n e))

/-- A device's block of the received partial products. -/
theorem RB_apply (c : Dev nD) (t : Fin 4) (s : Fin 8) (r : Fin 64) (e : Fin 1024) :
    RB I c (ix3 t (⟨64 * s.val + r.val, by omega⟩ : Fin 512) e)
      = PJ I s t (ix3 (0 : Fin 1) (⟨64 * c.val + r.val, by have := dev_lt c; omega⟩ : Fin 512) e) := by
  have hs : devOf (64 * s.val + r.val) = s := Fin.ext (by show (64 * s.val + r.val) / 64 % 8 = s.val; omega)
  show PJ I (devOf (64 * s.val + r.val)) t _ = _
  rw [hs]
  refine congrArg (PJ I s t) (funext fun a => Fin.ext (match a with
    | ⟨0, _⟩ => rfl
    | ⟨1, _⟩ => by show 64 * c.val + (64 * s.val + r.val) % 64 = 64 * c.val + r.val; omega
    | ⟨2, _⟩ => rfl))

/-- Adding blocks up over a list of devices, at an index. -/
theorem SM_apply (c : Dev nD) (t : Fin 4) (l : List (Fin 8)) (a : FVec Ideal S64x1024 .f32) (r : Fin 64) (e : Fin 1024) :
    SM I c t l a (ix2 r e) = a (ix2 r e)
      + (l.map fun s => (PJ I s t (ix3 (0 : Fin 1) (⟨64 * c.val + r.val, by have := dev_lt c; omega⟩ : Fin 512) e) : EReal)).sum := by
  induction l generalizing a with
  | nil => exact (add_zero _).symm
  | cons s l ih =>
    refine (ih _).trans ?_
    rw [List.map_cons, List.sum_cons, ← add_assoc]
    refine congrArg (fun z : EReal => z + _) ((accT_apply a _ r e).trans (congrArg (fun z : EReal => a (ix2 r e) + z) ?_))
    exact (read_rb _ t s r e).trans (RB_apply c t s r e)

/-- A device's reduced rows: the sum of all devices' partial products. -/
theorem RD_apply (c : Dev nD) (t : Fin 4) (r : Fin 64) (e : Fin 1024) :
    RD I c t (ix3 (0 : Fin 1) r e)
      = ∑ s : Fin 8, (PJ I s t (ix3 (0 : Fin 1) (⟨64 * c.val + r.val, by have := dev_lt c; omega⟩ : Fin 512) e) : EReal) := by
  refine (redT_apply _ r e).trans ((SM_apply c t all8 acc0 r e).trans ?_)
  have h0 := acc0_apply (ix2 r e)
  rw [h0, zero_add, Fin.sum_univ_def]
  rfl

/-- The received reduced rows: each the sum of all devices' partial products. -/
theorem AB_apply (t : Fin 4) (r : Fin 512) (e : Fin 1024) :
    AB I (ix3 t r e) = ∑ s : Fin 8, (PJ I s t (ix3 (0 : Fin 1) r e) : EReal) := by
  have hc : (devOf r.val).val = r.val / 64 := by show r.val / 64 % 8 = _; omega
  refine (RD_apply (I := I) (devOf r.val) t ⟨r.val % 64, by omega⟩ e).trans (Finset.sum_congr rfl fun s _ => ?_)
  refine congrArg (PJ I s t) (funext fun a => Fin.ext (match a with
    | ⟨0, _⟩ => rfl
    | ⟨1, _⟩ => by show 64 * (devOf r.val).val + r.val % 64 = r.val; omega
    | ⟨2, _⟩ => rfl))

/-- **The kernel's result at an index** is the attention output of the whole arrays' elements. -/
theorem OUT_apply (hI : Shares I D) (hD : D.Finite) (i : Fin 2048) (e : Fin 1024) : OUT I (ix2 i e) = output D i e := by
  have ht : (tileOf i.val).val = i.val / 512 := by show i.val / 512 % 4 = _; omega
  have hi : rowAt (tileOf i.val) ⟨i.val % 512, by omega⟩ = i := Fin.ext (by show 512 * (tileOf i.val).val + i.val % 512 = i.val; omega)
  refine (outT_apply _ ⟨i.val % 512, by omega⟩ e).trans ((read_ab _ (tileOf i.val) ⟨i.val % 512, by omega⟩ e).trans
    ((AB_apply (tileOf i.val) ⟨i.val % 512, by omega⟩ e).trans ?_))
  unfold output
  refine Eq.trans ?_ (Equiv.sum_comp (finProdFinEquiv (m := 8) (n := 1024))
    (fun n : Fin 8192 => average D i ⟨n.val / 128, by omega⟩ ⟨n.val % 128, by omega⟩ * D.wo n e))
  rw [Fintype.sum_prod_type]
  refine Finset.sum_congr rfl fun s _ => (PJ_apply hI hD s (tileOf i.val) ⟨i.val % 512, by omega⟩ e).trans
    (Finset.sum_congr rfl fun n _ => ?_)
  rw [hi]
  have hn : (finProdFinEquiv (m := 8) (n := 1024) (s, n)).val = n.val + 1024 * s.val := rfl
  have h1 : headAt s (headIn n) = ⟨(finProdFinEquiv (m := 8) (n := 1024) (s, n)).val / 128, by omega⟩ :=
    Fin.ext (by show 8 * s.val + n.val / 128 = (n.val + 1024 * s.val) / 128; omega)
  have h2 : offIn n = ⟨(finProdFinEquiv (m := 8) (n := 1024) (s, n)).val % 128, by omega⟩ :=
    Fin.ext (by show n.val % 128 = (n.val + 1024 * s.val) % 128; omega)
  have h3 : colAt s n = finProdFinEquiv (m := 8) (n := 1024) (s, n) :=
    Fin.ext (by show 1024 * s.val + n.val = n.val + 1024 * s.val; omega)
  rw [h1, h2, h3]

end Cert.KernelIdeal.Gen.Fused
-- ==== Proof.ValueReference.lean ====
/-
  The reference's result read at an index: its composed term cut into the stages of attention, each read at an index, and
  the whole equal to `Cert.Attend.output` of the argument arrays' elements.
-/
module

public import proofs.«01_k».proof.Proof.ValueSpec
public import proofs.«01_k».proof.Proof.Gen.ReferenceIdeal.Run
public import Idealize.ShloMosaic.Lib.ValueLayout

@[expose] public section

set_option maxRecDepth 65536

noncomputable section

namespace Cert.ReferenceIdeal.Value

open Cert.ReferenceIdeal Cert.ReferenceIdeal.Gen Idealize.ShloMosaic Idealize.ShloMosaic.TcCoe Idealize.ShloMosaic.StableHlo
open Idealize.ShloMosaic.ValueIdx
open Cert.Attend
open scoped BigOperators

/-! ## The stages -/

/-- Each position's block number. -/
def blockOf : IVec S2048 32 :=
  select (andi (cmpi .ne (signi (iotaInDim S2048 32 0)) (broadcastInDim S2048 ![] bcast_S_S2048 (signi (id (constantI S_ 32 64#32))))) (cmpi .ne (Host.remsi (iotaInDim S2048 32 0) (broadcastInDim S2048 ![] bcast_S_S2048 (id (constantI S_ 32 64#32)))) (broadcastInDim S2048 ![] bcast_S_S2048 (constantI S_ 32 0#32)))) (subi (Host.divsi (iotaInDim S2048 32 0) (broadcastInDim S2048 ![] bcast_S_S2048 (id (constantI S_ 32 64#32)))) (broadcastInDim S2048 ![] bcast_S_S2048 (constantI S_ 32 1#32))) (Host.divsi (iotaInDim S2048 32 0) (broadcastInDim S2048 ![] bcast_S_S2048 (id (constantI S_ 32 64#32))))

/-- The block-causal mask. -/
def keep : IVec S2048x2048 1 :=
  cmpi .sle (broadcastInDim S2048x2048 ![0, 1] bcast_S1x2048_S2048x2048_0_1 (broadcastInDim S1x2048 ![1] bcast_S2048_S1x2048_1 blockOf)) (broadcastInDim S2048x2048 ![0, 1] bcast_S2048x1_S2048x2048_0_1 (broadcastInDim S2048x1 ![0] bcast_S2048_S2048x1_0 blockOf))

/-- Whether a row has an unmasked column. -/
def keepRow : IVec S2048 1 := Host.reduce IntOp.ori keep (constantI S_ 1 0#1) reducesTo_S2048x2048_S2048_d1 h_S_

/-- The projected queries, by head. -/
def queries (X : FVec Ideal S1x2048x1024 .bf16) (W : FVec Ideal S1024x8192 .bf16) : FVec Ideal S1x2048x64x128 .f32 :=
  shapeCast _ (Host.dotGeneral dot_S1x2048x1024_S1024x8192_S1x2048x8192_2_0_01_1_n_n none (extf .f32 X bitsLt_bf16_f32) (extf .f32 W bitsLt_bf16_f32)) shapeCasts_S1x2048x8192_S1x2048x64x128

/-- The masked, scaled scores. -/
def scores (Q : FVec Ideal S1x2048x64x128 .f32) (K : FVec Ideal S1x2048x64x128 .bf16) : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 keep)) (mulf (Host.dotGeneral dot_S1x2048x64x128_S1x2048x64x128_S1x64x2048x2048_3_3_1_1_02_02 none Q (extf .f32 K bitsLt_bf16_f32)) (broadcastInDim S1x64x2048x2048 ![] bcast_S_S1x64x2048x2048 (constant S_ .f32 0x3DB504F3#32))) (broadcastInDim S1x64x2048x2048 ![] bcast_S_S1x64x2048x2048 (id (constant S_ .f32 0xFF800000#32)))

/-- The exponentials of the scores' distances from their row's largest. -/
def exps (S : FVec Ideal S1x64x2048x2048 .f32) : FVec Ideal S1x64x2048x2048 .f32 :=
  Host.exp (subf S (broadcastInDim S1x64x2048x2048 ![0, 1, 2, 3] bcast_S1x64x2048x1_S1x64x2048x2048_0_1_2_3 (broadcastInDim S1x64x2048x1 ![0, 1, 2] bcast_S1x64x2048_S1x64x2048x1_0_1_2 (Host.reduce FloatOps.maximumf S (constant S_ .f32 0xFF800000#32) reducesTo_S1x64x2048x2048_S1x64x2048_d3 h_S_))))

/-- The weights: each exponential over its row's sum. -/
def weights (E : FVec Ideal S1x64x2048x2048 .f32) : FVec Ideal S1x64x2048x2048 .f32 :=
  select (broadcastInDim S1x64x2048x2048 ![0, 1, 2, 3] bcast_S1x1x2048x1_S1x64x2048x2048_0_1_2_3 (broadcastInDim S1x1x2048x1 ![2] bcast_S2048_S1x1x2048x1_2 keepRow)) (Host.divf E (broadcastInDim S1x64x2048x2048 ![0, 1, 2, 3] bcast_S1x64x2048x1_S1x64x2048x2048_0_1_2_3 (select (broadcastInDim S1x64x2048x1 ![0, 1, 2, 3] bcast_S1x1x2048x1_S1x64x2048x1_0_1_2_3 (broadcastInDim S1x1x2048x1 ![2] bcast_S2048_S1x1x2048x1_2 keepRow)) (broadcastInDim S1x64x2048x1 ![0, 1, 2] bcast_S1x64x2048_S1x64x2048x1_0_1_2 (Host.reduceAdd E (constant S_ .f32 0x00000000#32) reducesTo_S1x64x2048x2048_S1x64x2048_d3 h_S_)) (broadcastInDim S1x64x2048x1 ![] bcast_S_S1x64x2048x1 (id (constant S_ .f32 0x3F800000#32)))))) (broadcastInDim S1x64x2048x2048 ![] bcast_S_S1x64x2048x2048 (id (constant S_ .f32 0x00000000#32)))

/-- The weighted averages of the values. -/
def averages (V : FVec Ideal S1x2048x64x128 .bf16) (P : FVec Ideal S1x64x2048x2048 .f32) : FVec Ideal S1x64x128x2048 .f32 :=
  Host.dotGeneral dot_S1x2048x64x128_S1x64x2048x2048_S1x64x128x2048_1_3_3_2_02_01 none (extf .f32 V bitsLt_bf16_f32) P

/-- The output projection. -/
def outputs (A : FVec Ideal S1x64x128x2048 .f32) (Wo : FVec Ideal S8192x1024 .bf16) : FVec Ideal S1x2048x1024 .f32 :=
  Host.dotGeneral dot_S1x2048x8192_S8192x1024_S1x2048x1024_2_0_01_1_n_n none (shapeCast _ (transpose S1x2048x64x128 [0, 3, 1, 2] A transposes_S1x64x128x2048_S1x2048x64x128_0_3_1_2) shapeCasts_S1x2048x64x128_S1x2048x8192) (extf .f32 Wo bitsLt_bf16_f32)

/-- The reference's result is the stages composed. -/
theorem result_eq (m : (ℓ : Loc nD τ sig) → Buf (Elt Ideal) ℓ) (c : Dev nD) :
    res_main_v38 (F := Ideal) m c
      = outputs (averages (m ((c.tc : Thread nD τ).loc main_arg3))
          (weights (exps (scores (queries (m ((c.tc : Thread nD τ).loc main_arg0)) (m ((c.tc : Thread nD τ).loc main_arg1)))
            (m ((c.tc : Thread nD τ).loc main_arg2))))))
          (m ((c.tc : Thread nD τ).loc main_arg4)) := by
  unfold res_main_v38
  rfl

/-! ## Each stage at an index -/

/-- A position's block number. -/
theorem blockOf_apply (i : Fin 2048) : blockOf (ix1 i) = BitVec.ofNat 32 (i.val / 64) := by
  have key : ∀ i : Fin 2048, blockWord .host
      (if BitVec.ofNat 32 i.val = 0 then 0 else if (BitVec.ofNat 32 i.val).msb then -1 else 1)
      (if 64#32 = 0 then 0 else if (64#32).msb then -1 else 1) (BitVec.ofNat 32 i.val) = BitVec.ofNat 32 (i.val / 64) := by
    decide +kernel
  exact key i

/-- The mask keeps the columns of no later block. -/
theorem keep_apply (i j : Fin 2048) : keep (ix2 i j) = if j.val / 64 ≤ i.val / 64 then 1#1 else 0#1 := by
  have e : keep (ix2 i j) = IntOp.cmpi .sle (blockOf (ix1 j)) (blockOf (ix1 i)) := by
    refine congrArg₂ (IntOp.cmpi .sle) (congrArg blockOf (funext fun a => ?_)) (congrArg blockOf (funext fun a => ?_))
    · match a with | ⟨0, _⟩ => rfl
    · match a with | ⟨0, _⟩ => rfl
  rw [e, blockOf_apply, blockOf_apply]
  exact cmpi_blocks _ _ j.isLt i.isLt

/-- Every row has an unmasked column. -/
theorem keepRow_apply (i : Fin 2048) : keepRow (ix1 i) = 1#1 := by
  have hr : S2048x2048.Reduces [1] S2048 := by decide
  have hf : ∀ (s : Finset (Fin 2048)) (f : Fin 2048 → BitVec 1), (∃ j ∈ s, f j = 1#1) → s.fold IntOp.ori 0#1 f = 1#1 := by
    classical
    have or1 : ∀ a : BitVec 1, IntOp.ori 1#1 a = 1#1 ∧ IntOp.ori a 1#1 = 1#1 := by decide
    intro s f
    induction s using Finset.induction_on with
    | empty => rintro ⟨j, hj, _⟩; exact absurd hj (Finset.notMem_empty j)
    | insert a s ha ih =>
      rintro ⟨j, hj, h⟩
      rw [Finset.fold_insert ha]
      rcases Finset.mem_insert.mp hj with rfl | hj
      · rw [h]; exact (or1 _).1
      · rw [ih ⟨j, hj, h⟩]; exact (or1 _).2
  refine (Host.reduce_eq_fold_single IntOp.ori keep _ reducesTo_S2048x2048_S2048_d1 hr h_S_ (ix1 i)).trans ?_
  refine hf _ _ ⟨⟨0, by decide⟩, Finset.mem_univ _, ?_⟩
  have e : hr.lift (ix1 i) (⟨0, by decide⟩ : Fin 2048) = ix2 i (⟨0, by decide⟩ : Fin 2048) := by
    funext a; match a with | ⟨0, _⟩ => rfl | ⟨1, _⟩ => rfl
  show keep (hr.lift (ix1 i) _) = 1#1
  rw [e, keep_apply, if_pos (by simp)]

/-- A query at an index. -/
theorem queries_apply (X : FVec Ideal S1x2048x1024 .bf16) (W : FVec Ideal S1024x8192 .bf16) (i : Fin 2048) (h : Fin 64)
    (d : Fin 128) : queries X W (ix4 (0 : Fin 1) i h d) = ∑ p : Fin 1024, X (ix3 (0 : Fin 1) i p) * W (ix2 p (col h d)) := by
  have e : queries X W (ix4 (0 : Fin 1) i h d)
      = Host.dotGeneral (F := Ideal) dot_S1x2048x1024_S1024x8192_S1x2048x8192_2_0_01_1_n_n none (extf .f32 X bitsLt_bf16_f32) (extf .f32 W bitsLt_bf16_f32)
          (ix3 (0 : Fin 1) i (col h d)) :=
    shapeCast_apply _ _ _ _ (by
      rw [Shape.rowMajor_val_three, Shape.rowMajor_val_four]
      show (0 * 2048 + i.val) * 8192 + (128 * h.val + d.val) = ((0 * 2048 + i.val) * 64 + h.val) * 128 + d.val
      omega)
  let D := dot_S1x2048x1024_S1024x8192_S1x2048x8192_2_0_01_1_n_n
  have hr : D.contr.rank = 1 := rfl
  have hs : D.contr.size ⟨0, by rw [hr]; omega⟩ = 1024 := rfl
  rw [e]
  simp only [Host.dotGeneral]
  rw [Ideal.dotGeneral_apply, ← Equiv.sum_comp (contrEquiv1 D 1024 hr hs).symm]
  refine Finset.sum_congr rfl fun p _ => ?_
  have hp := contrEquiv1_symm_val D 1024 hr hs p
  have el : D.lhsIdx (ix3 (0 : Fin 1) i (col h d)) ((contrEquiv1 D 1024 hr hs).symm p) = ix3 (0 : Fin 1) i p := by
    funext a; apply Fin.ext
    match a with
    | ⟨0, _⟩ => rfl
    | ⟨1, _⟩ => rfl
    | ⟨2, _⟩ => exact hp
  have er : D.rhsIdx (ix3 (0 : Fin 1) i (col h d)) ((contrEquiv1 D 1024 hr hs).symm p) = ix2 p (col h d) := by
    funext a; apply Fin.ext
    match a with
    | ⟨0, _⟩ => exact hp
    | ⟨1, _⟩ => rfl
  rw [el, er]
  rfl

/-- A masked score at an index. -/
theorem scores_apply (Q : FVec Ideal S1x2048x64x128 .f32) (K : FVec Ideal S1x2048x64x128 .bf16) (h : Fin 64) (i j : Fin 2048) :
    scores Q K (ix4 (0 : Fin 1) h i j)
      = if j.val / 64 ≤ i.val / 64 then (∑ d : Fin 128, Q (ix4 (0 : Fin 1) i h d) * K (ix4 (0 : Fin 1) j h d)) * scale else ⊥ := by
  have e : scores Q K (ix4 (0 : Fin 1) h i j) = Scalar.select (keep (ix2 i j))
      (Host.dotGeneral (F := Ideal) dot_S1x2048x64x128_S1x2048x64x128_S1x64x2048x2048_3_3_1_1_02_02 none Q (extf .f32 K bitsLt_bf16_f32)
        (ix4 (0 : Fin 1) h i j) * scale) (Ideal.ofBits .f32 0xFF800000#32) := by
    refine congrArg (fun b => Scalar.select b _ _) (congrArg keep (funext fun a => ?_))
    match a with | ⟨0, _⟩ => rfl | ⟨1, _⟩ => rfl
  let D := dot_S1x2048x64x128_S1x2048x64x128_S1x64x2048x2048_3_3_1_1_02_02
  have hr : D.contr.rank = 1 := rfl
  have hs : D.contr.size ⟨0, by rw [hr]; omega⟩ = 128 := rfl
  have hd : Host.dotGeneral (F := Ideal) dot_S1x2048x64x128_S1x2048x64x128_S1x64x2048x2048_3_3_1_1_02_02 none Q (extf .f32 K bitsLt_bf16_f32)
        (ix4 (0 : Fin 1) h i j) = ∑ d : Fin 128, Q (ix4 (0 : Fin 1) i h d) * K (ix4 (0 : Fin 1) j h d) := by
    simp only [Host.dotGeneral]
    rw [Ideal.dotGeneral_apply, ← Equiv.sum_comp (contrEquiv1 D 128 hr hs).symm]
    refine Finset.sum_congr rfl fun p _ => ?_
    have hp := contrEquiv1_symm_val D 128 hr hs p
    have el : D.lhsIdx (ix4 (0 : Fin 1) h i j) ((contrEquiv1 D 128 hr hs).symm p) = ix4 (0 : Fin 1) i h p := by
      funext a; apply Fin.ext
      match a with
      | ⟨0, _⟩ => rfl
      | ⟨1, _⟩ => rfl
      | ⟨2, _⟩ => rfl
      | ⟨3, _⟩ => exact hp
    have er : D.rhsIdx (ix4 (0 : Fin 1) h i j) ((contrEquiv1 D 128 hr hs).symm p) = ix4 (0 : Fin 1) j h p := by
      funext a; apply Fin.ext
      match a with
      | ⟨0, _⟩ => rfl
      | ⟨1, _⟩ => rfl
      | ⟨2, _⟩ => rfl
      | ⟨3, _⟩ => exact hp
    rw [el, er]
    rfl
  rw [e, hd, keep_apply]
  by_cases hm : j.val / 64 ≤ i.val / 64
  · rw [if_pos hm, if_pos hm, select_one]
  · rw [if_neg hm, if_neg hm, select_zero]
    simp [Ideal.ofBits, Ideal.ieee]

/-- The reduced axis's coordinate inserted last. -/
theorem lift_eq (hr : S1x64x2048x2048.Reduces [3] S1x64x2048) (h : Fin 64) (i k : Fin 2048) :
    hr.lift (ix3 (0 : Fin 1) h i) k = ix4 (0 : Fin 1) h i k := by
  funext a; match a with | ⟨0, _⟩ => rfl | ⟨1, _⟩ => rfl | ⟨2, _⟩ => rfl | ⟨3, _⟩ => rfl

/-- A row statistic spread over the row's columns. -/
theorem spread_apply {α : Type} (r : S1x64x2048.Idx → α) (h : Fin 64) (i j : Fin 2048) :
    broadcastInDim S1x64x2048x2048 ![0, 1, 2, 3] bcast_S1x64x2048x1_S1x64x2048x2048_0_1_2_3
      (broadcastInDim S1x64x2048x1 ![0, 1, 2] bcast_S1x64x2048_S1x64x2048x1_0_1_2 r) (ix4 (0 : Fin 1) h i j)
      = r (ix3 (0 : Fin 1) h i) :=
  congrArg r (funext fun a => match a with | ⟨0, _⟩ => rfl | ⟨1, _⟩ => rfl | ⟨2, _⟩ => rfl)

/-- An exponential at an index. -/
theorem exps_apply (S : FVec Ideal S1x64x2048x2048 .f32) (h : Fin 64) (i j : Fin 2048) :
    exps S (ix4 (0 : Fin 1) h i j) = lift (fun j => S (ix4 (0 : Fin 1) h i j)) j := by
  have hr : S1x64x2048x2048.Reduces [3] S1x64x2048 := by decide
  have hm : Host.reduce FloatOps.maximumf S (constant S_ .f32 0xFF800000#32) reducesTo_S1x64x2048x2048_S1x64x2048_d3 h_S_ (ix3 (0 : Fin 1) h i)
      = top (fun j => S (ix4 (0 : Fin 1) h i j)) := by
    refine (Host.reduce_eq_fold_single (max : EReal → EReal → EReal) S _ reducesTo_S1x64x2048x2048_S1x64x2048_d3 hr h_S_ (ix3 (0 : Fin 1) h i)).trans ?_
    have hb : (constant (F := Ideal) S_ .f32 0xFF800000#32) (Shape.Idx.first h_S_) = (⊥ : EReal) := by
      show Ideal.ofBits .f32 0xFF800000#32 = ⊥
      simp [Ideal.ofBits, Ideal.ieee]
    rw [hb]
    exact congrArg (fun g => (Finset.univ : Finset (Fin 2048)).fold max ⊥ g) (funext fun k => congrArg S (lift_eq hr h i k))
  have e : exps S (ix4 (0 : Fin 1) h i j) = Ideal.exp (S (ix4 (0 : Fin 1) h i j) - Host.reduce FloatOps.maximumf S
      (constant S_ .f32 0xFF800000#32) reducesTo_S1x64x2048x2048_S1x64x2048_d3 h_S_ (ix3 (0 : Fin 1) h i)) :=
    congrArg (fun r : EReal => Ideal.exp (S (ix4 (0 : Fin 1) h i j) - r)) (spread_apply _ h i j)
  rw [e, hm]
  rfl

/-- Whether a row has an unmasked column, spread over heads and columns. -/
theorem keepRow_spread (r : IVec S2048 1) (h : Fin 64) (i j : Fin 2048) :
    broadcastInDim S1x64x2048x2048 ![0, 1, 2, 3] bcast_S1x1x2048x1_S1x64x2048x2048_0_1_2_3
      (broadcastInDim S1x1x2048x1 ![2] bcast_S2048_S1x1x2048x1_2 r) (ix4 (0 : Fin 1) h i j) = r (ix1 i) :=
  congrArg r (funext fun a => match a with | ⟨0, _⟩ => rfl)

/-- Whether a row has an unmasked column, spread over heads. -/
theorem keepRow_spread_one (r : IVec S2048 1) (h : Fin 64) (i : Fin 2048) :
    broadcastInDim S1x64x2048x1 ![0, 1, 2, 3] bcast_S1x1x2048x1_S1x64x2048x1_0_1_2_3
      (broadcastInDim S1x1x2048x1 ![2] bcast_S2048_S1x1x2048x1_2 r) (ix4 (0 : Fin 1) h i (0 : Fin 1)) = r (ix1 i) :=
  congrArg r (funext fun a => match a with | ⟨0, _⟩ => rfl)

/-- A column of row statistics spread over the row's columns. -/
theorem spread_outer {α : Type} (r : S1x64x2048x1.Idx → α) (h : Fin 64) (i j : Fin 2048) :
    broadcastInDim S1x64x2048x2048 ![0, 1, 2, 3] bcast_S1x64x2048x1_S1x64x2048x2048_0_1_2_3 r (ix4 (0 : Fin 1) h i j)
      = r (ix4 (0 : Fin 1) h i (0 : Fin 1)) :=
  congrArg r (funext fun a => match a with | ⟨0, _⟩ => rfl | ⟨1, _⟩ => rfl | ⟨2, _⟩ => rfl | ⟨3, _⟩ => rfl)

/-- Row statistics as a column. -/
theorem spread_inner {α : Type} (r : S1x64x2048.Idx → α) (h : Fin 64) (i : Fin 2048) :
    broadcastInDim S1x64x2048x1 ![0, 1, 2] bcast_S1x64x2048_S1x64x2048x1_0_1_2 r (ix4 (0 : Fin 1) h i (0 : Fin 1))
      = r (ix3 (0 : Fin 1) h i) :=
  congrArg r (funext fun a => match a with | ⟨0, _⟩ => rfl | ⟨1, _⟩ => rfl | ⟨2, _⟩ => rfl)

/-- A weight at an index. -/
theorem weights_apply (E : FVec Ideal S1x64x2048x2048 .f32) (h : Fin 64) (i j : Fin 2048) :
    weights E (ix4 (0 : Fin 1) h i j)
      = Ideal.div (E (ix4 (0 : Fin 1) h i j)) (∑ k : Fin 2048, E (ix4 (0 : Fin 1) h i k)) := by
  have hr : S1x64x2048x2048.Reduces [3] S1x64x2048 := by decide
  have hs : Host.reduceAdd E (constant S_ .f32 0x00000000#32) reducesTo_S1x64x2048x2048_S1x64x2048_d3 h_S_ (ix3 (0 : Fin 1) h i)
      = ∑ k : Fin 2048, E (ix4 (0 : Fin 1) h i k) := by
    refine (Ideal.hostReduceAdd_single reducesTo_S1x64x2048x2048_S1x64x2048_d3 hr E _ (ix3 (0 : Fin 1) h i)).trans ?_
    have hz : (constant (F := Ideal) S_ .f32 0x00000000#32) (Shape.Idx.first h_S_) = (0 : EReal) := Ideal.ofBits_zero_f32
    rw [hz, zero_add]
    exact Finset.sum_congr rfl fun k _ => congrArg E (lift_eq hr h i k)
  unfold weights
  rw [select_apply, keepRow_spread, keepRow_apply, select_one]
  have hd : ∀ B : FVec Ideal S1x64x2048x2048 .f32,
      Host.divf E B (ix4 (0 : Fin 1) h i j) = Ideal.div (E (ix4 (0 : Fin 1) h i j)) (B (ix4 (0 : Fin 1) h i j)) := fun _ => rfl
  rw [hd, spread_outer, select_apply, keepRow_spread_one, keepRow_apply, select_one, spread_inner, hs]

/-- A weighted average at an index. -/
theorem averages_apply (V : FVec Ideal S1x2048x64x128 .bf16) (P : FVec Ideal S1x64x2048x2048 .f32) (h : Fin 64) (d : Fin 128)
    (i : Fin 2048) : averages V P (ix4 (0 : Fin 1) h d i) = ∑ j : Fin 2048, V (ix4 (0 : Fin 1) j h d) * P (ix4 (0 : Fin 1) h i j) := by
  let D := dot_S1x2048x64x128_S1x64x2048x2048_S1x64x128x2048_1_3_3_2_02_01
  have hr : D.contr.rank = 1 := rfl
  have hs : D.contr.size ⟨0, by rw [hr]; omega⟩ = 2048 := rfl
  unfold averages
  simp only [Host.dotGeneral]
  rw [Ideal.dotGeneral_apply, ← Equiv.sum_comp (contrEquiv1 D 2048 hr hs).symm]
  refine Finset.sum_congr rfl fun p _ => ?_
  have hp := contrEquiv1_symm_val D 2048 hr hs p
  have el : D.lhsIdx (ix4 (0 : Fin 1) h d i) ((contrEquiv1 D 2048 hr hs).symm p) = ix4 (0 : Fin 1) p h d := by
    funext a; apply Fin.ext
    match a with
    | ⟨0, _⟩ => rfl
    | ⟨1, _⟩ => exact hp
    | ⟨2, _⟩ => rfl
    | ⟨3, _⟩ => rfl
  have er : D.rhsIdx (ix4 (0 : Fin 1) h d i) ((contrEquiv1 D 2048 hr hs).symm p) = ix4 (0 : Fin 1) h i p := by
    funext a; apply Fin.ext
    match a with
    | ⟨0, _⟩ => rfl
    | ⟨1, _⟩ => rfl
    | ⟨2, _⟩ => rfl
    | ⟨3, _⟩ => exact hp
  rw [el, er]
  rfl

/-- An output at an index. -/
theorem outputs_apply (A : FVec Ideal S1x64x128x2048 .f32) (Wo : FVec Ideal S8192x1024 .bf16) (i : Fin 2048) (e : Fin 1024) :
    outputs A Wo (ix3 (0 : Fin 1) i e)
      = ∑ n : Fin 8192, A (ix4 (0 : Fin 1) (⟨n.val / 128, by omega⟩ : Fin 64) (⟨n.val % 128, by omega⟩ : Fin 128) i) * Wo (ix2 n e) := by
  let D := dot_S1x2048x8192_S8192x1024_S1x2048x1024_2_0_01_1_n_n
  have hr : D.contr.rank = 1 := rfl
  have hs : D.contr.size ⟨0, by rw [hr]; omega⟩ = 8192 := rfl
  unfold outputs
  simp only [Host.dotGeneral]
  rw [Ideal.dotGeneral_apply, ← Equiv.sum_comp (contrEquiv1 D 8192 hr hs).symm]
  refine Finset.sum_congr rfl fun p _ => ?_
  have hp := contrEquiv1_symm_val D 8192 hr hs p
  have el : D.lhsIdx (ix3 (0 : Fin 1) i e) ((contrEquiv1 D 8192 hr hs).symm p) = ix3 (0 : Fin 1) i p := by
    funext a; apply Fin.ext
    match a with
    | ⟨0, _⟩ => rfl
    | ⟨1, _⟩ => rfl
    | ⟨2, _⟩ => exact hp
  have er : D.rhsIdx (ix3 (0 : Fin 1) i e) ((contrEquiv1 D 8192 hr hs).symm p) = ix2 p e := by
    funext a; apply Fin.ext
    match a with
    | ⟨0, _⟩ => exact hp
    | ⟨1, _⟩ => rfl
  rw [el, er]
  refine congrArg₂ (fun a b : EReal => a * b) ?_ rfl
  refine (shapeCast_apply _ _ _ (ix4 (0 : Fin 1) i (⟨p.val / 128, by omega⟩ : Fin 64) (⟨p.val % 128, by omega⟩ : Fin 128)) (by
      rw [Shape.rowMajor_val_three, Shape.rowMajor_val_four]
      show ((0 * 2048 + i.val) * 64 + p.val / 128) * 128 + p.val % 128 = (0 * 2048 + i.val) * 8192 + p.val
      omega)).trans ?_
  exact transpose_apply _ A _ _ _ fun c => match c with | ⟨0, _⟩ => rfl | ⟨1, _⟩ => rfl | ⟨2, _⟩ => rfl | ⟨3, _⟩ => rfl

/-! ## The whole -/

/-- The argument arrays' elements. -/
def data (m : (ℓ : Loc nD τ sig) → Buf (Elt Ideal) ℓ) (c : Dev nD) : Data where
  x i p := (m ((c.tc : Thread nD τ).loc main_arg0) : FVec Ideal S1x2048x1024 .bf16) (ix3 (0 : Fin 1) i p)
  wq p n := (m ((c.tc : Thread nD τ).loc main_arg1) : FVec Ideal S1024x8192 .bf16) (ix2 p n)
  k j h d := (m ((c.tc : Thread nD τ).loc main_arg2) : FVec Ideal S1x2048x64x128 .bf16) (ix4 (0 : Fin 1) j h d)
  v j h d := (m ((c.tc : Thread nD τ).loc main_arg3) : FVec Ideal S1x2048x64x128 .bf16) (ix4 (0 : Fin 1) j h d)
  wo n e := (m ((c.tc : Thread nD τ).loc main_arg4) : FVec Ideal S8192x1024 .bf16) (ix2 n e)

/-- **The reference's result at an index** is the attention output of its arguments' elements. -/
theorem result_apply (m : (ℓ : Loc nD τ sig) → Buf (Elt Ideal) ℓ) (c : Dev nD) (i : Fin 2048) (e : Fin 1024) :
    (res_main_v38 (F := Ideal) m c : FVec Ideal S1x2048x1024 .f32) (ix3 (0 : Fin 1) i e) = output (data m c) i e := by
  have hs : ∀ (i : Fin 2048) (h : Fin 64), (fun j : Fin 2048 =>
      scores (queries (m ((c.tc : Thread nD τ).loc main_arg0)) (m ((c.tc : Thread nD τ).loc main_arg1)))
        (m ((c.tc : Thread nD τ).loc main_arg2)) (ix4 (0 : Fin 1) h i j)) = score (data m c) i h := fun i h => funext fun j => by
    rw [scores_apply]
    simp only [queries_apply]
    rfl
  refine (congrFun (result_eq m c) _).trans ((outputs_apply _ _ i e).trans ?_)
  refine Finset.sum_congr rfl fun n _ => congrArg₂ (fun a b : EReal => a * b) ?_ rfl
  rw [averages_apply]
  refine Finset.sum_congr rfl fun j _ => congrArg₂ (fun a b : EReal => a * b) rfl ?_
  rw [weights_apply]
  simp only [exps_apply, hs]
  rfl

end Cert.ReferenceIdeal.Value
-- ==== Proof.ValueHost.lean ====
/-
  The lines of host operations around the kernel's launch, read at an index: what each device's operands are of the
  arguments, what its result is of the output the launch leaves, and what the precondition says of the arguments.
-/
module

public import proofs.«01_k».proof.Proof.ValueResult
public import proofs.«01_k».proof.Proof.ValueReference
public import proofs.«01_k».proof.Proof.LaunchKernelIdeal
public import Idealize.ShloMosaic.Lib.Claim
public import Idealize.ShloMosaic.Lib.StableHlo.RunRead
public import Idealize.ShloMosaic.Lib.DynamicIndex
public import Idealize.ShloMosaic.Lib.ReduceAll
public import Idealize.ShloMosaic.Lib.Layout
public import proofs.«01_k».proof.Pre_finite_scores_KernelIdeal

@[expose] public section

set_option maxRecDepth 65536

noncomputable section

namespace Cert.KernelIdeal.Gen.Fused

open Cert.KernelIdeal Cert.KernelIdeal.Gen Idealize.ShloMosaic Idealize.ShloMosaic.TcCoe Idealize.ShloMosaic.StableHlo
open Idealize.ShloMosaic.ValueIdx
open Cert.Attend

variable (m : (ℓ : Loc nD τ sig) → Buf (Elt Ideal) ℓ)

/-- A device's eight heads lie among the 64. -/
theorem slices_heads (c : Dev nD) : S2048x64x128.Slices ![0, 8 * c.val, 0] S2048x8x128 := by
  revert c
  decide

/-- The activations a device starts from are its argument's, the unit axis dropped. -/
theorem V1_rows (c : Dev nD) : V1 m c main_v5 = shapeCast S2048x1024 (m ((c : Thread nD τ).loc main_arg0)) shapeCasts_S1x2048x1024_S2048x1024 := by
  unfold_abbrev_sides
  after_results
  rfl

/-- A device's first head, as the programs compute it: it is eight times the device's number. -/
theorem firstHead_toInt (c : Dev nD) :
    BitVec.toInt (Scalar.select (IntOp.cmpi .slt (IntOp.muli (IntOp.remui .host (IntOp.divui .host c.word 1#32) 8#32) 8#32) 0#32)
      (IntOp.addi (IntOp.muli (IntOp.remui .host (IntOp.divui .host c.word 1#32) 8#32) 8#32) 64#32)
      (IntOp.muli (IntOp.remui .host (IntOp.divui .host c.word 1#32) 8#32) 8#32)) = ((8 * c.val : Nat) : Int) := by
  revert c
  decide

/-- The word a device's slices start at, as the programs compute it on arrays of one word. -/
abbrev startWord (c : Dev nD) : IVec S_ 32 :=
  select (cmpi .slt (muli (Host.remui (Host.divui (constantI S_ 32 c.word) (constantI S_ 32 1#32)) (constantI S_ 32 8#32)) (constantI S_ 32 8#32)) (constantI S_ 32 0#32))
    (addi (muli (Host.remui (Host.divui (constantI S_ 32 c.word) (constantI S_ 32 1#32)) (constantI S_ 32 8#32)) (constantI S_ 32 8#32)) (constantI S_ 32 64#32))
    (muli (Host.remui (Host.divui (constantI S_ 32 c.word) (constantI S_ 32 1#32)) (constantI S_ 32 8#32)) (constantI S_ 32 8#32))

/-! The keys' slice starts at zero, at the device's first head, and at zero. -/

/-- The first axis of the keys' slice starts at zero, -/
theorem keys_start0 (c : Dev nD) : upto (hostOps0 c) (V0 m c) 17 (Proc.tc.devRef main_c_4) = constantI S_ 32 0#32 := by
  after_reads_simp

/-- the second at the device's first head, -/
theorem keys_start1 (c : Dev nD) : upto (hostOps0 c) (V0 m c) 17 (Proc.tc.devRef main_v10) = startWord c := by
  after_reads_simp
  rfl

/-- and the third at zero. -/
theorem keys_start2 (c : Dev nD) : upto (hostOps0 c) (V0 m c) 17 (Proc.tc.devRef main_c_5) = constantI S_ 32 0#32 := by
  after_reads_simp

/-! The values' slice starts there too. -/

/-- The first axis of the values' slice starts at zero, -/
theorem values_start0 (c : Dev nD) : upto (hostOps0 c) (V0 m c) 29 (Proc.tc.devRef main_c_9) = constantI S_ 32 0#32 := by
  after_reads_simp

/-- the second at the device's first head, -/
theorem values_start1 (c : Dev nD) : upto (hostOps0 c) (V0 m c) 29 (Proc.tc.devRef main_v17) = startWord c := by
  after_reads_simp
  rfl

/-- and the third at zero. -/
theorem values_start2 (c : Dev nD) : upto (hostOps0 c) (V0 m c) 29 (Proc.tc.devRef main_c_10) = constantI S_ 32 0#32 := by
  after_reads_simp

/-- The start of a device's slice, an axis at a time. -/
theorem start_of (c : Dev nD) (B : Fin 3 → IVec S_ 32) (h0 : B 0 = constantI S_ 32 0#32) (h1 : B 1 = startWord c)
    (h2 : B 2 = constantI S_ 32 0#32) (a : Fin 3) :
    BitVec.toInt (B a (Shape.Idx.first h_S_)) = (((![0, 8 * c.val, 0] : Fin 3 → Nat) a : Nat) : Int) := by
  match a with
  | 0 => rw [h0]; rfl
  | 1 => rw [h1]; exact firstHead_toInt c
  | 2 => rw [h2]; rfl

/-- The keys a device starts from are its eight heads of its argument's, the heads' columns side by side. -/
theorem V1_keys (c : Dev nD) : V1 m c main_v12 = shapeCast S2048x1024 (extractStridedSlice S2048x8x128 ![0, 8 * c.val, 0]
    (shapeCast S2048x64x128 (m ((c : Thread nD τ).loc main_arg2)) shapeCasts_S1x2048x64x128_S2048x64x128) (slices_heads c)) shapeCasts_S2048x8x128_S2048x1024 := by
  unfold_abbrev_sides
  after_reads_simp
  rw [Host.dynamicSlice_eq_extractStridedSlice _ _ _ ![0, 8 * c.val, 0] _ (slices_heads c)
    (start_of c (fun k => cast _ (upto (hostOps0 c) (V0 m c) 17 (Proc.tc.devRef (![main_c_4, main_v10, main_c_5] k))))
      (keys_start0 m c) (keys_start1 m c) (keys_start2 m c))]
  rfl

/-- The values a device starts from are its eight heads of its argument's, the heads' columns side by side. -/
theorem V1_values (c : Dev nD) : V1 m c main_v19 = shapeCast S2048x1024 (extractStridedSlice S2048x8x128 ![0, 8 * c.val, 0]
    (shapeCast S2048x64x128 (m ((c : Thread nD τ).loc main_arg3)) shapeCasts_S1x2048x64x128_S2048x64x128) (slices_heads c)) shapeCasts_S2048x8x128_S2048x1024 := by
  unfold_abbrev_sides
  after_reads_simp
  rw [Host.dynamicSlice_eq_extractStridedSlice _ _ _ ![0, 8 * c.val, 0] _ (slices_heads c)
    (start_of c (fun k => cast _ (upto (hostOps0 c) (V0 m c) 29 (Proc.tc.devRef (![main_c_9, main_v17, main_c_10] k))))
      (values_start0 m c) (values_start1 m c) (values_start2 m c))]
  rfl

/-- The result is the output the launch leaves, under a unit axis. -/
theorem V3_result (c : Dev nD) : V3 m (outs m) c main_v21
    = broadcastInDim S1x2048x1024 ![1, 2] bcast_S2048x1024_S1x2048x1024_1_2 (OUT (ins m)) := by
  rw [← W2_out m c]
  unfold_abbrev_sides
  after_reads_simp

/-! ## The operands at an index -/

/-- Dropping the activations' unit axis keeps their elements. -/
theorem rows_apply {α : Type} (X : S1x2048x1024.Idx → α) (i : Fin 2048) (p : Fin 1024) :
    shapeCast S2048x1024 X shapeCasts_S1x2048x1024_S2048x1024 (ix2 i p) = X (ix3 (0 : Fin 1) i p) :=
  shapeCast_apply _ _ _ _ (by
    rw [Shape.rowMajor_val_two, Shape.rowMajor_val_three]
    show (0 * 2048 + i.val) * 1024 + p.val = i.val * 1024 + p.val
    omega)

/-- A device's eight heads side by side: column `n` is head `n / 128` of the eight, entry `n % 128`. -/
theorem heads_apply {α : Type} (X : S1x2048x64x128.Idx → α) (c : Dev nD) (j : Fin 2048) (n : Fin 1024) :
    shapeCast S2048x1024 (extractStridedSlice S2048x8x128 ![0, 8 * c.val, 0]
      (shapeCast S2048x64x128 X shapeCasts_S1x2048x64x128_S2048x64x128) (slices_heads c)) shapeCasts_S2048x8x128_S2048x1024 (ix2 j n)
      = X (ix4 (0 : Fin 1) j (headAt c (headIn n)) (offIn n)) := by
  refine (shapeCast_apply _ _ _ (ix3 j (headIn n) (offIn n)) (by
    rw [Shape.rowMajor_val_two, Shape.rowMajor_val_three]
    show (j.val * 8 + n.val / 128) * 128 + n.val % 128 = j.val * 1024 + n.val
    omega)).trans ?_
  refine (extractStridedSlice_apply _ _ _ _ (ix3 j (headAt c (headIn n)) (offIn n)) (fun a => match a with
    | ⟨0, _⟩ => (Nat.zero_add _).symm
    | ⟨1, _⟩ => rfl
    | ⟨2, _⟩ => (Nat.zero_add _).symm)).trans ?_
  exact shapeCast_apply _ _ _ _ (by
    rw [Shape.rowMajor_val_three, Shape.rowMajor_val_four]
    show ((0 * 2048 + j.val) * 64 + (8 * c.val + n.val / 128)) * 128 + n.val % 128
      = (j.val * 64 + (8 * c.val + n.val / 128)) * 128 + n.val % 128
    omega)

/-- A device's block of the query projection holds its columns. -/
theorem block_cols {α : Type} (W : (⟨2, ![1024, 8192]⟩ : Shape).Idx → α) (c : Dev nD) (p n : Fin 1024) :
    Layout.block ⟨2, ![1024, 1024]⟩ ⟨2, ![1024, 8192]⟩ 1 8 c W (by decide) (ix2 p n) = W (ix2 p (colAt c n)) :=
  congrArg W (funext fun a => Fin.ext (match a with
    | ⟨0, _⟩ => rfl
    | ⟨1, _⟩ => by show c.val * 1024 + n.val = 1024 * c.val + n.val; omega))

/-- A device's block of the output projection holds its rows. -/
theorem block_rows {α : Type} (W : (⟨2, ![8192, 1024]⟩ : Shape).Idx → α) (c : Dev nD) (n e : Fin 1024) :
    Layout.block ⟨2, ![1024, 1024]⟩ ⟨2, ![8192, 1024]⟩ 0 8 c W (by decide) (ix2 n e) = W (ix2 (colAt c n) e) :=
  congrArg W (funext fun a => Fin.ext (match a with
    | ⟨0, _⟩ => by show c.val * 1024 + n.val = 1024 * c.val + n.val; omega
    | ⟨1, _⟩ => rfl))

/-- The reference's memory. -/
abbrev RefMem : Type := (ℓ : Loc Cert.ReferenceIdeal.nD Cert.ReferenceIdeal.τ Cert.ReferenceIdeal.sig) → Buf (Elt Ideal) ℓ

/-- Where the reference keeps a buffer. -/
abbrev refLoc (r : Ref Cert.ReferenceIdeal.sig .tc) : Loc Cert.ReferenceIdeal.nD Cert.ReferenceIdeal.τ Cert.ReferenceIdeal.sig :=
  ((0 : Dev Cert.ReferenceIdeal.nD).tc : Thread Cert.ReferenceIdeal.nD Cert.ReferenceIdeal.τ).loc r

variable (m' : RefMem)

/-- The two programs start from the same arrays: the two projections cut over the devices, the rest whole on each. -/
structure Same : Prop where
  x : ∀ c : Dev nD, m ((c.tc : Thread nD τ).loc main_arg0) = m' (refLoc Cert.ReferenceIdeal.main_arg0)
  wq : ∀ c : Dev nD, m ((c.tc : Thread nD τ).loc main_arg1)
    = Layout.block ⟨2, ![1024, 1024]⟩ ⟨2, ![1024, 8192]⟩ 1 8 c (m' (refLoc Cert.ReferenceIdeal.main_arg1))
  k : ∀ c : Dev nD, m ((c.tc : Thread nD τ).loc main_arg2) = m' (refLoc Cert.ReferenceIdeal.main_arg2)
  v : ∀ c : Dev nD, m ((c.tc : Thread nD τ).loc main_arg3) = m' (refLoc Cert.ReferenceIdeal.main_arg3)
  wo : ∀ c : Dev nD, m ((c.tc : Thread nD τ).loc main_arg4)
    = Layout.block ⟨2, ![1024, 1024]⟩ ⟨2, ![8192, 1024]⟩ 0 8 c (m' (refLoc Cert.ReferenceIdeal.main_arg4))

variable {m m'}

/-- **The launch's operands are the devices' shares of the reference's arguments.** -/
theorem shares (h : Same m m') : Shares (ins m) (Cert.ReferenceIdeal.Value.data m' 0) where
  x c i p := (congrFun (V1_rows m c) (ix2 i p)).trans ((rows_apply _ i p).trans (congrFun (h.x c) (ix3 (0 : Fin 1) i p)))
  wq c p n := (congrFun (V1_of m c main_arg1 (by decide)) (ix2 p n)).trans ((congrFun (h.wq c) (ix2 p n)).trans (block_cols _ c p n))
  k c j n := (congrFun (V1_keys m c) (ix2 j n)).trans ((heads_apply _ c j n).trans (congrFun (h.k c) (ix4 (0 : Fin 1) j (headAt c (headIn n)) (offIn n))))
  v c j n := (congrFun (V1_values m c) (ix2 j n)).trans ((heads_apply _ c j n).trans (congrFun (h.v c) (ix4 (0 : Fin 1) j (headAt c (headIn n)) (offIn n))))
  wo c n e := (congrFun (V1_of m c main_arg4 (by decide)) (ix2 n e)).trans ((congrFun (h.wo c) (ix2 n e)).trans (block_rows _ c n e))

/-! ## The precondition -/

/-- An element below infinity in absolute value is a real number. -/
theorem fine_of_olt (x : Ideal .bf16)
    (h : FloatOps.cmpf .olt (FloatOps.hostAbsf x) (FloatOps.ofBits (F := Ideal) .bf16 0x7F80#16) = 1#1) : Fine x := by
  have htop : Ideal.ofBits .bf16 0x7F80#16 = ⊤ := by simp [Ideal.ofBits, Ideal.ieee]
  have hb : BitVec.ofBool (decide (max (x : EReal) (-(x : EReal)) < Ideal.ofBits .bf16 0x7F80#16)) = 1#1 := h
  rw [htop] at hb
  have hlt : max (x : EReal) (-(x : EReal)) < ⊤ := by
    by_contra hn
    rw [decide_eq_false hn] at hb
    exact absurd hb (by decide)
  rw [max_lt_iff] at hlt
  refine fine_of_ne hlt.1.ne fun he => ?_
  subst he
  exact absurd hlt.2 (by simp)

/-- An array whose elements are all below infinity in absolute value holds real numbers. -/
theorem fine_of_all {s t u : Shape} [Subsingleton t.Idx] {axes : List (Fin s.rank)} (X : FVec Ideal s .bf16) (B : FVec Ideal s .bf16)
    (hB : ∀ i, B i = FloatOps.ofBits (F := Ideal) .bf16 0x7F80#16) (init : u.Idx → BitVec 1) (h : s.ReducesTo axes t) (hu : 0 < u.numel)
    (j : t.Idx) (e : Host.reduce IntOp.andi (cmpf .olt (Host.absf X) B) init h hu j = 1#1) (i : s.Idx) : Fine (X i) := by
  have h1 : FloatOps.cmpf .olt (FloatOps.hostAbsf (X i)) (B i) = 1#1 := Host.reduce_andi_all _ init h hu j e i
  rw [hB i] at h1
  exact fine_of_olt _ h1

instance : Subsingleton Cert.Pre_finite_scores_KernelIdeal.S_.Idx := ⟨fun a b => funext fun k => k.elim0⟩

/-- The precondition on a device's arguments: its activations, its query projection and its keys hold real numbers. -/
theorem pre_fine [Cert.Pre_finite_scores_KernelIdeal.Facts] (X : FVec Ideal S1x2048x1024 .bf16) (Wq : FVec Ideal S1024x1024 .bf16)
    (K V : FVec Ideal S1x2048x64x128 .bf16) (Wo : FVec Ideal S1024x1024 .bf16)
    (h : Cert.Pre_finite_scores_KernelIdeal.fn (F := Ideal) X Wq K V Wo = fun _ => 1#1) :
    (∀ i, Fine (X i)) ∧ (∀ i, Fine (Wq i)) ∧ (∀ i, Fine (K i)) := by
  have h0 := congrFun h (fun k => k.elim0)
  obtain ⟨h1, hk⟩ := IntOp.andi_eq_one.1 h0
  obtain ⟨hx, hw⟩ := IntOp.andi_eq_one.1 h1
  exact ⟨fine_of_all X _ (fun _ => rfl) _ _ _ _ hx, fine_of_all Wq _ (fun _ => rfl) _ _ _ _ hw, fine_of_all K _ (fun _ => rfl) _ _ _ _ hk⟩

/-- Every column of the query projection is some device's. -/
theorem colAt_surj (n : Fin 8192) : ∃ (c : Dev nD) (l : Fin 1024), colAt c l = n :=
  ⟨(⟨n.val / 1024, by omega⟩ : Fin 8), ⟨n.val % 1024, by omega⟩, Fin.ext (by show 1024 * (n.val / 1024) + n.val % 1024 = n.val; omega)⟩

/-- **Under the precondition the reference's activations, query projection and keys are real numbers.** -/
theorem finite [Cert.Pre_finite_scores_KernelIdeal.Facts] (h : Same m m')
    (hp : ∀ c : Dev nD, Cert.Pre_finite_scores_KernelIdeal.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) = fun _ => 1#1) : (Cert.ReferenceIdeal.Value.data m' 0).Finite where
  x i p := by
    have e := (pre_fine _ _ _ _ _ (hp (0 : Fin 8))).1 (ix3 (0 : Fin 1) i p)
    rw [h.x] at e
    exact e
  wq p n := by
    obtain ⟨c, l, rfl⟩ := colAt_surj n
    have e := (pre_fine _ _ _ _ _ (hp c)).2.1 (ix2 p l)
    rw [h.wq] at e
    exact (congrArg Fine (block_cols _ c p l)).mp e
  k j a d := by
    have e := (pre_fine _ _ _ _ _ (hp (0 : Fin 8))).2.2 (ix4 (0 : Fin 1) j a d)
    rw [h.k] at e
    exact e

/-! ## The result -/

/-- **Every device's result is the reference's.** -/
theorem result_eq (h : Same m m') (hD : (Cert.ReferenceIdeal.Value.data m' 0).Finite) (c : Dev nD) :
    V3 m (outs m) c main_v21 = Cert.ReferenceIdeal.Value.res_main_v38 (F := Ideal) m' 0 := by
  rw [V3_result m c]
  funext j
  obtain ⟨a, i, e, rfl⟩ : ∃ (a : Fin 1) (i : Fin 2048) (e : Fin 1024), j = ix3 a i e := ⟨_, _, _, eq_ix3 j⟩
  obtain rfl : a = 0 := Subsingleton.elim _ _
  refine (broadcastInDim_apply _ _ _ _ (ix2 i e) (fun b => match b with | ⟨0, _⟩ => rfl | ⟨1, _⟩ => rfl)).trans ?_
  exact (OUT_apply (shares h) hD i e).trans (Cert.ReferenceIdeal.Value.result_apply m' 0 i e).symm

end Cert.KernelIdeal.Gen.Fused
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.LaunchKernelIdeal
public import proofs.«01_k».proof.Proof.LaunchKernel
public import proofs.«01_k».proof.Proof.ValueHost
public import Idealize.ShloMosaic.Adequacy
public import Idealize.ShloMosaic.Init

@[expose] public section

noncomputable section

namespace Cert.Proof
open Idealize.ShloMosaic Idealize.SL.Sem

/-- The kernel at machine words runs, leaves its arguments and ends with every counter at zero: its run, the values dropped. -/
theorem frame_kernel : Cert.quiescent_Kernel (hKernel := Cert.Kernel.Gen.facts) := fun m g _ =>
  (θ_run Cert.Kernel.defs _ _).mono (fun _ h => ⟨fun c => let e := h.1 c; ⟨e.1, e.2.1, e.2.2.1, e.2.2.2.1, e.2.2.2.2.1⟩, h.2⟩) (Cert.Kernel.Gen.Fused.run_main m g)

/-- The same of the kernel over the extended reals. -/
theorem frame_ideal : Cert.quiescent_KernelIdeal (hKernelIdeal := Cert.KernelIdeal.Gen.facts) := fun m g _ =>
  (θ_run Cert.KernelIdeal.defs _ _).mono (fun _ h => ⟨fun c => let e := h.1 c; ⟨e.1, e.2.1, e.2.2.1, e.2.2.2.1, e.2.2.2.2.1⟩, h.2⟩) (Cert.KernelIdeal.Gen.Fused.run_main m g)

/-- The reference runs and leaves its arguments; it declares no semaphore, so every counter is zero. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run m g)

/-- The one rewrite of the ideal program: the mask's literal is named, and the name stands for minus infinity. -/
theorem mask_named : Cert.preserves_Kernel_KernelIdeal :=
  IdealRules.named_const.statement Cert.KernelIdeal.κ "mask" .f32 0xCE6E6B28#32 ⊥ rfl

/-- The precondition's shape relations, at the kernel's shapes. -/
theorem pre_facts : Cert.Pre_finite_scores_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x64x128 := by decide
  reducesTo_S1x2048x64x128_S_d0_1_2_3 := by decide

/-- The same at the reference's shapes. -/
theorem pre_facts_reference : Cert.Pre_finite_scores_ReferenceIdeal.Facts where
  bcast_S_S1x2048x1024 := by decide
  reducesTo_S1x2048x1024_S_d0_1_2 := by decide
  h_S_ := by decide
  bcast_S_S1024x8192 := by decide
  reducesTo_S1024x8192_S_d0_1 := by decide
  bcast_S_S1x2048x64x128 := by decide
  reducesTo_S1x2048x64x128_S_d0_1_2_3 := by decide

/-- **The kernel and the reference compute the same function over the extended reals**: from arguments that the devices
    share, every device's result is the reference's, when the activations, the query projection and the keys are finite. -/
theorem values_equal : Cert.algebraic_KernelIdeal_ReferenceIdeal_pre_finite_scores_KernelIdeal
    (hKernelIdeal := Cert.KernelIdeal.Gen.facts) (hReferenceIdeal := Cert.ReferenceIdeal.Gen.facts)
    (hPre_finite_scores_KernelIdeal := pre_facts) := fun m g m' g' hp h => by
  have hs : Cert.KernelIdeal.Gen.Fused.Same m m' :=
    ⟨fun c => (h c).1, fun c => (h c).2.1, fun c => (h c).2.2.1, fun c => (h c).2.2.2.1, fun c => (h c).2.2.2.2⟩
  have hf := @Cert.KernelIdeal.Gen.Fused.finite m m' pre_facts hs hp
  refine ⟨Cert.ReferenceIdeal.Value.res_main_v38 (F := Ideal) m' 0, ?_, ?_⟩
  · refine (θ_run Cert.KernelIdeal.defs _ _).mono (fun r e c => ?_) (Cert.KernelIdeal.Gen.Fused.run_main m g)
    have k := e.1 c
    exact ⟨k.2.2.2.2.2.trans (Cert.KernelIdeal.Gen.Fused.result_eq hs hf c), k.1, k.2.1, k.2.2.1, k.2.2.2.1, k.2.2.2.2.1⟩
  · exact (θ_run Cert.ReferenceIdeal.defs _ _).mono (fun r e => e 0) (Cert.ReferenceIdeal.Value.run m' g')

/-- Everything that is claimed; a frame under the precondition is the frame without it. -/
theorem claim : Cert.Claim :=
  ⟨Cert.Kernel.Gen.facts, Cert.KernelIdeal.Gen.facts, Cert.ReferenceIdeal.Gen.facts, pre_facts, pre_facts_reference,
    frame_kernel, frame_ideal, fun m g _ => frame_ideal m g trivial, frame_reference, fun m g _ => frame_reference m g trivial,
    mask_named, values_equal⟩

end Cert.Proof
